-- ==== Defs.lean ====
def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v96) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernelIdeal : Cert.KernelIdeal.Facts) (hReferenceIdeal : Cert.ReferenceIdeal.Facts),
    quiescent_KernelIdeal (hKernelIdeal := hKernelIdeal)
    ∧ quiescent_ReferenceIdeal (hReferenceIdeal := hReferenceIdeal)
    ∧ algebraic_KernelIdeal_ReferenceIdeal (hKernelIdeal := hKernelIdeal) (hReferenceIdeal := hReferenceIdeal)
-- ==== KernelIdeal.lean ====
abbrev S32x84x8400 : Shape := ⟨3, ![32, 84, 8400]⟩
abbrev S32x1x8400 : Shape := ⟨3, ![32, 1, 8400]⟩
abbrev S32x4x8400 : Shape := ⟨3, ![32, 4, 8400]⟩
abbrev S1x84x8400 : Shape := ⟨3, ![1, 84, 8400]⟩
abbrev S1x1x8400 : Shape := ⟨3, ![1, 1, 8400]⟩
abbrev S1x4x8400 : Shape := ⟨3, ![1, 4, 8400]⟩
abbrev S84x8400 : Shape := ⟨2, ![84, 8400]⟩
abbrev S76x8400 : Shape := ⟨2, ![76, 8400]⟩
abbrev S8400 : Shape := ⟨1, ![8400]⟩
abbrev S1x8400 : Shape := ⟨2, ![1, 8400]⟩
abbrev S4x8400 : Shape := ⟨2, ![4, 8400]⟩
abbrev S32x8400 : Shape := ⟨2, ![32, 8400]⟩
abbrev S32x84x100 : Shape := ⟨3, ![32, 84, 100]⟩
abbrev S_ : Shape := ⟨0, ![]⟩
abbrev S32x84 : Shape := ⟨2, ![32, 84]⟩
abbrev S32x1000 : Shape := ⟨2, ![32, 1000]⟩
abbrev S32x84x16 : Shape := ⟨3, ![32, 84, 16]⟩
abbrev S84 : Shape := ⟨1, ![84]⟩
abbrev S1x84x1 : Shape := ⟨3, ![1, 84, 1]⟩
abbrev S32x1344 : Shape := ⟨2, ![32, 1344]⟩
abbrev S32x1024 : Shape := ⟨2, ![32, 1024]⟩
abbrev S32x1x1024 : Shape := ⟨3, ![32, 1, 1024]⟩
abbrev S32x8x1024 : Shape := ⟨3, ![32, 8, 1024]⟩
abbrev S1x1x1024 : Shape := ⟨3, ![1, 1, 1024]⟩
abbrev S1x8x1024 : Shape := ⟨3, ![1, 8, 1024]⟩
abbrev S8x1024 : Shape := ⟨2, ![8, 1024]⟩
abbrev S1024x1024 : Shape := ⟨2, ![1024, 1024]⟩
abbrev S1x1024 : Shape := ⟨2, ![1, 1024]⟩
abbrev S1 : Shape := ⟨1, ![1]⟩
abbrev S1x1x1 : Shape := ⟨3, ![1, 1, 1]⟩
abbrev S1x128 : Shape := ⟨2, ![1, 128]⟩
abbrev S4x128 : Shape := ⟨2, ![4, 128]⟩
abbrev S1024x128 : Shape := ⟨2, ![1024, 128]⟩
abbrev S4x1024 : Shape := ⟨2, ![4, 1024]⟩
abbrev S208x128 : Shape := ⟨2, ![208, 128]⟩
abbrev S4x208 : Shape := ⟨2, ![4, 208]⟩
abbrev S8x128 : Shape := ⟨2, ![8, 128]⟩
abbrev S1024x1 : Shape := ⟨2, ![1024, 1]⟩
abbrev S128x1 : Shape := ⟨2, ![128, 1]⟩
abbrev S128x1024 : Shape := ⟨2, ![128, 1024]⟩
abbrev S32x1024x8 : Shape := ⟨3, ![32, 1024, 8]⟩
abbrev S32x1000x6 : Shape := ⟨3, ![32, 1000, 6]⟩

abbrev nBuf : Space → Nat
  | .hbm => 48
  | .vmem => 17
  | .smem => 0
  | _ => 0

abbrev bufTy : (tb : Table) → Fin (tcTables nBuf tb) → BufTy
  | .hbm, ⟨0, _⟩ => ⟨S32x84x8400, .f32⟩
  | .hbm, ⟨1, _⟩ => ⟨S32x1x8400, .f32⟩
  | .hbm, ⟨2, _⟩ => ⟨S32x4x8400, .f32⟩
  | .hbm, ⟨3, _⟩ => ⟨S32x8400, .f32⟩
  | .hbm, ⟨4, _⟩ => ⟨S32x84x100, .f32⟩
  | .hbm, ⟨5, _⟩ => ⟨S_, .f32⟩
  | .hbm, ⟨6, _⟩ => ⟨S32x84x100, .f32⟩
  | .hbm, ⟨7, _⟩ => ⟨S32x84x100, .i1⟩
  | .hbm, ⟨8, _⟩ => ⟨S32x84x100, .i32⟩
  | .hbm, ⟨9, _⟩ => ⟨S_, .i32⟩
  | .hbm, ⟨10, _⟩ => ⟨S32x84, .i32⟩
  | .hbm, ⟨11, _⟩ => ⟨S_, .i32⟩
  | .hbm, ⟨12, _⟩ => ⟨S_, .i32⟩
  | .hbm, ⟨13, _⟩ => ⟨S_, .i32⟩
  | .hbm, ⟨14, _⟩ => ⟨S_, .i1⟩
  | .hbm, ⟨15, _⟩ => ⟨S_, .i32⟩
  | .hbm, ⟨16, _⟩ => ⟨S32x1000, .f32⟩
  | .hbm, ⟨17, _⟩ => ⟨S32x1000, .i32⟩
  | .hbm, ⟨18, _⟩ => ⟨S32x1000, .f32⟩
  | .hbm, ⟨19, _⟩ => ⟨S32x1000, .i32⟩
  | .hbm, ⟨20, _⟩ => ⟨S32x84x16, .f32⟩
  | .hbm, ⟨21, _⟩ => ⟨S32x84x16, .i32⟩
  | .hbm, ⟨22, _⟩ => ⟨S84, .i32⟩
  | .hbm, ⟨23, _⟩ => ⟨S1x84x1, .i32⟩
  | .hbm, ⟨24, _⟩ => ⟨S_, .i32⟩
  | .hbm, ⟨25, _⟩ => ⟨S1x84x1, .i32⟩
  | .hbm, ⟨26, _⟩ => ⟨S1x84x1, .i32⟩
  | .hbm, ⟨27, _⟩ => ⟨S32x84x16, .i32⟩
  | .hbm, ⟨28, _⟩ => ⟨S32x84x16, .i32⟩
  | .hbm, ⟨29, _⟩ => ⟨S32x1344, .f32⟩
  | .hbm, ⟨30, _⟩ => ⟨S32x1344, .f32⟩
  | .hbm, ⟨31, _⟩ => ⟨S32x1344, .i32⟩
  | .hbm, ⟨32, _⟩ => ⟨S32x1344, .f32⟩
  | .hbm, ⟨33, _⟩ => ⟨S32x1344, .i32⟩
  | .hbm, ⟨34, _⟩ => ⟨S32x1000, .f32⟩
  | .hbm, ⟨35, _⟩ => ⟨S32x1000, .f32⟩
  | .hbm, ⟨36, _⟩ => ⟨S32x1000, .i32⟩
  | .hbm, ⟨37, _⟩ => ⟨S_, .i32⟩
  | .hbm, ⟨38, _⟩ => ⟨S_, .i32⟩
  | .hbm, ⟨39, _⟩ => ⟨S32x1024, .i32⟩
  | .hbm, ⟨40, _⟩ => ⟨S32x1x1024, .i32⟩
  | .hbm, ⟨41, _⟩ => ⟨S_, .f32⟩
  | .hbm, ⟨42, _⟩ => ⟨S_, .f32⟩
  | .hbm, ⟨43, _⟩ => ⟨S32x1024, .f32⟩
  | .hbm, ⟨44, _⟩ => ⟨S32x1x1024, .f32⟩
  | .hbm, ⟨45, _⟩ => ⟨S32x8x1024, .f32⟩
  | .hbm, ⟨46, _⟩ => ⟨S32x1024x8, .f32⟩
  | .hbm, ⟨47, _⟩ => ⟨S32x1000x6, .f32⟩
  | .local _ .vmem, ⟨0, _⟩ => ⟨S1x84x8400, .f32⟩
  | .local _ .vmem, ⟨1, _⟩ => ⟨S1x84x8400, .f32⟩
  | .local _ .vmem, ⟨2, _⟩ => ⟨S1x1x8400, .f32⟩
  | .local _ .vmem, ⟨3, _⟩ => ⟨S1x1x8400, .f32⟩
  | .local _ .vmem, ⟨4, _⟩ => ⟨S1x4x8400, .f32⟩
  | .local _ .vmem, ⟨5, _⟩ => ⟨S1x4x8400, .f32⟩
  | .local _ .vmem, ⟨6, _⟩ => ⟨S1x4x8400, .f32⟩
  | .local _ .vmem, ⟨7, _⟩ => ⟨S1x4x8400, .f32⟩
  | .local _ .vmem, ⟨8, _⟩ => ⟨S1x1x1024, .i32⟩
  | .local _ .vmem, ⟨9, _⟩ => ⟨S1x1x1024, .i32⟩
  | .local _ .vmem, ⟨10, _⟩ => ⟨S1x1x1024, .f32⟩
  | .local _ .vmem, ⟨11, _⟩ => ⟨S1x1x1024, .f32⟩
  | .local _ .vmem, ⟨12, _⟩ => ⟨S1x8x1024, .f32⟩
  | .local _ .vmem, ⟨13, _⟩ => ⟨S1x8x1024, .f32⟩
  | .local _ .vmem, ⟨14, _⟩ => ⟨S8x1024, .f32⟩
  | .local _ .vmem, ⟨15, _⟩ => ⟨S1024x1024, .f32⟩
  | .local _ .vmem, ⟨16, _⟩ => ⟨S1x1024, .f32⟩
  | _, _ => ⟨S32x84x8400, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_v0_0 : Ref sig .tc := ⟨.hbm, 1, rfl⟩
abbrev main_v0_1 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_c : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_c_1 : Ref sig .tc := ⟨.hbm, 13, rfl⟩
abbrev main_v8 : Ref sig .tc := ⟨.hbm, 14, rfl⟩
abbrev main_v9 : Ref sig .tc := ⟨.hbm, 15, rfl⟩
abbrev main_v10_0 : Ref sig .tc := ⟨.hbm, 16, rfl⟩
abbrev main_v10_1 : Ref sig .tc := ⟨.hbm, 17, rfl⟩
abbrev main_case0b0_values : Ref sig .tc := ⟨.hbm, 18, rfl⟩
abbrev main_case0b0_indices : Ref sig .tc := ⟨.hbm, 19, rfl⟩
abbrev main_case0b1_values : Ref sig .tc := ⟨.hbm, 20, rfl⟩
abbrev main_case0b1_indices : Ref sig .tc := ⟨.hbm, 21, rfl⟩
abbrev main_case0b1_v18 : Ref sig .tc := ⟨.hbm, 22, rfl⟩
abbrev main_case0b1_v19 : Ref sig .tc := ⟨.hbm, 23, rfl⟩
abbrev main_case0b1_c_4 : Ref sig .tc := ⟨.hbm, 24, rfl⟩
abbrev main_case0b1_v20 : Ref sig .tc := ⟨.hbm, 25, rfl⟩
abbrev main_case0b1_v21 : Ref sig .tc := ⟨.hbm, 26, rfl⟩
abbrev main_case0b1_v22 : Ref sig .tc := ⟨.hbm, 27, rfl⟩
abbrev main_case0b1_v23 : Ref sig .tc := ⟨.hbm, 28, rfl⟩
abbrev main_case0b1_v24 : Ref sig .tc := ⟨.hbm, 29, rfl⟩
abbrev main_case0b1_v25 : Ref sig .tc := ⟨.hbm, 30, rfl⟩
abbrev main_case0b1_v26 : Ref sig .tc := ⟨.hbm, 31, rfl⟩
abbrev main_case0b1_v27_0 : Ref sig .tc := ⟨.hbm, 32, rfl⟩
abbrev main_case0b1_v27_1 : Ref sig .tc := ⟨.hbm, 33, rfl⟩
abbrev main_case0b1_v28 : Ref sig .tc := ⟨.hbm, 34, rfl⟩
abbrev main_case0b1_v29 : Ref sig .tc := ⟨.hbm, 35, rfl⟩
abbrev main_case0b1_v30 : Ref sig .tc := ⟨.hbm, 36, rfl⟩
abbrev main_c_2 : Ref sig .tc := ⟨.hbm, 37, rfl⟩
abbrev main_call0_v0 : Ref sig .tc := ⟨.hbm, 38, rfl⟩
abbrev main_v11 : Ref sig .tc := ⟨.hbm, 39, rfl⟩
abbrev main_v12 : Ref sig .tc := ⟨.hbm, 40, rfl⟩
abbrev main_cst_3 : Ref sig .tc := ⟨.hbm, 41, rfl⟩
abbrev main_call1_v0 : Ref sig .tc := ⟨.hbm, 42, rfl⟩
abbrev main_v13 : Ref sig .tc := ⟨.hbm, 43, rfl⟩
abbrev main_v14 : Ref sig .tc := ⟨.hbm, 44, rfl⟩
abbrev main_v15 : Ref sig .tc := ⟨.hbm, 45, rfl⟩
abbrev main_v16 : Ref sig .tc := ⟨.hbm, 46, rfl⟩
abbrev main_v17 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_scratch0 : Ref sig .tc := ⟨.vmem, 14, rfl⟩
abbrev cc1_scratch1 : Ref sig .tc := ⟨.vmem, 15, rfl⟩
abbrev cc1_scratch2 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x84x8400 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x8400 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x4x8400 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![32], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x4x8400 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x1024 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x8x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]
-- ==== ReferenceIdeal.lean ====
abbrev S32x84x8400 : Shape := ⟨3, ![32, 84, 8400]⟩
abbrev S32x4x8400 : Shape := ⟨3, ![32, 4, 8400]⟩
abbrev S32x8400x4 : Shape := ⟨3, ![32, 8400, 4]⟩
abbrev S32x8400x1 : Shape := ⟨3, ![32, 8400, 1]⟩
abbrev S32x8400 : Shape := ⟨2, ![32, 8400]⟩
abbrev S_ : Shape := ⟨0, ![]⟩
abbrev S32x80x8400 : Shape := ⟨3, ![32, 80, 8400]⟩
abbrev S32x1000 : Shape := ⟨2, ![32, 1000]⟩
abbrev S32x1000x1 : Shape := ⟨3, ![32, 1000, 1]⟩
abbrev S1 : Shape := ⟨1, ![1]⟩
abbrev S1x1x1 : Shape := ⟨3, ![1, 1, 1]⟩
abbrev S32x1000x4 : Shape := ⟨3, ![32, 1000, 4]⟩
abbrev S32x1000x2 : Shape := ⟨3, ![32, 1000, 2]⟩
abbrev S32x1000x1x2 : Shape := ⟨4, ![32, 1000, 1, 2]⟩
abbrev S32x1x1000x2 : Shape := ⟨4, ![32, 1, 1000, 2]⟩
abbrev S32x1000x1000x2 : Shape := ⟨4, ![32, 1000, 1000, 2]⟩
abbrev S32x1000x1000x1 : Shape := ⟨4, ![32, 1000, 1000, 1]⟩
abbrev S32x1000x1000 : Shape := ⟨3, ![32, 1000, 1000]⟩
abbrev S32x1x1000 : Shape := ⟨3, ![32, 1, 1000]⟩
abbrev S1000 : Shape := ⟨1, ![1000]⟩
abbrev S32x1 : Shape := ⟨2, ![32, 1]⟩
abbrev S1x1000 : Shape := ⟨2, ![1, 1000]⟩
abbrev S32x1000x6 : Shape := ⟨3, ![32, 1000, 6]⟩

abbrev nBuf : Space → Nat
  | .hbm => 210
  | .vmem => 0
  | .smem => 0
  | _ => 0

abbrev hbmTy0_0 (i : Nat) : BufTy := match i % 128 with
  | 0 => ⟨S32x84x8400, .f32⟩
  | 1 => ⟨S32x4x8400, .f32⟩
  | 2 => ⟨S32x8400x4, .f32⟩
  | 3 => ⟨S32x8400x1, .f32⟩
  | 4 => ⟨S32x8400, .f32⟩
  | 5 => ⟨S32x8400x1, .f32⟩
  | 6 => ⟨S32x8400, .f32⟩
  | 7 => ⟨S32x8400x1, .f32⟩
  | 8 => ⟨S32x8400, .f32⟩
  | 9 => ⟨S32x8400x1, .f32⟩
  | 10 => ⟨S32x8400, .f32⟩
  | 11 => ⟨S_, .f32⟩
  | 12 => ⟨S32x8400, .f32⟩
  | 13 => ⟨S32x8400, .f32⟩
  | 14 => ⟨S32x8400, .f32⟩
  | 15 => ⟨S_, .f32⟩
  | 16 => ⟨S32x8400, .f32⟩
  | 17 => ⟨S32x8400, .f32⟩
  | 18 => ⟨S32x8400, .f32⟩
  | 19 => ⟨S_, .f32⟩
  | 20 => ⟨S32x8400, .f32⟩
  | 21 => ⟨S32x8400, .f32⟩
  | 22 => ⟨S32x8400, .f32⟩
  | 23 => ⟨S_, .f32⟩
  | 24 => ⟨S32x8400, .f32⟩
  | 25 => ⟨S32x8400, .f32⟩
  | 26 => ⟨S32x8400, .f32⟩
  | 27 => ⟨S32x8400x1, .f32⟩
  | 28 => ⟨S32x8400x1, .f32⟩
  | 29 => ⟨S32x8400x1, .f32⟩
  | 30 => ⟨S32x8400x1, .f32⟩
  | 31 => ⟨S32x8400x4, .f32⟩
  | 32 => ⟨S32x80x8400, .f32⟩
  | 33 => ⟨S_, .f32⟩
  | 34 => ⟨S32x8400, .f32⟩
  | 35 => ⟨S32x80x8400, .i32⟩
  | 36 => ⟨S_, .f32⟩
  | 37 => ⟨S_, .i32⟩
  | 38 => ⟨S32x8400, .f32⟩
  | 39 => ⟨S32x8400, .i32⟩
  | 40 => ⟨S32x8400, .f32⟩
  | 41 => ⟨S_, .f32⟩
  | 42 => ⟨S32x8400, .f32⟩
  | 43 => ⟨S32x8400, .i1⟩
  | 44 => ⟨S_, .f32⟩
  | 45 => ⟨S32x8400, .f32⟩
  | 46 => ⟨S32x8400, .i1⟩
  | 47 => ⟨S32x8400, .i1⟩
  | 48 => ⟨S_, .f32⟩
  | 49 => ⟨S_, .f32⟩
  | 50 => ⟨S32x8400, .f32⟩
  | 51 => ⟨S32x8400, .f32⟩
  | 52 => ⟨S32x1000, .f32⟩
  | 53 => ⟨S32x1000, .i32⟩
  | 54 => ⟨S32x1000x1, .i32⟩
  | 55 => ⟨S_, .i32⟩
  | 56 => ⟨S32x1000x1, .i32⟩
  | 57 => ⟨S32x1000x1, .i1⟩
  | 58 => ⟨S_, .i32⟩
  | 59 => ⟨S32x1000x1, .i32⟩
  | 60 => ⟨S32x1000x1, .i32⟩
  | 61 => ⟨S32x1000x1, .i32⟩
  | 62 => ⟨S1, .i32⟩
  | 63 => ⟨S_, .i32⟩
  | 64 => ⟨S32x1000x1, .i32⟩
  | 65 => ⟨S32x1000x1, .i1⟩
  | 66 => ⟨S1x1x1, .i32⟩
  | 67 => ⟨S32x1000x1, .i32⟩
  | 68 => ⟨S32x1000x1, .i1⟩
  | 69 => ⟨S32x1000x1, .i1⟩
  | 70 => ⟨S_, .i1⟩
  | 71 => ⟨S32x1000, .i1⟩
  | 72 => ⟨S32x1000x4, .f32⟩
  | 73 => ⟨S32x1000x4, .i1⟩
  | 74 => ⟨S_, .f32⟩
  | 75 => ⟨S32x1000x4, .f32⟩
  | 76 => ⟨S32x1000x4, .f32⟩
  | 77 => ⟨S_, .i32⟩
  | 78 => ⟨S32x1000, .i32⟩
  | 79 => ⟨S32x1000, .i1⟩
  | 80 => ⟨S_, .i32⟩
  | 81 => ⟨S32x1000, .i32⟩
  | 82 => ⟨S32x1000, .i32⟩
  | 83 => ⟨S32x1000, .i32⟩
  | 84 => ⟨S32x1000x1, .i32⟩
  | 85 => ⟨S1, .i32⟩
  | 86 => ⟨S_, .i32⟩
  | 87 => ⟨S32x1000x1, .i32⟩
  | 88 => ⟨S32x1000x1, .i1⟩
  | 89 => ⟨S1x1x1, .i32⟩
  | 90 => ⟨S32x1000x1, .i32⟩
  | 91 => ⟨S32x1000x1, .i1⟩
  | 92 => ⟨S32x1000x1, .i1⟩
  | 93 => ⟨S_, .i1⟩
  | 94 => ⟨S32x1000, .i1⟩
  | 95 => ⟨S32x1000, .f32⟩
  | 96 => ⟨S_, .f32⟩
  | 97 => ⟨S32x1000, .f32⟩
  | 98 => ⟨S32x1000, .f32⟩
  | 99 => ⟨S_, .f32⟩
  | 100 => ⟨S32x1000, .f32⟩
  | 101 => ⟨S32x1000, .i1⟩
  | 102 => ⟨S32x1000x1, .f32⟩
  | 103 => ⟨S_, .f32⟩
  | 104 => ⟨S32x1000x1, .f32⟩
  | 105 => ⟨S32x1000x1, .f32⟩
  | 106 => ⟨S32x1000x4, .f32⟩
  | 107 => ⟨S32x1000x4, .f32⟩
  | 108 => ⟨S32x1000x1, .f32⟩
  | 109 => ⟨S32x1000, .f32⟩
  | 110 => ⟨S32x1000x1, .f32⟩
  | 111 => ⟨S32x1000, .f32⟩
  | 112 => ⟨S32x1000, .f32⟩
  | 113 => ⟨S32x1000x1, .f32⟩
  | 114 => ⟨S32x1000, .f32⟩
  | 115 => ⟨S32x1000x1, .f32⟩
  | 116 => ⟨S32x1000, .f32⟩
  | 117 => ⟨S32x1000, .f32⟩
  | 118 => ⟨S32x1000, .f32⟩
  | 119 => ⟨S32x1000x2, .f32⟩
  | 120 => ⟨S32x1000x1x2, .f32⟩
  | 121 => ⟨S32x1000x2, .f32⟩
  | 122 => ⟨S32x1x1000x2, .f32⟩
  | 123 => ⟨S32x1000x1000x2, .f32⟩
  | 124 => ⟨S32x1000x1000x2, .f32⟩
  | 125 => ⟨S32x1000x1000x2, .f32⟩
  | 126 => ⟨S32x1000x2, .f32⟩
  | 127 => ⟨S32x1000x1x2, .f32⟩
  | _ => ⟨S32x84x8400, .f32⟩

abbrev hbmTy0_1 (i : Nat) : BufTy := match i % 128 with
  | 0 => ⟨S32x1000x2, .f32⟩
  | 1 => ⟨S32x1x1000x2, .f32⟩
  | 2 => ⟨S32x1000x1000x2, .f32⟩
  | 3 => ⟨S32x1000x1000x2, .f32⟩
  | 4 => ⟨S32x1000x1000x2, .f32⟩
  | 5 => ⟨S32x1000x1000x2, .f32⟩
  | 6 => ⟨S_, .f32⟩
  | 7 => ⟨S_, .f32⟩
  | 8 => ⟨S32x1000x1000x2, .f32⟩
  | 9 => ⟨S32x1000x1000x2, .f32⟩
  | 10 => ⟨S32x1000x1000x1, .f32⟩
  | 11 => ⟨S32x1000x1000, .f32⟩
  | 12 => ⟨S32x1000x1000x1, .f32⟩
  | 13 => ⟨S32x1000x1000, .f32⟩
  | 14 => ⟨S32x1000x1000, .f32⟩
  | 15 => ⟨S32x1000x1, .f32⟩
  | 16 => ⟨S32x1x1000, .f32⟩
  | 17 => ⟨S32x1000x1000, .f32⟩
  | 18 => ⟨S32x1000x1000, .f32⟩
  | 19 => ⟨S32x1000x1000, .f32⟩
  | 20 => ⟨S32x1000x1000, .f32⟩
  | 21 => ⟨S_, .f32⟩
  | 22 => ⟨S32x1000x1000, .f32⟩
  | 23 => ⟨S32x1000x1000, .f32⟩
  | 24 => ⟨S32x1000x1000, .f32⟩
  | 25 => ⟨S1000, .i32⟩
  | 26 => ⟨S_, .i32⟩
  | 27 => ⟨S_, .i32⟩
  | 28 => ⟨S32x1000x1000, .f32⟩
  | 29 => ⟨S1000, .i32⟩
  | 30 => ⟨S_, .i32⟩
  | 31 => ⟨S_, .i32⟩
  | 32 => ⟨S32x1000, .i1⟩
  | 33 => ⟨S_, .i32⟩
  | 34 => ⟨S_, .i1⟩
  | 35 => ⟨S_, .i32⟩
  | 36 => ⟨S_, .i32⟩
  | 37 => ⟨S_, .i32⟩
  | 38 => ⟨S_, .i1⟩
  | 39 => ⟨S_, .i32⟩
  | 40 => ⟨S_, .i32⟩
  | 41 => ⟨S_, .i32⟩
  | 42 => ⟨S_, .i32⟩
  | 43 => ⟨S_, .i32⟩
  | 44 => ⟨S_, .i32⟩
  | 45 => ⟨S32x1x1000, .f32⟩
  | 46 => ⟨S32x1000, .f32⟩
  | 47 => ⟨S_, .f32⟩
  | 48 => ⟨S32x1000, .f32⟩
  | 49 => ⟨S32x1000, .i1⟩
  | 50 => ⟨S_, .i32⟩
  | 51 => ⟨S_, .i1⟩
  | 52 => ⟨S_, .i32⟩
  | 53 => ⟨S_, .i32⟩
  | 54 => ⟨S_, .i32⟩
  | 55 => ⟨S_, .i32⟩
  | 56 => ⟨S_, .i32⟩
  | 57 => ⟨S32x1, .i1⟩
  | 58 => ⟨S32x1000, .i1⟩
  | 59 => ⟨S32x1000, .i1⟩
  | 60 => ⟨S_, .i32⟩
  | 61 => ⟨S1000, .i32⟩
  | 62 => ⟨S1000, .i1⟩
  | 63 => ⟨S1x1000, .i1⟩
  | 64 => ⟨S32x1000, .i1⟩
  | 65 => ⟨S32x1000, .i1⟩
  | 66 => ⟨S32x1000, .i1⟩
  | 67 => ⟨S32x1000, .i1⟩
  | 68 => ⟨S_, .i32⟩
  | 69 => ⟨S_, .i32⟩
  | 70 => ⟨S_, .f32⟩
  | 71 => ⟨S32x1000x4, .f32⟩
  | 72 => ⟨S32x1000x4, .f32⟩
  | 73 => ⟨S32x1000x1, .f32⟩
  | 74 => ⟨S32x1000x1, .f32⟩
  | 75 => ⟨S32x1000x6, .f32⟩
  | 76 => ⟨S32x1000x1, .i1⟩
  | 77 => ⟨S_, .f32⟩
  | 78 => ⟨S_, .f32⟩
  | 79 => ⟨S32x1000x6, .i1⟩
  | 80 => ⟨S32x1000x6, .f32⟩
  | 81 => ⟨S32x1000x6, .f32⟩
  | _ => ⟨S32x84x8400, .f32⟩

abbrev hbmTy (i : Nat) : BufTy := match i / 128 with
  | 0 => hbmTy0_0 i
  | 1 => hbmTy0_1 i
  | _ => ⟨S32x84x8400, .f32⟩

abbrev bufTy : (tb : Table) → Fin (tcTables nBuf tb) → BufTy
  | .hbm, ⟨i, _⟩ => hbmTy i
  | _, _ => ⟨S32x84x8400, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_v9 : Ref sig .tc := ⟨.hbm, 10, rfl⟩
abbrev main_cst : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst_0 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_cst_1 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_cst_2 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_cst_3 : Ref sig .tc := ⟨.hbm, 33, rfl⟩
abbrev main_v28 : Ref sig .tc := ⟨.hbm, 34, rfl⟩
abbrev main_call0_v0 : Ref sig .tc := ⟨.hbm, 35, rfl⟩
abbrev main_call0_cst : Ref sig .tc := ⟨.hbm, 36, rfl⟩
abbrev main_call0_c : Ref sig .tc := ⟨.hbm, 37, rfl⟩
abbrev main_call0_v1_0 : Ref sig .tc := ⟨.hbm, 38, rfl⟩
abbrev main_v29 : Ref sig .tc := ⟨.hbm, 39, rfl⟩
abbrev main_v30 : Ref sig .tc := ⟨.hbm, 40, rfl⟩
abbrev main_cst_4 : Ref sig .tc := ⟨.hbm, 41, rfl⟩
abbrev main_v31 : Ref sig .tc := ⟨.hbm, 42, rfl⟩
abbrev main_v32 : Ref sig .tc := ⟨.hbm, 43, rfl⟩
abbrev main_cst_5 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_cst_6 : Ref sig .tc := ⟨.hbm, 48, rfl⟩
abbrev main_call1_v0 : Ref sig .tc := ⟨.hbm, 49, rfl⟩
abbrev main_call1_v1 : Ref sig .tc := ⟨.hbm, 50, rfl⟩
abbrev main_v36 : Ref sig .tc := ⟨.hbm, 51, rfl⟩
abbrev main_values : Ref sig .tc := ⟨.hbm, 52, rfl⟩
abbrev main_indices : Ref sig .tc := ⟨.hbm, 53, rfl⟩
abbrev main_v37 : Ref sig .tc := ⟨.hbm, 54, rfl⟩
abbrev main_call2_c : Ref sig .tc := ⟨.hbm, 55, rfl⟩
abbrev main_call2_v0 : Ref sig .tc := ⟨.hbm, 56, rfl⟩
abbrev main_call2_v1 : Ref sig .tc := ⟨.hbm, 57, rfl⟩
abbrev main_call2_c_0 : Ref sig .tc := ⟨.hbm, 58, rfl⟩
abbrev main_call2_v2 : Ref sig .tc := ⟨.hbm, 59, rfl⟩
abbrev main_call2_v3 : Ref sig .tc := ⟨.hbm, 60, rfl⟩
abbrev main_call2_v4 : Ref sig .tc := ⟨.hbm, 61, rfl⟩
abbrev main_call2_c_1 : Ref sig .tc := ⟨.hbm, 62, rfl⟩
abbrev main_call2_c_2 : Ref sig .tc := ⟨.hbm, 63, rfl⟩
abbrev main_call2_v5 : Ref sig .tc := ⟨.hbm, 64, rfl⟩
abbrev main_call2_v6 : Ref sig .tc := ⟨.hbm, 65, rfl⟩
abbrev main_call2_v7 : Ref sig .tc := ⟨.hbm, 66, rfl⟩
abbrev main_call2_v8 : Ref sig .tc := ⟨.hbm, 67, rfl⟩
abbrev main_call2_v9 : Ref sig .tc := ⟨.hbm, 68, rfl⟩
abbrev main_call2_v10 : Ref sig .tc := ⟨.hbm, 69, rfl⟩
abbrev main_call2_c_3 : Ref sig .tc := ⟨.hbm, 70, rfl⟩
abbrev main_call2_v11 : Ref sig .tc := ⟨.hbm, 71, rfl⟩
abbrev main_call2_v12 : Ref sig .tc := ⟨.hbm, 72, rfl⟩
abbrev main_call2_v13 : Ref sig .tc := ⟨.hbm, 73, rfl⟩
abbrev main_call2_cst : Ref sig .tc := ⟨.hbm, 74, rfl⟩
abbrev main_call2_v14 : Ref sig .tc := ⟨.hbm, 75, rfl⟩
abbrev main_v38 : Ref sig .tc := ⟨.hbm, 76, rfl⟩
abbrev main_call3_c : Ref sig .tc := ⟨.hbm, 77, rfl⟩
abbrev main_call3_v0 : Ref sig .tc := ⟨.hbm, 78, rfl⟩
abbrev main_call3_v1 : Ref sig .tc := ⟨.hbm, 79, rfl⟩
abbrev main_call3_c_0 : Ref sig .tc := ⟨.hbm, 80, rfl⟩
abbrev main_call3_v2 : Ref sig .tc := ⟨.hbm, 81, rfl⟩
abbrev main_call3_v3 : Ref sig .tc := ⟨.hbm, 82, rfl⟩
abbrev main_call3_v4 : Ref sig .tc := ⟨.hbm, 83, rfl⟩
abbrev main_call3_v5 : Ref sig .tc := ⟨.hbm, 84, rfl⟩
abbrev main_call3_c_1 : Ref sig .tc := ⟨.hbm, 85, rfl⟩
abbrev main_call3_c_2 : Ref sig .tc := ⟨.hbm, 86, rfl⟩
abbrev main_call3_v6 : Ref sig .tc := ⟨.hbm, 87, rfl⟩
abbrev main_call3_v7 : Ref sig .tc := ⟨.hbm, 88, rfl⟩
abbrev main_call3_v8 : Ref sig .tc := ⟨.hbm, 89, rfl⟩
abbrev main_call3_v9 : Ref sig .tc := ⟨.hbm, 90, rfl⟩
abbrev main_call3_v10 : Ref sig .tc := ⟨.hbm, 91, rfl⟩
abbrev main_call3_v11 : Ref sig .tc := ⟨.hbm, 92, rfl⟩
abbrev main_call3_c_3 : Ref sig .tc := ⟨.hbm, 93, rfl⟩
abbrev main_call3_v12 : Ref sig .tc := ⟨.hbm, 94, rfl⟩
abbrev main_call3_v13 : Ref sig .tc := ⟨.hbm, 95, rfl⟩
abbrev main_call3_cst : Ref sig .tc := ⟨.hbm, 96, rfl⟩
abbrev main_call3_v14 : Ref sig .tc := ⟨.hbm, 97, rfl⟩
abbrev main_v39 : Ref sig .tc := ⟨.hbm, 98, rfl⟩
abbrev main_cst_7 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_cst_8 : Ref sig .tc := ⟨.hbm, 103, rfl⟩
abbrev main_v43 : Ref sig .tc := ⟨.hbm, 104, rfl⟩
abbrev main_v44 : Ref sig .tc := ⟨.hbm, 105, rfl⟩
abbrev main_v45 : Ref sig .tc := ⟨.hbm, 106, rfl⟩
abbrev main_v46 : Ref sig .tc := ⟨.hbm, 107, rfl⟩
abbrev main_v47 : Ref sig .tc := ⟨.hbm, 108, rfl⟩
abbrev main_v48 : Ref sig .tc := ⟨.hbm, 109, rfl⟩
abbrev main_v49 : Ref sig .tc := ⟨.hbm, 110, rfl⟩
abbrev main_v50 : Ref sig .tc := ⟨.hbm, 111, rfl⟩
abbrev main_v51 : Ref sig .tc := ⟨.hbm, 112, rfl⟩
abbrev main_v52 : Ref sig .tc := ⟨.hbm, 113, rfl⟩
abbrev main_v53 : Ref sig .tc := ⟨.hbm, 114, rfl⟩
abbrev main_v54 : Ref sig .tc := ⟨.hbm, 115, rfl⟩
abbrev main_v55 : Ref sig .tc := ⟨.hbm, 116, rfl⟩
abbrev main_v56 : Ref sig .tc := ⟨.hbm, 117, rfl⟩
abbrev main_v57 : Ref sig .tc := ⟨.hbm, 118, rfl⟩
abbrev main_v58 : Ref sig .tc := ⟨.hbm, 119, rfl⟩
abbrev main_v59 : Ref sig .tc := ⟨.hbm, 120, rfl⟩
abbrev main_v60 : Ref sig .tc := ⟨.hbm, 121, rfl⟩
abbrev main_v61 : Ref sig .tc := ⟨.hbm, 122, rfl⟩
abbrev main_v62 : Ref sig .tc := ⟨.hbm, 123, rfl⟩
abbrev main_v63 : Ref sig .tc := ⟨.hbm, 124, rfl⟩
abbrev main_v64 : Ref sig .tc := ⟨.hbm, 125, rfl⟩
abbrev main_v65 : Ref sig .tc := ⟨.hbm, 126, rfl⟩
abbrev main_v66 : Ref sig .tc := ⟨.hbm, 127, rfl⟩
abbrev main_v67 : Ref sig .tc := ⟨.hbm, 128, rfl⟩
abbrev main_v68 : Ref sig .tc := ⟨.hbm, 129, rfl⟩
abbrev main_v69 : Ref sig .tc := ⟨.hbm, 130, rfl⟩
abbrev main_v70 : Ref sig .tc := ⟨.hbm, 131, rfl⟩
abbrev main_v71 : Ref sig .tc := ⟨.hbm, 132, rfl⟩
abbrev main_v72 : Ref sig .tc := ⟨.hbm, 133, rfl⟩
abbrev main_cst_9 : Ref sig .tc := ⟨.hbm, 134, rfl⟩
abbrev main_call4_v0 : Ref sig .tc := ⟨.hbm, 135, rfl⟩
abbrev main_call4_v1 : Ref sig .tc := ⟨.hbm, 136, rfl⟩
abbrev main_v73 : Ref sig .tc := ⟨.hbm, 137, rfl⟩
abbrev main_v74 : Ref sig .tc := ⟨.hbm, 138, rfl⟩
abbrev main_v75 : Ref sig .tc := ⟨.hbm, 139, rfl⟩
abbrev main_v76 : Ref sig .tc := ⟨.hbm, 140, rfl⟩
abbrev main_v77 : Ref sig .tc := ⟨.hbm, 141, rfl⟩
abbrev main_v78 : Ref sig .tc := ⟨.hbm, 142, rfl⟩
abbrev main_v79 : Ref sig .tc := ⟨.hbm, 143, rfl⟩
abbrev main_v80 : Ref sig .tc := ⟨.hbm, 144, rfl⟩
abbrev main_v81 : Ref sig .tc := ⟨.hbm, 145, rfl⟩
abbrev main_v82 : Ref sig .tc := ⟨.hbm, 146, rfl⟩
abbrev main_v83 : Ref sig .tc := ⟨.hbm, 147, rfl⟩
abbrev main_v84 : Ref sig .tc := ⟨.hbm, 148, rfl⟩
abbrev main_cst_10 : Ref sig .tc := ⟨.hbm, 149, rfl⟩
abbrev main_v85 : Ref sig .tc := ⟨.hbm, 150, rfl⟩
abbrev main_v86 : Ref sig .tc := ⟨.hbm, 151, rfl⟩
abbrev main_v87 : Ref sig .tc := ⟨.hbm, 152, rfl⟩
abbrev main_v88 : Ref sig .tc := ⟨.hbm, 153, rfl⟩
abbrev main_c : Ref sig .tc := ⟨.hbm, 154, rfl⟩
abbrev main_c_11 : Ref sig .tc := ⟨.hbm, 155, rfl⟩
abbrev main_v89_0 : Ref sig .tc := ⟨.hbm, 156, rfl⟩
abbrev main_v89_1 : Ref sig .tc := ⟨.hbm, 157, rfl⟩
abbrev main_v89_2 : Ref sig .tc := ⟨.hbm, 158, rfl⟩
abbrev main_v89_3 : Ref sig .tc := ⟨.hbm, 159, rfl⟩
abbrev main_v89_4 : Ref sig .tc := ⟨.hbm, 160, rfl⟩
abbrev main_while0c_c_18 : Ref sig .tc := ⟨.hbm, 161, rfl⟩
abbrev main_while0c_v97 : Ref sig .tc := ⟨.hbm, 162, rfl⟩
abbrev main_while0b_c_18 : Ref sig .tc := ⟨.hbm, 163, rfl⟩
abbrev main_while0b_v97 : Ref sig .tc := ⟨.hbm, 164, rfl⟩
abbrev main_while0b_c_19 : Ref sig .tc := ⟨.hbm, 165, rfl⟩
abbrev main_while0b_v98 : Ref sig .tc := ⟨.hbm, 166, rfl⟩
abbrev main_while0b_v99 : Ref sig .tc := ⟨.hbm, 167, rfl⟩
abbrev main_while0b_c_20 : Ref sig .tc := ⟨.hbm, 168, rfl⟩
abbrev main_while0b_v100 : Ref sig .tc := ⟨.hbm, 169, rfl⟩
abbrev main_while0b_v101 : Ref sig .tc := ⟨.hbm, 170, rfl⟩
abbrev main_while0b_c_21 : Ref sig .tc := ⟨.hbm, 171, rfl⟩
abbrev main_while0b_c_22 : Ref sig .tc := ⟨.hbm, 172, rfl⟩
abbrev main_while0b_v102 : Ref sig .tc := ⟨.hbm, 173, rfl⟩
abbrev main_while0b_v103 : Ref sig .tc := ⟨.hbm, 174, rfl⟩
abbrev main_while0b_cst_23 : Ref sig .tc := ⟨.hbm, 175, rfl⟩
abbrev main_while0b_v104 : Ref sig .tc := ⟨.hbm, 176, rfl⟩
abbrev main_while0b_v105 : Ref sig .tc := ⟨.hbm, 177, rfl⟩
abbrev main_while0b_c_24 : Ref sig .tc := ⟨.hbm, 178, rfl⟩
abbrev main_while0b_v106 : Ref sig .tc := ⟨.hbm, 179, rfl⟩
abbrev main_while0b_v107 : Ref sig .tc := ⟨.hbm, 180, rfl⟩
abbrev main_while0b_c_25 : Ref sig .tc := ⟨.hbm, 181, rfl⟩
abbrev main_while0b_v108 : Ref sig .tc := ⟨.hbm, 182, rfl⟩
abbrev main_while0b_v109 : Ref sig .tc := ⟨.hbm, 183, rfl⟩
abbrev main_while0b_c_26 : Ref sig .tc := ⟨.hbm, 184, rfl⟩
abbrev main_while0b_v110 : Ref sig .tc := ⟨.hbm, 185, rfl⟩
abbrev main_while0b_v111 : Ref sig .tc := ⟨.hbm, 186, rfl⟩
abbrev main_while0b_v112 : Ref sig .tc := ⟨.hbm, 187, rfl⟩
abbrev main_while0b_v113 : Ref sig .tc := ⟨.hbm, 188, rfl⟩
abbrev main_while0b_v114 : Ref sig .tc := ⟨.hbm, 189, rfl⟩
abbrev main_while0b_v115 : Ref sig .tc := ⟨.hbm, 190, rfl⟩
abbrev main_while0b_v116 : Ref sig .tc := ⟨.hbm, 191, rfl⟩
abbrev main_while0b_v117 : Ref sig .tc := ⟨.hbm, 192, rfl⟩
abbrev main_while0b_v118 : Ref sig .tc := ⟨.hbm, 193, rfl⟩
abbrev main_while0b_v119 : Ref sig .tc := ⟨.hbm, 194, rfl⟩
abbrev main_while0b_v120 : Ref sig .tc := ⟨.hbm, 195, rfl⟩
abbrev main_while0b_c_27 : Ref sig .tc := ⟨.hbm, 196, rfl⟩
abbrev main_while0b_v121 : Ref sig .tc := ⟨.hbm, 197, rfl⟩
abbrev main_cst_12 : Ref sig .tc := ⟨.hbm, 198, rfl⟩
abbrev main_v90 : Ref sig .tc := ⟨.hbm, 199, rfl⟩
abbrev main_v91 : Ref sig .tc := ⟨.hbm, 200, rfl⟩
abbrev main_v92 : Ref sig .tc := ⟨.hbm, 201, rfl⟩
abbrev main_v93 : Ref sig .tc := ⟨.hbm, 202, rfl⟩
abbrev main_v94 : Ref sig .tc := ⟨.hbm, 203, rfl⟩
abbrev main_v95 : Ref sig .tc := ⟨.hbm, 204, rfl⟩
abbrev main_cst_13 : Ref sig .tc := ⟨.hbm, 205, rfl⟩
abbrev main_call5_v0 : Ref sig .tc := ⟨.hbm, 206, rfl⟩
abbrev main_call5_v1 : Ref sig .tc := ⟨.hbm, 207, rfl⟩
abbrev main_call5_v2 : Ref sig .tc := ⟨.hbm, 208, rfl⟩
abbrev main_v96 : Ref sig .tc := ⟨.hbm, 209, rfl⟩

abbrev nD : Nat := 1
abbrev τ : Topo := Topo.v7x

variable {F : FTy → Type} [FloatOps F]

abbrev main_while0_count : Scf.Loop 32 := ⟨0#32, 1000#32, 1#32⟩
-- ==== Proof.Own.lean ====
/-
  Loads and stores of a memref owned at what it READS (`owns`): a load through a rectangle reads the contents there, an
  unmasked store through one leaves the contents with the rectangle's part replaced. With these two rules a kernel body is
  reasoned about over the contents its memrefs read, whatever buffers they are.
-/
module

public import proofs.«01_k».proof.Proof.Gen.KernelIdeal.Launch
public import proofs.«01_k».proof.Proof.Gen.KernelIdeal.Points
public import proofs.«01_k».proof.Proof.Gen.KernelIdeal.Skeleton
public import Idealize.ShloMosaic.Lib.Pipeline.FrameBody
public import Idealize.ShloMosaic.Lib.Tactic

@[expose] public section

noncomputable section

namespace Cert.Proof

open Cert.KernelIdeal Cert.KernelIdeal.Gen

open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The certificate's resource algebra: the pipeline library's, beside the counters. -/
abbrev UU : Type := UR sig nD τ × Counters

local notation "𝕄" => MT nD τ sig Unit (Elt F) ℕ UU ℕ

/-- Core `c` owns memref `M` whole, and reads `X` through it. -/
abbrev ow (c : Dev nD) {sp : Space} {S : Shape} {e : EltTy} (M : Memref sig .tc sp S e) (X : S.Idx → Elt F e) : sProp 𝕄 :=
  owns (c : Thread nD τ) M fullShare X

/-- The specification a program is run against here: the kernels' own labels, no bound or bound `bd`. -/
abbrev wpK (c : Dev nD) (bd : Option ℕ) {α : Type} (p : Prog (TpuEff nD τ sig (Elt F) (Λ₀ F) .tc) α) (Q : α → sProp 𝕄) : sProp 𝕄 :=
  wp frame (wpE (defs₀ (F := F)) Variants.nat (c : Thread nD τ) bd) Set.univ p Q

/-- A load through a rectangle of an owned memref. -/
theorem load_own (c : Dev nD) (bd : Option ℕ) {S : Shape} {e : EltTy} {α : Type} (M : Memref sig .tc .vmem S e) (r : Rect S)
    (hl : M.view.LoadsAt r.toLoadRect) (k : (r.toLoadRect.shape.Idx → Elt F e) → Prog (TpuEff nD τ sig (Elt F) (Λ₀ F) .tc) α)
    (X : S.Idx → Elt F e) (Q : α → sProp 𝕄) :
    ow c M X ⊢ iprop((ow c M X -∗ wpK c bd (k (View.ld X r)) Q) -∗ wpK c bd (.op (.load (cs := .vmem) M r.toLoadRect hl) k) Q) := by
  iintro H Hk
  ihave H' := (show ow c M X ⊢ iprop(∃ f, ⌜M.view.read (Elt F) f = X⌝ ∗ (M.view.loc (c : Thread nD τ) ↦[M.view.set]{fullShare} f)) from .rfl) $$ H
  icases H' with ⟨%f, %hf, H⟩
  subst hf
  iapply (wp_load Variants.nat (c : Thread nD τ) bd Set.univ (m := M) (r := r.toLoadRect) (hl := hl) (k := k) (S := M.view.set) (by rw [← View.setOn_univ]; exact Finset.map_subset_map.mpr (Finset.subset_univ _))) $$ H
  iintro H
  iapply Hk
  iapply (owns_intro (c : Thread nD τ) M fullShare f); iexact H

/-- An unmasked store through a rectangle of an owned memref. -/
theorem store_own (c : Dev nD) (bd : Option ℕ) {S : Shape} {e : EltTy} {α : Type} (M : Memref sig .tc .vmem S e) (r : Rect S)
    (w : r.shape.Idx → Elt F e) (hx : (M.access r).Stores Finset.univ) (hm : Finset.univ = Finset.univ ∨ ∀ a, r.stride a = 1)
    (k : PUnit → Prog (TpuEff nD τ sig (Elt F) (Λ₀ F) .tc) α) (X : S.Idx → Elt F e) (Q : α → sProp 𝕄) :
    ow c M X ⊢ iprop((ow c M (r.overlay X w) -∗ wpK c bd (k ⟨⟩) Q) -∗ wpK c bd (.op (.store (cs := .vmem) M r w Finset.univ hx hm) k) Q) := by
  iintro H Hk
  ihave H' := (show ow c M X ⊢ iprop(∃ f, ⌜M.view.read (Elt F) f = X⌝ ∗ (M.view.loc (c : Thread nD τ) ↦[M.view.set]{fullShare} f)) from .rfl) $$ H
  icases H' with ⟨%f, %hf, H⟩
  subst hf
  have hov : r.overlay (M.view.read (Elt F) f) w = M.view.read (Elt F) ((M.access r).write (Elt F) f w Finset.univ) := by
    funext j
    by_cases hj : j ∈ r.set
    · obtain ⟨i, rfl⟩ := r.exists_idx_of_mem hj
      exact (r.overlay_emb _ _ i).trans (View.read_slice_write_emb r f w (Finset.mem_univ i)).symm
    · rw [r.overlay_of_not_mem _ _ hj]
      exact (View.read_slice_write_of_not_mem r f w Finset.univ (by rwa [Rect.map_emb_univ])).symm
  rw [hov]
  iapply (wp_store Variants.nat (c : Thread nD τ) bd Set.univ (m := M) (r := r) (w := w) (hx := hx) (hm := hm) (k := k) (S := M.view.set) (f := f) (by
    rw [View.setOn_univ]; exact M.view.set_slice_subset r)) $$ H
  iintro H
  iapply Hk
  iapply (owns_intro (c : Thread nD τ) M fullShare _); iexact H

end Cert.Proof

end
-- ==== Proof.NmsSpec.lean ====
/-
  What suppression computes, as plain mathematics over 1024 candidate boxes sorted by score: which candidates are valid,
  the corner coordinates, the overlap of two boxes, who suppresses whom, and the set that greedy suppression keeps. The
  kept set is the only set `K` with `K j ↔ v j ∧ no earlier kept i suppresses j`; iterating that equation from any set
  reaches it, because step `t` settles the first `t` candidates.
-/
module

public import Idealize.ShloMosaic.PureOps.Ideal
public import Idealize.ShloMosaic.Lib.Pointwise.Tactic

@[expose] public section

noncomputable section

namespace Cert.Proof

open Idealize.ShloMosaic
open scoped Classical

/-! ## Greedy suppression -/

section Greedy
variable {n : ℕ} (v : Fin n → Prop) (M : Fin n → Fin n → Prop)

/-- One application of the suppression equation. -/
def stepK (K : Fin n → Prop) : Fin n → Prop := fun j => v j ∧ ¬ ∃ i, i < j ∧ K i ∧ M i j

/-- The suppression equation. -/
def IsKeep (K : Fin n → Prop) : Prop := ∀ j, K j ↔ stepK v M K j

/-- The iterates of the equation from the valid set. -/
def gen : ℕ → Fin n → Prop
  | 0 => v
  | t + 1 => stepK v M (gen t)

variable {v M}

/-- The value of a step at `j` depends on the set before `j` only. -/
theorem stepK_congr {K L : Fin n → Prop} {j : Fin n} (h : ∀ i, i < j → (K i ↔ L i)) : stepK v M K j ↔ stepK v M L j := by
  unfold stepK
  refine and_congr Iff.rfl (not_congr (exists_congr fun i => ?_))
  constructor
  · rintro ⟨a, b, c⟩; exact ⟨a, (h i a).1 b, c⟩
  · rintro ⟨a, b, c⟩; exact ⟨a, (h i a).2 b, c⟩

/-- The suppression equation has at most one solution. -/
theorem IsKeep.unique {K L : Fin n → Prop} (hK : IsKeep v M K) (hL : IsKeep v M L) : K = L := by
  have h : ∀ m : ℕ, ∀ j : Fin n, j.val < m → (K j ↔ L j) := by
    intro m
    induction m with
    | zero => intro j hj; omega
    | succ m ih =>
      intro j hj
      rw [hK j, hL j]
      exact stepK_congr fun i hi => ih i (by have : i.val < j.val := hi; omega)
  funext j
  exact propext (h (j.val + 1) j (Nat.lt_succ_self _))

/-- Iterate `t` has settled the candidates before `t`. -/
theorem gen_settled : ∀ (t : ℕ) (j : Fin n), j.val < t → (gen v M t j ↔ gen v M (t + 1) j) := by
  intro t
  induction t with
  | zero => intro j hj; omega
  | succ t ih =>
    intro j hj
    exact stepK_congr fun i hi => ih i (by have : i.val < j.val := hi; omega)

/-- A repeated iterate solves the equation. -/
theorem isKeep_of_repeat {t : ℕ} (h : gen v M t = gen v M (t + 1)) : IsKeep v M (gen v M t) := by
  intro j
  exact iff_of_eq (congrFun h j)

/-- The last iterate solves the equation. -/
theorem isKeep_gen : IsKeep v M (gen v M n) :=
  isKeep_of_repeat (funext fun j => propext (gen_settled n j j.isLt))

/-- Two iterates that differ come before the last. -/
theorem lt_of_gen_ne {t : ℕ} (h : gen v M t ≠ gen v M (t + 1)) : t < n := by
  by_contra hc
  exact h (funext fun j => propext (gen_settled t j (by have := j.isLt; omega)))

end Greedy

/-- The kept set. -/
def keepS {n : ℕ} (v : Fin n → Prop) (M : Fin n → Fin n → Prop) : Fin n → Prop := gen v M n

/-! ## The boxes -/

/-- A truth value as 0 or 1. -/
def ind (p : Prop) : EReal := if p then 1 else 0

theorem ind_nonneg (p : Prop) : 0 ≤ ind p := by unfold ind; split <;> simp
theorem ind_pos (p : Prop) : 0 < ind p ↔ p := by unfold ind; split <;> simp_all
theorem ind_congr {p q : Prop} (h : p ↔ q) : ind p = ind q := by unfold ind; simp [h]
theorem ind_inj {p q : Prop} : ind p = ind q ↔ (p ↔ q) := by
  constructor
  · intro h
    rw [← ind_pos p, ← ind_pos q, h]
  · exact ind_congr

/-- The score threshold. -/
def c01 : EReal := Ideal.ofBits .f32 0x3DCCCCCD#32
/-- One half. -/
def cHalf : EReal := Ideal.ofBits .f32 0x3F000000#32
/-- The term that keeps the union away from zero. -/
def cEps : EReal := Ideal.ofBits .f32 0x33D6BF95#32
/-- The overlap threshold. -/
def cThr : EReal := Ideal.ofBits .f32 0x3F333333#32
/-- The scale the corners are divided by. -/
def cScale : EReal := Ideal.ofBits .f32 0x3EAAAAAB#32

section Boxes
variable {n : ℕ}

/-- A candidate is valid when its score is above the threshold. -/
def vS (s : Fin n → EReal) (j : Fin n) : Prop := c01 < s j

/-- The box of a candidate: column `ix j` of the table, 0 where there is no such column. -/
def gath (b : Fin 4 → Fin 8400 → EReal) (ix : Fin n → ℕ) (r : Fin 4) (j : Fin n) : EReal :=
  if h : ix j < 8400 then b r ⟨ix j, h⟩ else 0

/-- The boxes of the valid candidates, 0 at the others. -/
def bxS (b : Fin 4 → Fin 8400 → EReal) (ix : Fin n → ℕ) (s : Fin n → EReal) (r : Fin 4) (j : Fin n) : EReal :=
  if vS s j then gath b ix r j else 0

variable (B : Fin 4 → Fin n → EReal)

/-- The left edge. -/
def bX1 (j : Fin n) : EReal := B 0 j - B 2 j * cHalf
/-- The upper edge. -/
def bY1 (j : Fin n) : EReal := B 1 j - B 3 j * cHalf
/-- The right edge. -/
def bX2 (j : Fin n) : EReal := B 0 j + B 2 j * cHalf
/-- The lower edge. -/
def bY2 (j : Fin n) : EReal := B 1 j + B 3 j * cHalf
/-- The area. -/
def bArea (j : Fin n) : EReal := (bX2 B j - bX1 B j) * (bY2 B j - bY1 B j)
/-- The area two boxes share. -/
def bInter (r c : Fin n) : EReal :=
  max (min (bX2 B r) (bX2 B c) - max (bX1 B r) (bX1 B c)) 0 * max (min (bY2 B r) (bY2 B c) - max (bY1 B r) (bY1 B c)) 0
/-- Intersection over union. -/
def bIou (r c : Fin n) : EReal := Ideal.div (bInter B r c) ((bArea B r + bArea B c) - bInter B r c + cEps)
/-- `r` comes before `c` and overlaps it by more than the threshold. -/
def bSup (r c : Fin n) : Prop := cThr < bIou B r c ∧ r < c

/-- The eight rows written for an image: scaled corners, score, three empty rows, all 0 at a suppressed candidate. -/
def outS (s : Fin n → EReal) (K : Fin n → Prop) (row : ℕ) (j : Fin n) : EReal :=
  (match row with
    | 0 => Ideal.div (bX1 B j) cScale
    | 1 => Ideal.div (bY1 B j) cScale
    | 2 => Ideal.div (bX2 B j) cScale
    | 3 => Ideal.div (bY2 B j) cScale
    | 4 => s j
    | _ => 0) * ind (K j)

end Boxes

end Cert.Proof

end
-- ==== Proof.NmsVal.lean ====
/-
  The values of the suppression kernel's payloads at the extended reals. The eight copies of a block's arithmetic are one
  definition each, taken at the block's offset; the payload of a copy is that definition by unfolding.
-/
module

public import proofs.«01_k».proof.Proof.Gen.KernelIdeal.Skeleton
public import proofs.«01_k».proof.Proof.NmsSpec
public import Idealize.ShloMosaic.Lib.Pointwise.Tactic
public import Idealize.ShloMosaic.Lib.Pointwise.Contract
public import Idealize.ShloMosaic.Lib.Pointwise.Reshape
public import Idealize.ShloMosaic.Lib.Pointwise.Select
public import Idealize.ShloMosaic.Lib.Pointwise.Reduce

@[expose] public section

set_option maxRecDepth 65536

noncomputable section

namespace Cert.Proof

open Cert.KernelIdeal Cert.KernelIdeal.Gen
open Idealize.ShloMosaic
open scoped Classical

/-! ## Words and truth values -/

/-- A one-bit word widened and converted is its truth value. -/
theorem sitofp_bit (b : BitVec 1) : FloatOps.sitofp (F := Ideal) .f32 (BitVec.setWidth 32 b) = ind (b = 1#1) := by
  rcases bit_eq_zero_or_eq_one b with rfl | rfl
  · show (((BitVec.setWidth 32 (0 : BitVec 1)).toInt : ℝ) : EReal) = _
    simp [ind]
  · show (((BitVec.setWidth 32 (1 : BitVec 1)).toInt : ℝ) : EReal) = _
    have : (BitVec.setWidth 32 (1 : BitVec 1)).toInt = 1 := by decide
    simp [ind, this]

theorem ofBool_decide (p : Prop) [Decidable p] : BitVec.ofBool (decide p) = 1#1 ↔ p := by
  by_cases h : p <;> simp [h]

theorem andi_one (a b : BitVec 1) : IntOp.andi a b = 1#1 ↔ a = 1#1 ∧ b = 1#1 := by
  revert a b; decide

theorem slt_small (a b c : ℕ) (h : a + b < 2 ^ 31) (hc : c < 2 ^ 31) :
    IntOp.cmpi .slt (IntOp.addi (BitVec.ofNat 32 a) (BitVec.ofNat 32 b)) (BitVec.ofNat 32 c) = 1#1 ↔ a + b < c := by
  show BitVec.ofBool ((BitVec.ofNat 32 a + BitVec.ofNat 32 b).slt (BitVec.ofNat 32 c)) = 1#1 ↔ _
  rw [← BitVec.ofNat_add, BitVec.slt, ofBool_decide, BitVec.toInt_eq_toNat_of_lt, BitVec.toInt_eq_toNat_of_lt] <;>
    simp only [BitVec.toNat_ofNat] <;> omega

theorem eq_small (a b : ℕ) (x : BitVec 32) (h : a + b < 2 ^ 32) :
    IntOp.cmpi .eq (IntOp.addi (BitVec.ofNat 32 a) (BitVec.ofNat 32 b)) x = 1#1 ↔ a + b = x.toNat := by
  show BitVec.ofBool (BitVec.ofNat 32 a + BitVec.ofNat 32 b == x) = 1#1 ↔ _
  rw [← BitVec.ofNat_add, beq_eq_decide, ofBool_decide, ← BitVec.toNat_inj, BitVec.toNat_ofNat, Nat.mod_eq_of_lt h]

/-- A row of 1024 entries. -/
def row (f : Fin 1024 → EReal) : FVec Ideal S1x1024 .f32 := fun i => f (i 1)

theorem row_at (f : Fin 1024 → EReal) (i : S1x1024.Idx) : row f i = f (i 1) := rfl

theorem row_eta (x : FVec Ideal S1x1024 .f32) : row (fun c => x (ix2 0 c)) = x := by
  funext i
  rw [eq_ix2 i]
  have : i 0 = (0 : Fin 1) := Subsingleton.elim (α := Fin 1) _ _
  rw [this]; rfl

/-! ## One suppression step -/

/-- The support row after adding the rows of `blk` chosen by 128 entries of `g`. -/
def kstep (o : ℕ) (h : S1x1024.Slices ![0, o] S1x128) (g old : FVec Ideal S1x1024 .f32) (blk : FVec Ideal S128x1024 .f32) :
    FVec Ideal S1x1024 .f32 :=
  shapeCast S1x1024 (addf old (matmul dot_S1x128_S128x1024_S1x1024_1_0_0_1_n_n none (extractStridedSlice S1x128 ![0, o] g h) blk
    (constant S1x1024 .f32 0x00000000#32))) Gen.shapeCasts_S1x1024_S1x1024

theorem pay73_eq (g old blk) : k1_pay73 (F := Ideal) g old blk = kstep 0 Gen.slices_S1x1024_o0_0_S1x128 g old blk := rfl
theorem pay80_eq (g old blk) : k1_pay80 (F := Ideal) g old blk = kstep 896 Gen.slices_S1x1024_o0_896_S1x128 g old blk := rfl

theorem kstep_at (o : ℕ) (h) (ho : o + 128 ≤ 1024) (g old : FVec Ideal S1x1024 .f32) (blk : FVec Ideal S128x1024 .f32) (c : Fin 1024) :
    kstep o h g old blk (ix2 0 c) = old (ix2 0 c) + ∑ k : Fin 128, g (ix2 0 ⟨o + k.val, by omega⟩) * blk (ix2 k c) := by
  pointwise [kstep, dot_S1x128_S128x1024_S1x1024_1_0_0_1_n_n]

/-- A column of 1024 entries. -/
def col (f : Fin 1024 → EReal) : FVec Ideal S1024x1 .f32 := fun i => f (i 0)

theorem transpose_row (f : Fin 1024 → EReal) :
    transpose S1024x1 [1, 0] (row f) Gen.transposes_S1x1024_p1_0_S1024x1 = col f := by
  funext i
  pointwise [row, col]

/-- 128 rows of the suppression mask, from row `o` on. -/
def supBlk (o : ℕ) (h : S1024x1.Slices ![o, 0] S128x1) (x1 y1 x2 y2 ar : FVec Ideal S1x1024 .f32)
    (tx1 ty1 tx2 ty2 tar : FVec Ideal S1024x1 .f32) : FVec Ideal S128x1024 .f32 :=
  let R (t : FVec Ideal S1024x1 .f32) : FVec Ideal S128x1024 .f32 :=
    broadcastTo S128x1024 (extractStridedSlice S128x1 ![o, 0] t h) Gen.broadcasts_S128x1_S128x1024
  let C (t : FVec Ideal S1x1024 .f32) : FVec Ideal S128x1024 .f32 := broadcastTo S128x1024 t Gen.broadcasts_S1x1024_S128x1024
  let Z (b : BitVec 32) : FVec Ideal S128x1024 .f32 := broadcast S128x1024 (Scalar.ofBits .f32 b)
  let inter := mulf (maximumf (subf (minimumf (R tx2) (C x2)) (maximumf (R tx1) (C x1))) (Z 0x00000000#32))
    (maximumf (subf (minimumf (R ty2) (C y2)) (maximumf (R ty1) (C y1))) (Z 0x00000000#32))
  let iou := divf inter (addf (subf (addf (R tar) (C ar)) inter) (Z 0x33D6BF95#32))
  let before := cmpi .slt (addi (broadcast S128x1024 (BitVec.ofNat 32 o)) (iota .tc S128x1024 32 [0] Gen.iota_S128x1024_d0_w32))
    (iota .tc S128x1024 32 [1] Gen.iota_S128x1024_d1_w32)
  shapeCast S128x1024 (sitofp .f32 (extui 32 (andi (cmpf .ogt iou (Z 0x3F333333#32)) before) Gen.natLt_1_32))
    Gen.shapeCasts_S128x1024_S128x1024

theorem pay64_eq (a b c d e f g h i j) :
    k1_pay64 (F := Ideal) a b c d e f g h i j = supBlk 0 Gen.slices_S1024x1_o0_0_S128x1 a b c d e f g h i j := rfl
theorem pay71_eq (a b c d e f g h i j) :
    k1_pay71 (F := Ideal) a b c d e f g h i j = supBlk 896 Gen.slices_S1024x1_o896_0_S128x1 a b c d e f g h i j := rfl

theorem supBlk_at (o : ℕ) (h) (ho : o + 128 ≤ 1024) (B : Fin 4 → Fin 1024 → EReal) (r : Fin 128) (c : Fin 1024) :
    supBlk o h (row (bX1 B)) (row (bY1 B)) (row (bX2 B)) (row (bY2 B)) (row (bArea B))
      (col (bX1 B)) (col (bY1 B)) (col (bX2 B)) (col (bY2 B)) (col (bArea B)) (ix2 r c)
      = ind (bSup B ⟨o + r.val, by omega⟩ c) := by
  pointwise [supBlk, row, col]
  rw [sitofp_bit]
  refine ind_congr ?_
  rw [andi_one, ofBool_decide, slt_small _ _ _ (by omega) (by omega)]
  exact and_congr Iff.rfl Iff.rfl

/-- A sum against the indicator of one word picks that entry. -/
theorem sum_pick (b n : ℕ) (f : ∀ k, k < b + n → EReal) (x : BitVec 32) (hb : b + n < 2 ^ 32) :
    (∑ k : Fin n, f (b + k.val) (by omega)
        * FloatOps.sitofp (F := Ideal) .f32 (BitVec.setWidth 32 (IntOp.cmpi .eq (IntOp.addi (BitVec.ofNat 32 b) (BitVec.ofNat 32 k.val)) x)))
      = if hi : b ≤ x.toNat ∧ x.toNat < b + n then f x.toNat hi.2 else 0 := by
  have e : ∀ k : Fin n, f (b + k.val) (by omega)
        * FloatOps.sitofp (F := Ideal) .f32 (BitVec.setWidth 32 (IntOp.cmpi .eq (IntOp.addi (BitVec.ofNat 32 b) (BitVec.ofNat 32 k.val)) x))
      = f (b + k.val) (by omega) * ind (b + k.val = x.toNat) := by
    intro k
    rw [sitofp_bit, ind_congr (eq_small b k.val x (by omega))]
  rw [Finset.sum_congr rfl fun k _ => e k]
  split
  · rename_i hi
    rw [Finset.sum_eq_single (⟨x.toNat - b, by omega⟩ : Fin n)]
    · have h : b + (x.toNat - b) = x.toNat := by omega
      simp only [h, ind, if_true, mul_one]
    · intro k _ hk
      have : ¬ b + k.val = x.toNat := fun h => hk (Fin.ext (by simp; omega))
      simp [ind, this]
    · intro h; exact absurd (Finset.mem_univ _) h
  · rename_i hi
    refine Finset.sum_eq_zero fun k _ => ?_
    have : ¬ b + k.val = x.toNat := fun h => hi ⟨by omega, by omega⟩
    simp [ind, this]

/-- One piece of the gather: the columns from `b` on, times the indicator of the wanted one. -/
def gChunk (b : ℕ) (h : S4x8400.Slices ![0, b] S4x1024) (tab : FVec Ideal S4x8400 .f32) (blk : IVec S1x128 32) : FVec Ideal S4x128 .f32 :=
  matmul dot_S4x1024_S1024x128_S4x128_1_0_0_1_n_n (some .fp32) (extractStridedSlice S4x1024 ![0, b] tab h)
    (sitofp .f32 (extui 32 (cmpi .eq (addi (broadcast S1024x128 (BitVec.ofNat 32 b)) (iota .tc S1024x128 32 [0] Gen.iota_S1024x128_d0_w32))
      (broadcastTo S1024x128 blk Gen.broadcasts_S1x128_S1024x128)) Gen.natLt_1_32)) (constant S4x128 .f32 0x00000000#32)

theorem gChunk_at (b : ℕ) (h) (hb : b + 1024 ≤ 8400) (tab : FVec Ideal S4x8400 .f32) (blk : IVec S1x128 32) (r : Fin 4) (j : Fin 128) :
    gChunk b h tab blk (ix2 r j)
      = if hi : b ≤ (blk (ix2 0 j)).toNat ∧ (blk (ix2 0 j)).toNat < b + 1024 then tab (ix2 r ⟨(blk (ix2 0 j)).toNat, by omega⟩) else 0 := by
  pointwise [gChunk, dot_S4x1024_S1024x128_S4x128_1_0_0_1_n_n]
  exact sum_pick b _ (fun k hk => tab (ix2 r ⟨k, by omega⟩)) _ (by omega)

/-- The last piece, of 208 columns. -/
def gLast (tab : FVec Ideal S4x8400 .f32) (blk : IVec S1x128 32) : FVec Ideal S4x128 .f32 :=
  matmul dot_S4x208_S208x128_S4x128_1_0_0_1_n_n (some .fp32) (extractStridedSlice S4x208 ![0, 8192] tab Gen.slices_S4x8400_o0_8192_S4x208)
    (sitofp .f32 (extui 32 (cmpi .eq (addi (broadcast S208x128 8192#32) (iota .tc S208x128 32 [0] Gen.iota_S208x128_d0_w32))
      (broadcastTo S208x128 blk Gen.broadcasts_S1x128_S208x128)) Gen.natLt_1_32)) (constant S4x128 .f32 0x00000000#32)

theorem gLast_at (tab : FVec Ideal S4x8400 .f32) (blk : IVec S1x128 32) (r : Fin 4) (j : Fin 128) :
    gLast tab blk (ix2 r j)
      = if hi : 8192 ≤ (blk (ix2 0 j)).toNat ∧ (blk (ix2 0 j)).toNat < 8192 + 208 then tab (ix2 r ⟨(blk (ix2 0 j)).toNat, by omega⟩) else 0 := by
  pointwise [gLast, dot_S4x208_S208x128_S4x128_1_0_0_1_n_n]
  exact sum_pick 8192 208 (fun k hk => tab (ix2 r ⟨k, by omega⟩)) _ (by omega)

/-- Column `i` of the table, 0 where there is none. -/
def tabAt (tab : Fin 4 → Fin 8400 → EReal) (r : Fin 4) (i : ℕ) : EReal := if h : i < 8400 then tab r ⟨i, h⟩ else 0

theorem gChunk_read (b : ℕ) (h) (hb : b + 1024 ≤ 8400) (hm : b % 1024 = 0) (tab : FVec Ideal S4x8400 .f32) (blk : IVec S1x128 32) (r : Fin 4)
    (j : Fin 128) :
    gChunk b h tab blk (ix2 r j)
      = if (blk (ix2 0 j)).toNat / 1024 = b / 1024 then tabAt (fun a k => tab (ix2 a k)) r (blk (ix2 0 j)).toNat else 0 := by
  rw [gChunk_at b h hb]
  set i := (blk (ix2 0 j)).toNat with hi0
  by_cases hi : i / 1024 = b / 1024
  · rw [if_pos hi, dif_pos (by omega), tabAt, dif_pos (by omega)]
  · rw [if_neg hi, dif_neg (by omega)]

theorem gLast_read (tab : FVec Ideal S4x8400 .f32) (blk : IVec S1x128 32) (r : Fin 4) (j : Fin 128) :
    gLast tab blk (ix2 r j)
      = if (blk (ix2 0 j)).toNat / 1024 = 8 then tabAt (fun a k => tab (ix2 a k)) r (blk (ix2 0 j)).toNat else 0 := by
  rw [gLast_at]
  set i := (blk (ix2 0 j)).toNat with hi0
  by_cases hi : i / 1024 = 8
  · rw [if_pos hi]
    by_cases hl : i < 8400
    · rw [dif_pos (by omega), tabAt, dif_pos hl]
    · rw [dif_neg (by omega), tabAt, dif_neg hl]
  · rw [if_neg hi, dif_neg (by omega)]

/-- The nine pieces add up to the wanted column. -/
theorem sum_pieces (tab : Fin 4 → Fin 8400 → EReal) (r : Fin 4) (i : ℕ) :
    (if i / 1024 = 0 / 1024 then tabAt tab r i else 0) + (if i / 1024 = 1024 / 1024 then tabAt tab r i else 0)
      + (if i / 1024 = 2048 / 1024 then tabAt tab r i else 0) + (if i / 1024 = 3072 / 1024 then tabAt tab r i else 0)
      + (if i / 1024 = 4096 / 1024 then tabAt tab r i else 0) + (if i / 1024 = 5120 / 1024 then tabAt tab r i else 0)
      + (if i / 1024 = 6144 / 1024 then tabAt tab r i else 0) + (if i / 1024 = 7168 / 1024 then tabAt tab r i else 0)
      + (if i / 1024 = 8 then tabAt tab r i else 0)
      = if h : i < 8400 then tab r ⟨i, h⟩ else 0 := by
  show _ = tabAt tab r i
  by_cases hq : i / 1024 < 9
  · generalize tabAt tab r i = T
    generalize i / 1024 = q at hq ⊢
    interval_cases q <;> simp
  · have : tabAt tab r i = 0 := dif_neg (by omega)
    simp [this]

/-- The pieces added up before the fifth. -/
def gAcc (tab : FVec Ideal S4x8400 .f32) (blk : IVec S1x128 32) : FVec Ideal S4x128 .f32 :=
  addf (addf (addf (addf (broadcast S4x128 (Scalar.ofBits .f32 0x00000000#32)) (gChunk 0 Gen.slices_S4x8400_o0_0_S4x1024 tab blk))
    (gChunk 1024 Gen.slices_S4x8400_o0_1024_S4x1024 tab blk)) (gChunk 2048 Gen.slices_S4x8400_o0_2048_S4x1024 tab blk))
    (gChunk 3072 Gen.slices_S4x8400_o0_3072_S4x1024 tab blk)

/-- 128 columns gathered, over four rows of zeros. -/
def gBlk (tab : FVec Ideal S4x8400 .f32) (blk : IVec S1x128 32) : FVec Ideal S8x128 .f32 :=
  shapeCast S8x128 (concatenate S8x128 0 [⟨S4x128, addf (addf (addf (addf (addf (gAcc tab blk)
      (gChunk 4096 Gen.slices_S4x8400_o0_4096_S4x1024 tab blk)) (gChunk 5120 Gen.slices_S4x8400_o0_5120_S4x1024 tab blk))
      (gChunk 6144 Gen.slices_S4x8400_o0_6144_S4x1024 tab blk)) (gChunk 7168 Gen.slices_S4x8400_o0_7168_S4x1024 tab blk))
      (gLast tab blk)⟩, ⟨S4x128, broadcast S4x128 (Scalar.ofBits .f32 0x00000000#32)⟩] Gen.concatenates_S4x128_S4x128_S8x128_d0)
    Gen.shapeCasts_S8x128_S8x128

/-- The gathered columns of block `o`. -/
def gOff (o : ℕ) (h : S1x1024.Slices ![0, o] S1x128) (tab : FVec Ideal S4x8400 .f32) (ix : IVec S1x1024 32) : FVec Ideal S8x128 .f32 :=
  gBlk tab (extractStridedSlice S1x128 ![0, o] ix h)

theorem pay8_eq (tab ix) : k1_pay8 (F := Ideal) tab (k1_pay4 ix) (k1_pay5 tab ix) (k1_pay6 ix) (k1_pay7 tab)
    = gOff 0 Gen.slices_S1x1024_o0_0_S1x128 tab ix := rfl
theorem pay43_eq (tab ix) : k1_pay43 (F := Ideal) tab (k1_pay39 ix) (k1_pay40 tab ix) (k1_pay41 ix) (k1_pay42 tab)
    = gOff 896 Gen.slices_S1x1024_o0_896_S1x128 tab ix := rfl

theorem gOff_at (o : ℕ) (h) (ho : o + 128 ≤ 1024) (tab : FVec Ideal S4x8400 .f32) (ix : IVec S1x1024 32) (r : Fin 8) (j : Fin 128) :
    gOff o h tab ix (ix2 r j)
      = if hr : r.val < 4 then gath (fun a k => tab (ix2 a k)) (fun c : Fin 1024 => (ix (ix2 0 c)).toNat) ⟨r.val, hr⟩ ⟨o + j.val, by omega⟩ else 0 := by
  pointwise [gOff, gBlk, gAcc]
  refine dite_congr rfl (fun hr => ?_) fun _ => rfl
  have hx : extractStridedSlice S1x128 ![0, o] ix h (ix2 0 j) = ix (ix2 0 ⟨o + j.val, by omega⟩) := by pointwise
  rw [gChunk_read 0 _ (by omega) (by omega), gChunk_read 1024 _ (by omega) (by omega), gChunk_read 2048 _ (by omega) (by omega),
    gChunk_read 3072 _ (by omega) (by omega), gChunk_read 4096 _ (by omega) (by omega), gChunk_read 5120 _ (by omega) (by omega),
    gChunk_read 6144 _ (by omega) (by omega), gChunk_read 7168 _ (by omega) (by omega), gLast_read]
  simp only [hx, gath]
  exact sum_pieces (fun a k => tab (ix2 a k)) ⟨r.val, hr⟩ _

/-- The row of valid marks. -/
theorem pay47_at (X3 : S1x1x1024.Idx → EReal) (i : S1x1024.Idx) :
    k1_pay47 (F := Ideal) X3 i = 1#1 ↔ vS (fun j => X3 (ix3 0 0 j)) (i 1) := by
  pointwise [k1_pay47, k1_pay46]
  exact ofBool_decide _

theorem pay48_eq (X3 : S1x1x1024.Idx → EReal) :
    k1_pay48 (F := Ideal) X3 = row fun j => ind (vS (fun j => X3 (ix3 0 0 j)) j) := by
  funext i
  pointwise [k1_pay48, k1_pay47, k1_pay46, row]
  rw [sitofp_bit]
  exact ind_congr (ofBool_decide _)

theorem pay49_eq (X3 : S1x1x1024.Idx → EReal) :
    k1_pay49 (F := Ideal) X3 = ∑ j, ind (vS (fun j => X3 (ix3 0 0 j)) j) := by
  unfold k1_pay49
  rw [pay48_eq]
  pointwise [row]
  exact Fin.sum_univ_one _

theorem neg_inf : Ideal.ofBits .f32 0xFF800000#32 = ⊥ := by
  simp [Ideal.ofBits, Ideal.ieee]

theorem pay2_pos (a b : Fin 1024 → EReal) : 0 < k1_pay2 (F := Ideal) (row a) (row b) ↔ a ≠ b := by
  have e : k1_pay2 (F := Ideal) (row a) (row b)
      = Finset.fold max (Ideal.ofBits FTy.f32 0xFF800000#32) (fun x : Fin 1 × Fin 1024 => if a x.2 ≠ b x.2 then (1 : EReal) else 0) Finset.univ := by
    pointwise [k1_pay2, row]
  rw [e, Finset.lt_fold_max, neg_inf]
  constructor
  · rintro (h | ⟨x, _, hx⟩) hab
    · simp at h
    · rw [if_neg (by simp [hab])] at hx; exact lt_irrefl _ hx
  · intro hab
    obtain ⟨j, hj⟩ := Function.ne_iff.1 hab
    exact .inr ⟨(0, j), Finset.mem_univ _, by rw [if_pos hj]; exact zero_lt_one⟩

theorem pay3_eq (v a : Fin 1024 → EReal) :
    k1_pay3 (F := Ideal) (row v) (row a) (Scalar.ofBits .f32 0x00000000#32) = row fun j => if 0 < a j then 0 else v j := by
  funext i
  pointwise [k1_pay3, row]

theorem pay81_eq (v a : Fin 1024 → EReal) :
    k1_pay81 (F := Ideal) (row v) (row a) = row fun j => if 0 < a j then 0 else v j := by
  funext i
  pointwise [k1_pay81, row]

section Corners
variable (X3 : S1x1x1024.Idx → EReal) (X5 : S8x1024.Idx → EReal)

/-- The boxes the kernel reads back from the gathered columns: 0 at an invalid candidate. -/
def boxOf (r : Fin 4) (j : Fin 1024) : EReal := if vS (fun j => X3 (ix3 0 0 j)) j then X5 (ix2 ⟨r.val, by omega⟩ j) else 0

theorem sel47 (a b : EReal) (j : Fin 1024) :
    Scalar.select (k1_pay47 (F := Ideal) X3 (ix2 0 j)) a b = if vS (fun j => X3 (ix3 0 0 j)) j then a else b :=
  if_congr (pay47_at X3 (ix2 0 j)) rfl rfl

theorem pay50_eq : k1_pay50 (F := Ideal) (k1_pay47 (F := Ideal) X3) X5 = row (boxOf X3 X5 0) := by
  funext i
  obtain ⟨a, j, rfl⟩ : ∃ a j, i = ix2 a j := ⟨i 0, i 1, eq_ix2 i⟩
  obtain rfl : a = 0 := Subsingleton.elim _ _
  pointwise [k1_pay50, row, boxOf, sel47]

theorem pay51_eq : k1_pay51 (F := Ideal) (k1_pay47 (F := Ideal) X3) X5 = row (boxOf X3 X5 1) := by
  funext i
  obtain ⟨a, j, rfl⟩ : ∃ a j, i = ix2 a j := ⟨i 0, i 1, eq_ix2 i⟩
  obtain rfl : a = 0 := Subsingleton.elim _ _
  pointwise [k1_pay51, row, boxOf, sel47]

theorem pay52_eq : k1_pay52 (F := Ideal) (k1_pay47 (F := Ideal) X3) X5 = row (boxOf X3 X5 2) := by
  funext i
  obtain ⟨a, j, rfl⟩ : ∃ a j, i = ix2 a j := ⟨i 0, i 1, eq_ix2 i⟩
  obtain rfl : a = 0 := Subsingleton.elim _ _
  pointwise [k1_pay52, row, boxOf, sel47]

theorem pay53_eq : k1_pay53 (F := Ideal) (k1_pay47 (F := Ideal) X3) X5 = row (boxOf X3 X5 3) := by
  funext i
  obtain ⟨a, j, rfl⟩ : ∃ a j, i = ix2 a j := ⟨i 0, i 1, eq_ix2 i⟩
  obtain rfl : a = 0 := Subsingleton.elim _ _
  pointwise [k1_pay53, row, boxOf, sel47]

theorem pay54_eq : k1_pay54 (F := Ideal) (k1_pay47 (F := Ideal) X3) X5 = row (bX1 (boxOf X3 X5)) := by
  unfold k1_pay54
  simp only [pay50_eq, pay51_eq, pay52_eq, pay53_eq]
  rfl

theorem pay55_eq : k1_pay55 (F := Ideal) (k1_pay47 (F := Ideal) X3) X5 = row (bY1 (boxOf X3 X5)) := by
  unfold k1_pay55
  simp only [pay50_eq, pay51_eq, pay52_eq, pay53_eq]
  rfl

theorem pay56_eq : k1_pay56 (F := Ideal) (k1_pay47 (F := Ideal) X3) X5 = row (bX2 (boxOf X3 X5)) := by
  unfold k1_pay56
  simp only [pay50_eq, pay51_eq, pay52_eq, pay53_eq]
  rfl

theorem pay57_eq : k1_pay57 (F := Ideal) (k1_pay47 (F := Ideal) X3) X5 = row (bY2 (boxOf X3 X5)) := by
  unfold k1_pay57
  simp only [pay50_eq, pay51_eq, pay52_eq, pay53_eq]
  rfl

theorem pay58_eq : k1_pay58 (F := Ideal) (k1_pay47 (F := Ideal) X3) X5 = row (bArea (boxOf X3 X5)) := by
  unfold k1_pay58
  simp only [pay54_eq, pay55_eq, pay56_eq, pay57_eq]
  rfl

theorem pay59_eq : k1_pay59 (F := Ideal) (k1_pay47 (F := Ideal) X3) X5 = col (bX1 (boxOf X3 X5)) := by
  unfold k1_pay59
  simp only [pay54_eq]
  exact transpose_row _

theorem pay60_eq : k1_pay60 (F := Ideal) (k1_pay47 (F := Ideal) X3) X5 = col (bY1 (boxOf X3 X5)) := by
  unfold k1_pay60
  simp only [pay55_eq]
  exact transpose_row _

theorem pay61_eq : k1_pay61 (F := Ideal) (k1_pay47 (F := Ideal) X3) X5 = col (bX2 (boxOf X3 X5)) := by
  unfold k1_pay61
  simp only [pay56_eq]
  exact transpose_row _

theorem pay62_eq : k1_pay62 (F := Ideal) (k1_pay47 (F := Ideal) X3) X5 = col (bY2 (boxOf X3 X5)) := by
  unfold k1_pay62
  simp only [pay57_eq]
  exact transpose_row _

theorem pay63_eq : k1_pay63 (F := Ideal) (k1_pay47 (F := Ideal) X3) X5 = col (bArea (boxOf X3 X5)) := by
  unfold k1_pay63
  simp only [pay58_eq]
  exact transpose_row _

end Corners

theorem pay1_at (s a b k c d : Fin 1024 → EReal) (r : Fin 8) (j : Fin 1024) :
    k1_pay1 (F := Ideal) (row s) (row a) (row b) (row k) k1_pay82 (row c) (row d) (ix3 0 r j)
      = (match r.val with
          | 0 => c j
          | 1 => d j
          | 2 => Ideal.div (a j) cScale
          | 3 => Ideal.div (b j) cScale
          | 4 => s j
          | _ => 0) * k j := by
  pointwise [k1_pay1, row, k1_pay82]
  fin_cases r <;> rfl

end Cert.Proof

end
-- ==== Proof.NmsBlock.lean ====
/-
  The guarded blocks of the suppression kernel. Each of its three passes over the candidates runs in eight blocks of 128,
  and block `o` runs only when more than `o` candidates are valid. A pass keeps an invariant "everything before `n` that a
  running block covers is done"; one lemma per pass carries it over a block, at any offset.
-/
module

public import proofs.«01_k».proof.Proof.Own
public import proofs.«01_k».proof.Proof.NmsVal

@[expose] public section

set_option maxRecDepth 65536

noncomputable section

namespace Cert.Proof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open scoped Classical

local notation "𝕄" => MT nD τ sig Unit (Elt Idealize.ShloMosaic.Ideal) ℕ UU ℕ

/-- The programs the bodies are written in, over the extended reals. -/
abbrev PK (α : Type) := Prog (TpuEff nD τ sig (Elt Ideal) (Λ₀ Ideal) .tc) α

/-! ## Rectangles -/

theorem idx_whole {s : Shape} {off : Fin s.rank → ℕ} (inb : ∀ a, off a + s.size a ≤ s.size a) (i : s.Idx) :
    (Rect.unit (s := s) off s.size inb).emb i = i := by
  funext a
  refine Fin.ext ?_
  have := inb a
  show off a + 1 * (i a).val = (i a).val
  omega

/-- A store through a rectangle that covers everything leaves the stored value. -/
theorem overlay_whole {s : Shape} {α : Type} {off : Fin s.rank → ℕ} (inb : ∀ a, off a + s.size a ≤ s.size a) (X w : s.Idx → α) :
    (Rect.unit (s := s) off s.size inb).overlay X w = w := by
  funext i
  conv_lhs => rw [← idx_whole inb i]
  exact Rect.overlay_emb (Rect.unit (s := s) off s.size inb) X w i

/-- A load through such a rectangle reads the contents. -/
theorem ld_whole {s : Shape} {e : EltTy} {off : Fin s.rank → ℕ} (inb : ∀ a, off a + s.size a ≤ s.size a) (X : s.Idx → Elt Ideal e) :
    View.ld X (Rect.unit (s := s) off s.size inb) = X := by
  funext i
  show X ((Rect.unit (s := s) off s.size inb).emb i) = X i
  rw [idx_whole]

section Rects
variable {n0 n1 m0 m1 a0 a1 : ℕ}

/-- A store through a rectangle of a matrix, read back: the stored value inside … -/
theorem overlay2_in {α : Type} (inb) (X : (⟨2, ![n0, n1]⟩ : Shape).Idx → α) (w) (r : Fin n0) (c : Fin n1)
    (hr : a0 ≤ r.val ∧ r.val < a0 + m0) (hc : a1 ≤ c.val ∧ c.val < a1 + m1) :
    (Rect.unit (s := ⟨2, ![n0, n1]⟩) ![a0, a1] ![m0, m1] inb).overlay X w (ix2 r c)
      = w (ix2 (n0 := m0) (n1 := m1) ⟨r.val - a0, by omega⟩ ⟨c.val - a1, by omega⟩) := by
  have e : ix2 r c = (Rect.unit (s := ⟨2, ![n0, n1]⟩) ![a0, a1] ![m0, m1] inb).emb
      (ix2 (n0 := m0) (n1 := m1) ⟨r.val - a0, by omega⟩ ⟨c.val - a1, by omega⟩) := by
    funext a
    refine Fin.ext ?_
    fin_cases a
    · show r.val = a0 + 1 * (r.val - a0); omega
    · show c.val = a1 + 1 * (c.val - a1); omega
  rw [e]
  exact Rect.overlay_emb _ X w _

/-- … and the old contents outside. -/
theorem overlay2_out {α : Type} (inb) (X : (⟨2, ![n0, n1]⟩ : Shape).Idx → α) (w) (r : Fin n0) (c : Fin n1)
    (h : ¬ (a0 ≤ r.val ∧ r.val < a0 + m0) ∨ ¬ (a1 ≤ c.val ∧ c.val < a1 + m1)) :
    (Rect.unit (s := ⟨2, ![n0, n1]⟩) ![a0, a1] ![m0, m1] inb).overlay X w (ix2 r c) = X (ix2 r c) := by
  refine Rect.overlay_of_not_mem _ X w fun hm => ?_
  have h0 := Rect.mem_set_unit.1 hm 0
  have h1 := Rect.mem_set_unit.1 hm 1
  rcases h with h | h
  · exact h h0
  · exact h h1

theorem ld2 {e : EltTy} (inb) (X : (⟨2, ![n0, n1]⟩ : Shape).Idx → Elt Ideal e) (r : Fin m0) (c : Fin m1)
    (hr : a0 + r.val < n0) (hc : a1 + c.val < n1) :
    View.ld X (Rect.unit (s := ⟨2, ![n0, n1]⟩) ![a0, a1] ![m0, m1] inb) (ix2 r c) = X (ix2 ⟨a0 + r.val, hr⟩ ⟨a1 + c.val, hc⟩) := by
  show X _ = X _
  congr 1
  funext a
  refine Fin.ext ?_
  fin_cases a
  · show a0 + 1 * r.val = a0 + r.val; omega
  · show a1 + 1 * c.val = a1 + c.val; omega

end Rects

/-! ## Steps -/

/-- The guard of the block at `o`. -/
def gbit (v14 o : BitVec 32) : BitVec 1 := Scalar.cmpi .ne (Scalar.extui (Scalar.cmpi .sgt v14 o) : BitVec 32) 0#32

theorem guard_iff {nv o : ℕ} (hn : nv ≤ 1024) (ho : o ≤ 1024) : gbit (BitVec.ofNat 32 nv) (BitVec.ofNat 32 o) = 1#1 ↔ o < nv := by
  unfold gbit
  have h : Scalar.cmpi .sgt (BitVec.ofNat 32 nv) (BitVec.ofNat 32 o) = 1#1 ↔ o < nv := by
    show BitVec.ofBool ((BitVec.ofNat 32 o).slt (BitVec.ofNat 32 nv)) = 1#1 ↔ _
    rw [BitVec.slt, ofBool_decide, BitVec.toInt_eq_toNat_of_lt, BitVec.toInt_eq_toNat_of_lt] <;>
      simp only [BitVec.toNat_ofNat] <;> omega
  rw [← h]
  generalize Scalar.cmpi .sgt (BitVec.ofNat 32 nv) (BitVec.ofNat 32 o) = b
  revert b; decide

/-- A guarded block before the rest `k` of the program. -/
def gate {α : Type} (g : BitVec 1) (p : PK α → PK α) (k : PK α) : PK α := if g = 1#1 then p k else k

theorem load_bind (c : Dev nD) (bd : Option ℕ) {S : Shape} {e : EltTy} {α : Type} (M : Memref sig .tc .vmem S e) (r : Rect S)
    (hl : M.view.LoadsAt r.toLoadRect) (k : (r.toLoadRect.shape.Idx → Elt Ideal e) → PK α)
    (X : S.Idx → Elt Ideal e) (R : sProp 𝕄) (Q : α → sProp 𝕄) (Y : r.shape.Idx → Elt Ideal e) (hY : View.ld X r = Y)
    (h : iprop(ow c M X ∗ R) ⊢ wpK c bd (k Y) Q) :
    iprop(ow c M X ∗ R) ⊢ wpK c bd (Prog.lift (.load (cs := .vmem) M r.toLoadRect hl) >>= k) Q := by
  subst hY
  iintro ⟨H, HR⟩
  iapply (load_own c bd M r hl k X Q) $$ H
  iintro H
  iapply h
  isplitl [H]; · iexact H
  iexact HR

theorem store_bind (c : Dev nD) (bd : Option ℕ) {S : Shape} {e : EltTy} {α : Type} (M : Memref sig .tc .vmem S e) (r : Rect S)
    (w : r.shape.Idx → Elt Ideal e) (hx : (M.access r).Stores Finset.univ) (hm : Finset.univ = Finset.univ ∨ ∀ a, r.stride a = 1)
    (k : PUnit → PK α) (X : S.Idx → Elt Ideal e) (R : sProp 𝕄) (Q : α → sProp 𝕄)
    (h : iprop(ow c M (r.overlay X w) ∗ R) ⊢ wpK c bd (k ⟨⟩) Q) :
    iprop(ow c M X ∗ R) ⊢ wpK c bd (Prog.lift (.store (cs := .vmem) M r w Finset.univ hx hm) >>= k) Q := by
  iintro ⟨H, HR⟩
  iapply (store_own c bd M r w hx hm k X Q) $$ H
  iintro H
  iapply h
  isplitl [H]; · iexact H
  iexact HR

/-! ## The passes -/

section Passes
variable (c : Dev nD) (bd : Option ℕ) {α : Type} (R : sProp 𝕄) (Q : α → sProp 𝕄)

/-- The columns before `n` that a running block covers hold the gathered boxes. -/
def Cols (b : Fin 4 → Fin 8400 → EReal) (ix : Fin 1024 → ℕ) (nv n : ℕ) (X : S8x1024.Idx → EReal) : Prop :=
  ∀ (r : Fin 4) (j : Fin 1024), j.val < n → 128 * (j.val / 128) < nv → X (ix2 ⟨r.val, by omega⟩ j) = gath b ix r j

/-- One block of the gather. -/
theorem colGuard (M : Memref sig .tc .vmem S8x1024 .f32) (g : BitVec 1) (o nv : ℕ) (hs : S1x1024.Slices ![0, o] S1x128)
    (tab : FVec Ideal S4x8400 .f32) (ix : IVec S1x1024 32) (inb) (hl hx hm) (X : S8x1024.Idx → EReal)
    (p : PK α → PK α) (k : PK α)
    (hX : Cols (fun a k => tab (ix2 a k)) (fun j => (ix (ix2 0 j)).toNat) nv o X)
    (hg : g = 1#1 ↔ o < nv) (ho : o + 128 ≤ 1024) (hd : o % 128 = 0)
    (hp : p k = (Prog.lift (.load (cs := .vmem) M (Rect.unit (s := S8x1024) ![0, o] ![8, 128] inb).toLoadRect hl) >>= fun _ =>
      Prog.lift (.store (cs := .vmem) M (Rect.unit (s := S8x1024) ![0, o] ![8, 128] inb) (gOff o hs tab ix) Finset.univ hx hm) >>= fun _ => k))
    (hk : ∀ X', Cols (fun a k => tab (ix2 a k)) (fun j => (ix (ix2 0 j)).toNat) nv (o + 128) X' → iprop(ow c M X' ∗ R) ⊢ wpK c bd k Q) :
    iprop(ow c M X ∗ R) ⊢ wpK c bd (gate g p k) Q := by
  unfold gate
  split
  · rw [hp]
    refine load_bind c bd M _ hl _ X R Q _ rfl ?_
    refine store_bind c bd M _ _ hx hm _ X R Q ?_
    refine hk _ fun r j hj hv => ?_
    by_cases hc : o ≤ j.val
    · rw [overlay2_in (a0 := 0) (a1 := o) (m0 := 8) (m1 := 128) inb X _ _ j ⟨by omega, by show r.val < _; omega⟩ ⟨hc, by omega⟩, gOff_at o hs ho]
      rw [dif_pos (by show r.val - 0 < 4; omega)]
      have e : (⟨o + (j.val - o), by omega⟩ : Fin 1024) = j := Fin.ext (by show o + (j.val - o) = j.val; omega)
      simp only [e]; rfl
    · rw [overlay2_out inb X _ _ j (.inr (by omega))]
      exact hX r j (by omega) hv
  · rename_i hn
    refine hk X fun r j hj hv => hX r j ?_ hv
    rw [hg] at hn
    by_contra hc
    have : j.val / 128 = o / 128 := by omega
    omega

/-- The rows before `n` that a running block covers hold the suppression mask. -/
def Rows (B : Fin 4 → Fin 1024 → EReal) (nv n : ℕ) (X : S1024x1024.Idx → EReal) : Prop :=
  ∀ r j : Fin 1024, r.val < n → 128 * (r.val / 128) < nv → X (ix2 r j) = ind (bSup B r j)

/-- One block of the mask. -/
theorem rowGuard (M : Memref sig .tc .vmem S1024x1024 .f32) (g : BitVec 1) (o nv : ℕ) (hs : S1024x1.Slices ![o, 0] S128x1)
    (B : Fin 4 → Fin 1024 → EReal) (w : FVec Ideal S128x1024 .f32) (inb) (hl hx hm) (X : S1024x1024.Idx → EReal) (k : PK α)
    (hX : Rows B nv o X) (hg : g = 1#1 ↔ o < nv) (ho : o + 128 ≤ 1024) (hd : o % 128 = 0)
    (hw : w = supBlk o hs (row (bX1 B)) (row (bY1 B)) (row (bX2 B)) (row (bY2 B)) (row (bArea B))
      (col (bX1 B)) (col (bY1 B)) (col (bX2 B)) (col (bY2 B)) (col (bArea B)))
    (hk : ∀ X', Rows B nv (o + 128) X' → iprop(ow c M X' ∗ R) ⊢ wpK c bd k Q) :
    iprop(ow c M X ∗ R) ⊢ wpK c bd (gate g (fun k =>
      (Prog.lift (.load (cs := .vmem) M (Rect.unit (s := S1024x1024) ![o, 0] ![128, 1024] inb).toLoadRect hl) >>= fun _ =>
      Prog.lift (.store (cs := .vmem) M (Rect.unit (s := S1024x1024) ![o, 0] ![128, 1024] inb) w Finset.univ hx hm) >>= fun _ => k)) k) Q := by
  unfold gate
  split
  · refine load_bind c bd M _ hl _ X R Q _ rfl ?_
    refine store_bind c bd M _ _ hx hm _ X R Q ?_
    refine hk _ fun r j hj hv => ?_
    by_cases hc : o ≤ r.val
    · rw [overlay2_in (a0 := o) (a1 := 0) (m0 := 128) (m1 := 1024) inb X _ r j ⟨hc, by omega⟩ ⟨by omega, by omega⟩, hw, supBlk_at o hs ho]
      have e : (⟨o + (r.val - o), by omega⟩ : Fin 1024) = r := Fin.ext (by show o + (r.val - o) = r.val; omega)
      simp only [e]; rfl
    · rw [overlay2_out inb X _ r j (.inl (by omega))]
      exact hX r j (by omega) hv
  · rename_i hn
    refine hk X fun r j hj hv => hX r j ?_ hv
    rw [hg] at hn
    by_contra hc
    have : r.val / 128 = o / 128 := by omega
    omega

/-- Entry `j` of the support row is nonnegative, and positive when a chosen candidate before `n`, in a running block,
    suppresses `j`. -/
def Supp (G : Fin 1024 → Prop) (M : Fin 1024 → Fin 1024 → Prop) (nv n : ℕ) (X : S1x1024.Idx → EReal) : Prop :=
  ∀ j : Fin 1024, 0 ≤ X (ix2 0 j) ∧ (0 < X (ix2 0 j) ↔ ∃ r : Fin 1024, r.val < n ∧ 128 * (r.val / 128) < nv ∧ G r ∧ M r j)

theorem supp_step {B : Fin 4 → Fin 1024 → EReal} {G : Fin 1024 → Prop} {nv o : ℕ} (h) (ho : o + 128 ≤ 1024) (hd : o % 128 = 0) (hv : o < nv)
    {X : S1x1024.Idx → EReal} {blk : FVec Ideal S128x1024 .f32} (hX : Supp G (bSup B) nv o X)
    (hb : ∀ (k : Fin 128) (j : Fin 1024), blk (ix2 k j) = ind (bSup B ⟨o + k.val, by omega⟩ j)) :
    Supp G (bSup B) nv (o + 128) (kstep o h (row fun j => ind (G j)) X blk) := by
  intro j
  rw [kstep_at o h ho]
  have e : ∀ k : Fin 128, (row fun j => ind (G j)) (ix2 0 ⟨o + k.val, by omega⟩) * blk (ix2 k j)
      = ind (G ⟨o + k.val, by omega⟩ ∧ bSup B ⟨o + k.val, by omega⟩ j) := by
    intro k
    rw [hb]
    show ind (G _) * ind _ = _
    unfold ind
    by_cases h1 : G ⟨o + k.val, by omega⟩ <;> by_cases h2 : bSup B ⟨o + k.val, by omega⟩ j <;> simp [h1, h2]
  rw [Finset.sum_congr rfl fun k _ => e k]
  obtain ⟨h0, h1⟩ := hX j
  have hs : (0 : EReal) ≤ ∑ k : Fin 128, ind (G ⟨o + k.val, by omega⟩ ∧ bSup B ⟨o + k.val, by omega⟩ j) :=
    Finset.sum_nonneg fun k _ => ind_nonneg _
  have hsp : (0 : EReal) < (∑ k : Fin 128, ind (G ⟨o + k.val, by omega⟩ ∧ bSup B ⟨o + k.val, by omega⟩ j))
      ↔ ∃ k : Fin 128, G ⟨o + k.val, by omega⟩ ∧ bSup B ⟨o + k.val, by omega⟩ j := by
    constructor
    · intro hp
      by_contra hc
      push Not at hc
      refine hp.ne' (Finset.sum_eq_zero fun k _ => ?_)
      unfold ind
      rw [if_neg fun hk => hc k hk.1 hk.2]
    · rintro ⟨k, hk⟩
      refine lt_of_lt_of_le ?_ (Finset.single_le_sum (f := fun k : Fin 128 => ind (G ⟨o + k.val, by omega⟩ ∧ bSup B ⟨o + k.val, by omega⟩ j)) (fun k _ => ind_nonneg _) (Finset.mem_univ k))
      exact (ind_pos _).2 hk
  refine ⟨add_nonneg h0 hs, ?_⟩
  constructor
  · intro hp
    by_cases hx : 0 < X (ix2 0 j)
    · obtain ⟨r, a, b⟩ := h1.1 hx
      exact ⟨r, by omega, b⟩
    · have hx0 : X (ix2 0 j) = 0 := le_antisymm (not_lt.1 hx) h0
      rw [hx0, zero_add] at hp
      obtain ⟨k, hk⟩ := hsp.1 hp
      exact ⟨⟨o + k.val, by omega⟩, by show o + k.val < _; omega, by show 128 * ((o + k.val) / 128) < nv; omega, hk⟩
  · rintro ⟨r, a, b, hr⟩
    by_cases hc : r.val < o
    · exact lt_of_lt_of_le (h1.2 ⟨r, hc, b, hr⟩) (le_add_of_nonneg_right hs)
    · refine lt_of_lt_of_le (hsp.2 ⟨⟨r.val - o, by omega⟩, ?_⟩) (le_add_of_nonneg_left h0)
      have e : (⟨o + (r.val - o), by omega⟩ : Fin 1024) = r := Fin.ext (by show o + (r.val - o) = r.val; omega)
      show G ⟨o + (r.val - o), _⟩ ∧ bSup B ⟨o + (r.val - o), _⟩ j
      rw [e]; exact hr

/-- One block of the support row. -/
theorem suppGuard (M7 : Memref sig .tc .vmem S1x1024 .f32) (M6 : Memref sig .tc .vmem S1024x1024 .f32) (g : BitVec 1) (o nv : ℕ)
    (hs : S1x1024.Slices ![0, o] S1x128) (B : Fin 4 → Fin 1024 → EReal) (G : Fin 1024 → Prop) (inb7 inb6) (hl1 hl2 hl3 hx hm)
    (w : FVec Ideal S1x1024 .f32 → FVec Ideal S128x1024 .f32 → FVec Ideal S1x1024 .f32) (X7 : S1x1024.Idx → EReal)
    (X6 : S1024x1024.Idx → EReal) (k : PK α)
    (hw : w = kstep o hs (row fun j => ind (G j)))
    (hX7 : Supp G (bSup B) nv o X7) (hX6 : Rows B nv 1024 X6) (hg : g = 1#1 ↔ o < nv) (ho : o + 128 ≤ 1024) (hd : o % 128 = 0)
    (hk : ∀ X', Supp G (bSup B) nv (o + 128) X' → iprop(ow c M7 X' ∗ ow c M6 X6 ∗ R) ⊢ wpK c bd k Q) :
    iprop(ow c M7 X7 ∗ ow c M6 X6 ∗ R) ⊢ wpK c bd (gate g (fun k =>
      (Prog.lift (.load (cs := .vmem) M7 (Rect.unit (s := S1x1024) ![0, 0] ![1, 1024] inb7).toLoadRect hl1) >>= fun (v145 : S1x1024.Idx → Elt Ideal .f32) =>
      Prog.lift (.load (cs := .vmem) M6 (Rect.unit (s := S1024x1024) ![o, 0] ![128, 1024] inb6).toLoadRect hl2) >>= fun (v147 : S128x1024.Idx → Elt Ideal .f32) =>
      Prog.lift (.load (cs := .vmem) M7 (Rect.unit (s := S1x1024) ![0, 0] ![1, 1024] inb7).toLoadRect hl3) >>= fun _ =>
      Prog.lift (.store (cs := .vmem) M7 (Rect.unit (s := S1x1024) ![0, 0] ![1, 1024] inb7) (w v145 v147) Finset.univ hx hm) >>= fun _ => k)) k) Q := by
  unfold gate
  split
  · rename_i hgo
    refine load_bind c bd M7 _ hl1 _ X7 _ Q _ rfl ?_
    refine sep_left_comm.1.trans ?_
    refine load_bind c bd M6 _ hl2 _ X6 _ Q _ rfl ?_
    refine sep_left_comm.1.trans ?_
    refine load_bind c bd M7 _ hl3 _ X7 _ Q _ rfl ?_
    refine store_bind c bd M7 _ _ hx hm _ X7 _ Q ?_
    refine hk _ ?_
    have e1 := overlay_whole (s := S1x1024) inb7 X7
    have e2 := ld_whole (s := S1x1024) (e := .f32) inb7 X7
    rw [e1, e2, hw]
    refine supp_step hs ho hd (hg.1 hgo) hX7 fun k j => ?_
    refine (ld2 (e := .f32) (a0 := o) (a1 := 0) inb6 X6 k j (by omega) (by omega)).trans ?_
    have e : (⟨0 + j.val, by omega⟩ : Fin 1024) = j := Fin.ext (by show 0 + j.val = j.val; omega)
    rw [e]
    exact hX6 _ j (by show o + k.val < 1024; omega) (by have := hg.1 hgo; show 128 * ((o + k.val) / 128) < nv; omega)
  · rename_i hn
    refine hk X7 fun j => ⟨(hX7 j).1, (hX7 j).2.trans ?_⟩
    constructor
    · rintro ⟨r, a, b⟩; exact ⟨r, by omega, b⟩
    · rintro ⟨r, a, b, hr⟩
      rw [hg] at hn
      refine ⟨r, ?_, b, hr⟩
      by_contra hc
      have : r.val / 128 = o / 128 := by omega
      omega

end Passes

end Cert.Proof

end
-- ==== Proof.NmsForms.lean ====
/-
  The parts of the suppression kernel's body written as a chain of guarded blocks, each block before the rest of the
  program. The printed parts are these chains by unfolding.
-/
module

public import proofs.«01_k».proof.Proof.NmsBlock

@[expose] public section

set_option maxRecDepth 65536

noncomputable section

namespace Cert.Proof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open scoped Classical

local notation "𝕄" => MT nD τ sig Unit (Elt Idealize.ShloMosaic.Ideal) ℕ UU ℕ

section Parts
variable (i : grid1.Coords) (arg1 : Memref sig .tc .vmem S1x4x8400 .f32) (harg1 : arg1.IsWhole)
  (arg2 : Memref sig .tc .vmem S1x1x1024 .i32) (harg2 : arg2.IsWhole) (arg3 : Memref sig .tc .vmem S1x1x1024 .f32) (harg3 : arg3.IsWhole)
  (arg4 : Memref sig .tc .vmem S1x8x1024 .f32) (harg4 : arg4.IsWhole) (arg5 : Memref sig .tc .vmem S8x1024 .f32) (harg5 : arg5.IsWhole)
  (arg6 : Memref sig .tc .vmem S1024x1024 .f32) (harg6 : arg6.IsWhole) (arg7 : Memref sig .tc .vmem S1x1024 .f32) (harg7 : arg7.IsWhole)

/-- The word that counts the valid candidates. -/
def cntW (v4 : Vec Ideal S1x1x1024 .f32) : BitVec 32 := Scalar.fptosi (F := Ideal) 32 (k1_pay49 v4)

/-- The first five gather blocks, the number of valid candidates at hand. -/
def rest17 (v1 : FVec Ideal S4x8400 .f32) (v3 : IVec S1x1024 32) (v4 : Vec Ideal S1x1x1024 .f32) (v14 : BitVec 32) :
    PK (Σ' (v1 : FVec Ideal S4x8400 .f32) (v3 : IVec S1x1024 32) (v5 : FVec Ideal S1x1024 .f32) (v7 : IVec S1x1024 1) (v9 : FVec Ideal S1x1024 .f32) (v14 : BitVec 32), BitVec 32) :=
    gate (gbit v14 0#32) (fun k => k1_part1 i arg1 harg1 arg2 harg2 arg3 harg3 arg4 harg4 arg5 harg5 arg6 harg6 arg7 harg7 v1 v3 >>= fun x => match x with
      | ⟨a, b, c, d⟩ => k1_part2 i arg1 harg1 arg2 harg2 arg3 harg3 arg4 harg4 arg5 harg5 arg6 harg6 arg7 harg7 v1 a b c d >>= fun _ => k) <|
    gate (gbit v14 128#32) (fun k => k1_part3 i arg1 harg1 arg2 harg2 arg3 harg3 arg4 harg4 arg5 harg5 arg6 harg6 arg7 harg7 v1 v3 >>= fun x => match x with
      | ⟨a, b, c, d⟩ => k1_part4 i arg1 harg1 arg2 harg2 arg3 harg3 arg4 harg4 arg5 harg5 arg6 harg6 arg7 harg7 v1 a b c d >>= fun _ => k) <|
    gate (gbit v14 256#32) (fun k => k1_part5 i arg1 harg1 arg2 harg2 arg3 harg3 arg4 harg4 arg5 harg5 arg6 harg6 arg7 harg7 v1 v3 >>= fun x => match x with
      | ⟨a, b, c, d⟩ => k1_part6 i arg1 harg1 arg2 harg2 arg3 harg3 arg4 harg4 arg5 harg5 arg6 harg6 arg7 harg7 v1 a b c d >>= fun _ => k) <|
    gate (gbit v14 384#32) (fun k => k1_part7 i arg1 harg1 arg2 harg2 arg3 harg3 arg4 harg4 arg5 harg5 arg6 harg6 arg7 harg7 v1 v3 >>= fun x => match x with
      | ⟨a, b, c, d⟩ => k1_part8 i arg1 harg1 arg2 harg2 arg3 harg3 arg4 harg4 arg5 harg5 arg6 harg6 arg7 harg7 v1 a b c d >>= fun _ => k) <|
    gate (gbit v14 512#32) (fun k => k1_part9 i arg1 harg1 arg2 harg2 arg3 harg3 arg4 harg4 arg5 harg5 arg6 harg6 arg7 harg7 v1 v3 >>= fun x => match x with
      | ⟨a, b, c, d⟩ => k1_part10 i arg1 harg1 arg2 harg2 arg3 harg3 arg4 harg4 arg5 harg5 arg6 harg6 arg7 harg7 v1 a b c d >>= fun _ => k) <|
    pure ⟨v1, v3, k1_pay46 (F := Ideal) v4, k1_pay47 (F := Ideal) v4, k1_pay48 (F := Ideal) v4, v14, Scalar.extui (Scalar.cmpi .sgt v14 640#32)⟩

theorem part17_form : k1_part17 (F := Ideal) i arg1 harg1 arg2 harg2 arg3 harg3 arg4 harg4 arg5 harg5 arg6 harg6 arg7 harg7 =
    (Prog.lift (.load (cs := .vmem) arg1 (Rect.unit (s := S1x4x8400) ![0, 0, 0] S1x4x8400.size inb_S1x4x8400_S1x4x8400_0_0_0).toLoadRect (View.loadsAt_vmem h_S1x4x8400)) >>= fun v0 =>
    Prog.lift (.load (cs := .vmem) arg2 (Rect.unit (s := S1x1x1024) ![0, 0, 0] S1x1x1024.size inb_S1x1x1024_S1x1x1024_0_0_0).toLoadRect (View.loadsAt_vmem h_S1x1x1024)) >>= fun v2 =>
    Prog.lift (.load (cs := .vmem) arg3 (Rect.unit (s := S1x1x1024) ![0, 0, 0] S1x1x1024.size inb_S1x1x1024_S1x1x1024_0_0_0).toLoadRect (View.loadsAt_vmem h_S1x1x1024)) >>= fun v4 => rest17 i arg1 harg1 arg2 harg2 arg3 harg3 arg4 harg4 arg5 harg5 arg6 harg6 arg7 harg7 (k1_pay44 v0) (k1_pay45 v2) v4 (cntW v4)) := rfl

attribute [irreducible] cntW

theorem part18_form (v1 v3 v7 v14 v31) : k1_part18 (F := Ideal) i arg1 harg1 arg2 harg2 arg3 harg3 arg4 harg4 arg5 harg5 arg6 harg6 arg7 harg7 v1 v3 v7 v14 v31 =
    (gate (Scalar.cmpi .ne v31 0#32) (fun k => k1_part11 i arg1 harg1 arg2 harg2 arg3 harg3 arg4 harg4 arg5 harg5 arg6 harg6 arg7 harg7 v1 v3 >>= fun x => match x with
      | ⟨a, b, c, d⟩ => k1_part12 i arg1 harg1 arg2 harg2 arg3 harg3 arg4 harg4 arg5 harg5 arg6 harg6 arg7 harg7 v1 a b c d >>= fun _ => k) <|
    gate (gbit v14 768#32) (fun k => k1_part13 i arg1 harg1 arg2 harg2 arg3 harg3 arg4 harg4 arg5 harg5 arg6 harg6 arg7 harg7 v1 v3 >>= fun x => match x with
      | ⟨a, b, c, d⟩ => k1_part14 i arg1 harg1 arg2 harg2 arg3 harg3 arg4 harg4 arg5 harg5 arg6 harg6 arg7 harg7 v1 a b c d >>= fun _ => k) <|
    gate (gbit v14 896#32) (fun k => k1_part15 i arg1 harg1 arg2 harg2 arg3 harg3 arg4 harg4 arg5 harg5 arg6 harg6 arg7 harg7 v1 v3 >>= fun x => match x with
      | ⟨a, b, c, d⟩ => k1_part16 i arg1 harg1 arg2 harg2 arg3 harg3 arg4 harg4 arg5 harg5 arg6 harg6 arg7 harg7 v1 a b c d >>= fun _ => k) <|
    Prog.lift (.load (cs := .vmem) arg5 (Rect.unit (s := S8x1024) ![0, 0] S8x1024.size inb_S8x1024_S8x1024_0_0).toLoadRect (View.loadsAt_vmem h_S8x1024)) >>= fun v39 =>
    pure ⟨k1_pay54 v7 v39, k1_pay55 v7 v39, k1_pay56 v7 v39, k1_pay57 v7 v39, k1_pay58 v7 v39, k1_pay59 v7 v39, k1_pay60 v7 v39, k1_pay61 v7 v39, k1_pay62 v7 v39, k1_pay63 v7 v39, Scalar.cmpi .sgt v14 0#32⟩) := rfl

theorem part19_form (v9 v14 v54 v57 v60 v63 v66 v67 v68 v69 v70 v71 v72) : k1_part19 (F := Ideal) i arg1 harg1 arg2 harg2 arg3 harg3 arg4 harg4 arg5 harg5 arg6 harg6 arg7 harg7 v9 v14 v54 v57 v60 v63 v66 v67 v68 v69 v70 v71 v72 =
    (gate (Scalar.cmpi .ne (Scalar.extui v72 : BitVec 32) 0#32) (fun k => Prog.lift (.load (cs := .vmem) arg6 (Rect.unit (s := S1024x1024) ![0, 0] S128x1024.size inb_S1024x1024_S128x1024_0_0).toLoadRect (View.loadsAt_vmem h_S128x1024)) >>= fun _ =>
      Prog.lift (.store (cs := .vmem) arg6 (Rect.unit (s := S1024x1024) ![0, 0] S128x1024.size inb_S1024x1024_S128x1024_0_0) (k1_pay64 v54 v57 v60 v63 v66 v67 v68 v69 v70 v71) Finset.univ (View.stores_vmem_bits_univ h_S128x1024 rfl) (.inl rfl)) >>= fun _ => k) <|
    gate (gbit v14 128#32) (fun k => Prog.lift (.load (cs := .vmem) arg6 (Rect.unit (s := S1024x1024) ![128, 0] S128x1024.size inb_S1024x1024_S128x1024_128_0).toLoadRect (View.loadsAt_vmem h_S128x1024)) >>= fun _ =>
      Prog.lift (.store (cs := .vmem) arg6 (Rect.unit (s := S1024x1024) ![128, 0] S128x1024.size inb_S1024x1024_S128x1024_128_0) (k1_pay65 v54 v57 v60 v63 v66 v67 v68 v69 v70 v71) Finset.univ (View.stores_vmem_bits_univ h_S128x1024 rfl) (.inl rfl)) >>= fun _ => k) <|
    gate (gbit v14 256#32) (fun k => Prog.lift (.load (cs := .vmem) arg6 (Rect.unit (s := S1024x1024) ![256, 0] S128x1024.size inb_S1024x1024_S128x1024_256_0).toLoadRect (View.loadsAt_vmem h_S128x1024)) >>= fun _ =>
      Prog.lift (.store (cs := .vmem) arg6 (Rect.unit (s := S1024x1024) ![256, 0] S128x1024.size inb_S1024x1024_S128x1024_256_0) (k1_pay66 v54 v57 v60 v63 v66 v67 v68 v69 v70 v71) Finset.univ (View.stores_vmem_bits_univ h_S128x1024 rfl) (.inl rfl)) >>= fun _ => k) <|
    gate (gbit v14 384#32) (fun k => Prog.lift (.load (cs := .vmem) arg6 (Rect.unit (s := S1024x1024) ![384, 0] S128x1024.size inb_S1024x1024_S128x1024_384_0).toLoadRect (View.loadsAt_vmem h_S128x1024)) >>= fun _ =>
      Prog.lift (.store (cs := .vmem) arg6 (Rect.unit (s := S1024x1024) ![384, 0] S128x1024.size inb_S1024x1024_S128x1024_384_0) (k1_pay67 v54 v57 v60 v63 v66 v67 v68 v69 v70 v71) Finset.univ (View.stores_vmem_bits_univ h_S128x1024 rfl) (.inl rfl)) >>= fun _ => k) <|
    gate (gbit v14 512#32) (fun k => Prog.lift (.load (cs := .vmem) arg6 (Rect.unit (s := S1024x1024) ![512, 0] S128x1024.size inb_S1024x1024_S128x1024_512_0).toLoadRect (View.loadsAt_vmem h_S128x1024)) >>= fun _ =>
      Prog.lift (.store (cs := .vmem) arg6 (Rect.unit (s := S1024x1024) ![512, 0] S128x1024.size inb_S1024x1024_S128x1024_512_0) (k1_pay68 v54 v57 v60 v63 v66 v67 v68 v69 v70 v71) Finset.univ (View.stores_vmem_bits_univ h_S128x1024 rfl) (.inl rfl)) >>= fun _ => k) <|
    gate (gbit v14 640#32) (fun k => Prog.lift (.load (cs := .vmem) arg6 (Rect.unit (s := S1024x1024) ![640, 0] S128x1024.size inb_S1024x1024_S128x1024_640_0).toLoadRect (View.loadsAt_vmem h_S128x1024)) >>= fun _ =>
      Prog.lift (.store (cs := .vmem) arg6 (Rect.unit (s := S1024x1024) ![640, 0] S128x1024.size inb_S1024x1024_S128x1024_640_0) (k1_pay69 v54 v57 v60 v63 v66 v67 v68 v69 v70 v71) Finset.univ (View.stores_vmem_bits_univ h_S128x1024 rfl) (.inl rfl)) >>= fun _ => k) <|
    gate (gbit v14 768#32) (fun k => Prog.lift (.load (cs := .vmem) arg6 (Rect.unit (s := S1024x1024) ![768, 0] S128x1024.size inb_S1024x1024_S128x1024_768_0).toLoadRect (View.loadsAt_vmem h_S128x1024)) >>= fun _ =>
      Prog.lift (.store (cs := .vmem) arg6 (Rect.unit (s := S1024x1024) ![768, 0] S128x1024.size inb_S1024x1024_S128x1024_768_0) (k1_pay70 v54 v57 v60 v63 v66 v67 v68 v69 v70 v71) Finset.univ (View.stores_vmem_bits_univ h_S128x1024 rfl) (.inl rfl)) >>= fun _ => k) <|
    gate (gbit v14 896#32) (fun k => Prog.lift (.load (cs := .vmem) arg6 (Rect.unit (s := S1024x1024) ![896, 0] S128x1024.size inb_S1024x1024_S128x1024_896_0).toLoadRect (View.loadsAt_vmem h_S128x1024)) >>= fun _ =>
      Prog.lift (.store (cs := .vmem) arg6 (Rect.unit (s := S1024x1024) ![896, 0] S128x1024.size inb_S1024x1024_S128x1024_896_0) (k1_pay71 v54 v57 v60 v63 v66 v67 v68 v69 v70 v71) Finset.univ (View.stores_vmem_bits_univ h_S128x1024 rfl) (.inl rfl)) >>= fun _ => k) <|
    Prog.lift (.load (cs := .vmem) arg7 (Rect.unit (s := S1x1024) ![0, 0] S1x1024.size inb_S1x1024_S1x1024_0_0).toLoadRect (View.loadsAt_vmem h_S1x1024)) >>= fun _ =>
    Prog.lift (.store (cs := .vmem) arg7 (Rect.unit (s := S1x1024) ![0, 0] S1x1024.size inb_S1x1024_S1x1024_0_0) (k1_pay72 (F := Ideal)) Finset.univ (View.stores_vmem_bits_univ h_S1x1024 rfl) (.inl rfl)) >>= fun _ =>
    gate (gbit v14 0#32) (fun k => Prog.lift (.load (cs := .vmem) arg7 (Rect.unit (s := S1x1024) ![0, 0] S1x1024.size inb_S1x1024_S1x1024_0_0).toLoadRect (View.loadsAt_vmem h_S1x1024)) >>= fun a =>
      Prog.lift (.load (cs := .vmem) arg6 (Rect.unit (s := S1024x1024) ![0, 0] S128x1024.size inb_S1024x1024_S128x1024_0_0).toLoadRect (View.loadsAt_vmem h_S128x1024)) >>= fun b =>
      Prog.lift (.load (cs := .vmem) arg7 (Rect.unit (s := S1x1024) ![0, 0] S1x1024.size inb_S1x1024_S1x1024_0_0).toLoadRect (View.loadsAt_vmem h_S1x1024)) >>= fun _ =>
      Prog.lift (.store (cs := .vmem) arg7 (Rect.unit (s := S1x1024) ![0, 0] S1x1024.size inb_S1x1024_S1x1024_0_0) (k1_pay73 v9 a b) Finset.univ (View.stores_vmem_bits_univ h_S1x1024 rfl) (.inl rfl)) >>= fun _ => k) <|
    pure ⟨⟩) := rfl

theorem part20_form (v9 v14 v54 v57) : k1_part20 (F := Ideal) i arg1 harg1 arg2 harg2 arg3 harg3 arg4 harg4 arg5 harg5 arg6 harg6 arg7 harg7 v9 v14 v54 v57 =
    (gate (gbit v14 128#32) (fun k => Prog.lift (.load (cs := .vmem) arg7 (Rect.unit (s := S1x1024) ![0, 0] S1x1024.size inb_S1x1024_S1x1024_0_0).toLoadRect (View.loadsAt_vmem h_S1x1024)) >>= fun a =>
      Prog.lift (.load (cs := .vmem) arg6 (Rect.unit (s := S1024x1024) ![128, 0] S128x1024.size inb_S1024x1024_S128x1024_128_0).toLoadRect (View.loadsAt_vmem h_S128x1024)) >>= fun b =>
      Prog.lift (.load (cs := .vmem) arg7 (Rect.unit (s := S1x1024) ![0, 0] S1x1024.size inb_S1x1024_S1x1024_0_0).toLoadRect (View.loadsAt_vmem h_S1x1024)) >>= fun _ =>
      Prog.lift (.store (cs := .vmem) arg7 (Rect.unit (s := S1x1024) ![0, 0] S1x1024.size inb_S1x1024_S1x1024_0_0) (k1_pay74 v9 a b) Finset.univ (View.stores_vmem_bits_univ h_S1x1024 rfl) (.inl rfl)) >>= fun _ => k) <|
    gate (gbit v14 256#32) (fun k => Prog.lift (.load (cs := .vmem) arg7 (Rect.unit (s := S1x1024) ![0, 0] S1x1024.size inb_S1x1024_S1x1024_0_0).toLoadRect (View.loadsAt_vmem h_S1x1024)) >>= fun a =>
      Prog.lift (.load (cs := .vmem) arg6 (Rect.unit (s := S1024x1024) ![256, 0] S128x1024.size inb_S1024x1024_S128x1024_256_0).toLoadRect (View.loadsAt_vmem h_S128x1024)) >>= fun b =>
      Prog.lift (.load (cs := .vmem) arg7 (Rect.unit (s := S1x1024) ![0, 0] S1x1024.size inb_S1x1024_S1x1024_0_0).toLoadRect (View.loadsAt_vmem h_S1x1024)) >>= fun _ =>
      Prog.lift (.store (cs := .vmem) arg7 (Rect.unit (s := S1x1024) ![0, 0] S1x1024.size inb_S1x1024_S1x1024_0_0) (k1_pay75 v9 a b) Finset.univ (View.stores_vmem_bits_univ h_S1x1024 rfl) (.inl rfl)) >>= fun _ => k) <|
    gate (gbit v14 384#32) (fun k => Prog.lift (.load (cs := .vmem) arg7 (Rect.unit (s := S1x1024) ![0, 0] S1x1024.size inb_S1x1024_S1x1024_0_0).toLoadRect (View.loadsAt_vmem h_S1x1024)) >>= fun a =>
      Prog.lift (.load (cs := .vmem) arg6 (Rect.unit (s := S1024x1024) ![384, 0] S128x1024.size inb_S1024x1024_S128x1024_384_0).toLoadRect (View.loadsAt_vmem h_S128x1024)) >>= fun b =>
      Prog.lift (.load (cs := .vmem) arg7 (Rect.unit (s := S1x1024) ![0, 0] S1x1024.size inb_S1x1024_S1x1024_0_0).toLoadRect (View.loadsAt_vmem h_S1x1024)) >>= fun _ =>
      Prog.lift (.store (cs := .vmem) arg7 (Rect.unit (s := S1x1024) ![0, 0] S1x1024.size inb_S1x1024_S1x1024_0_0) (k1_pay76 v9 a b) Finset.univ (View.stores_vmem_bits_univ h_S1x1024 rfl) (.inl rfl)) >>= fun _ => k) <|
    gate (gbit v14 512#32) (fun k => Prog.lift (.load (cs := .vmem) arg7 (Rect.unit (s := S1x1024) ![0, 0] S1x1024.size inb_S1x1024_S1x1024_0_0).toLoadRect (View.loadsAt_vmem h_S1x1024)) >>= fun a =>
      Prog.lift (.load (cs := .vmem) arg6 (Rect.unit (s := S1024x1024) ![512, 0] S128x1024.size inb_S1024x1024_S128x1024_512_0).toLoadRect (View.loadsAt_vmem h_S128x1024)) >>= fun b =>
      Prog.lift (.load (cs := .vmem) arg7 (Rect.unit (s := S1x1024) ![0, 0] S1x1024.size inb_S1x1024_S1x1024_0_0).toLoadRect (View.loadsAt_vmem h_S1x1024)) >>= fun _ =>
      Prog.lift (.store (cs := .vmem) arg7 (Rect.unit (s := S1x1024) ![0, 0] S1x1024.size inb_S1x1024_S1x1024_0_0) (k1_pay77 v9 a b) Finset.univ (View.stores_vmem_bits_univ h_S1x1024 rfl) (.inl rfl)) >>= fun _ => k) <|
    gate (gbit v14 640#32) (fun k => Prog.lift (.load (cs := .vmem) arg7 (Rect.unit (s := S1x1024) ![0, 0] S1x1024.size inb_S1x1024_S1x1024_0_0).toLoadRect (View.loadsAt_vmem h_S1x1024)) >>= fun a =>
      Prog.lift (.load (cs := .vmem) arg6 (Rect.unit (s := S1024x1024) ![640, 0] S128x1024.size inb_S1024x1024_S128x1024_640_0).toLoadRect (View.loadsAt_vmem h_S128x1024)) >>= fun b =>
      Prog.lift (.load (cs := .vmem) arg7 (Rect.unit (s := S1x1024) ![0, 0] S1x1024.size inb_S1x1024_S1x1024_0_0).toLoadRect (View.loadsAt_vmem h_S1x1024)) >>= fun _ =>
      Prog.lift (.store (cs := .vmem) arg7 (Rect.unit (s := S1x1024) ![0, 0] S1x1024.size inb_S1x1024_S1x1024_0_0) (k1_pay78 v9 a b) Finset.univ (View.stores_vmem_bits_univ h_S1x1024 rfl) (.inl rfl)) >>= fun _ => k) <|
    gate (gbit v14 768#32) (fun k => Prog.lift (.load (cs := .vmem) arg7 (Rect.unit (s := S1x1024) ![0, 0] S1x1024.size inb_S1x1024_S1x1024_0_0).toLoadRect (View.loadsAt_vmem h_S1x1024)) >>= fun a =>
      Prog.lift (.load (cs := .vmem) arg6 (Rect.unit (s := S1024x1024) ![768, 0] S128x1024.size inb_S1024x1024_S128x1024_768_0).toLoadRect (View.loadsAt_vmem h_S128x1024)) >>= fun b =>
      Prog.lift (.load (cs := .vmem) arg7 (Rect.unit (s := S1x1024) ![0, 0] S1x1024.size inb_S1x1024_S1x1024_0_0).toLoadRect (View.loadsAt_vmem h_S1x1024)) >>= fun _ =>
      Prog.lift (.store (cs := .vmem) arg7 (Rect.unit (s := S1x1024) ![0, 0] S1x1024.size inb_S1x1024_S1x1024_0_0) (k1_pay79 v9 a b) Finset.univ (View.stores_vmem_bits_univ h_S1x1024 rfl) (.inl rfl)) >>= fun _ => k) <|
    gate (gbit v14 896#32) (fun k => Prog.lift (.load (cs := .vmem) arg7 (Rect.unit (s := S1x1024) ![0, 0] S1x1024.size inb_S1x1024_S1x1024_0_0).toLoadRect (View.loadsAt_vmem h_S1x1024)) >>= fun a =>
      Prog.lift (.load (cs := .vmem) arg6 (Rect.unit (s := S1024x1024) ![896, 0] S128x1024.size inb_S1024x1024_S128x1024_896_0).toLoadRect (View.loadsAt_vmem h_S128x1024)) >>= fun b =>
      Prog.lift (.load (cs := .vmem) arg7 (Rect.unit (s := S1x1024) ![0, 0] S1x1024.size inb_S1x1024_S1x1024_0_0).toLoadRect (View.loadsAt_vmem h_S1x1024)) >>= fun _ =>
      Prog.lift (.store (cs := .vmem) arg7 (Rect.unit (s := S1x1024) ![0, 0] S1x1024.size inb_S1x1024_S1x1024_0_0) (k1_pay80 v9 a b) Finset.univ (View.stores_vmem_bits_univ h_S1x1024 rfl) (.inl rfl)) >>= fun _ => k) <|
    Prog.lift (.load (cs := .vmem) arg7 (Rect.unit (s := S1x1024) ![0, 0] S1x1024.size inb_S1x1024_S1x1024_0_0).toLoadRect (View.loadsAt_vmem h_S1x1024)) >>= fun v124 =>
    Prog.lift (.call (2 : (Λ₀ Ideal).Label) ⟨i, v14, arg7, harg7, arg6, harg6, v9, v9, k1_pay81 v9 v124⟩) >>= fun x => match x with
    | (_, y) => pure ⟨y, k1_pay82 (F := Ideal), k1_pay83 v54, k1_pay84 v57⟩) := rfl

theorem part21_form (v14 v9 arg8 arg9) : k1_part21 (F := Ideal) i v14 arg7 harg7 arg6 harg6 v9 arg8 arg9 =
    (Prog.lift (.load (cs := .vmem) arg7 (Rect.unit (s := S1x1024) ![0, 0] S1x1024.size inb_S1x1024_S1x1024_0_0).toLoadRect (View.loadsAt_vmem h_S1x1024)) >>= fun _ =>
    Prog.lift (.store (cs := .vmem) arg7 (Rect.unit (s := S1x1024) ![0, 0] S1x1024.size inb_S1x1024_S1x1024_0_0) (k1_pay85 (F := Ideal)) Finset.univ (View.stores_vmem_bits_univ h_S1x1024 rfl) (.inl rfl)) >>= fun _ =>
    gate (gbit v14 0#32) (fun k => Prog.lift (.load (cs := .vmem) arg7 (Rect.unit (s := S1x1024) ![0, 0] S1x1024.size inb_S1x1024_S1x1024_0_0).toLoadRect (View.loadsAt_vmem h_S1x1024)) >>= fun a =>
      Prog.lift (.load (cs := .vmem) arg6 (Rect.unit (s := S1024x1024) ![0, 0] S128x1024.size inb_S1024x1024_S128x1024_0_0).toLoadRect (View.loadsAt_vmem h_S128x1024)) >>= fun b =>
      Prog.lift (.load (cs := .vmem) arg7 (Rect.unit (s := S1x1024) ![0, 0] S1x1024.size inb_S1x1024_S1x1024_0_0).toLoadRect (View.loadsAt_vmem h_S1x1024)) >>= fun _ =>
      Prog.lift (.store (cs := .vmem) arg7 (Rect.unit (s := S1x1024) ![0, 0] S1x1024.size inb_S1x1024_S1x1024_0_0) (k1_pay86 arg9 a b) Finset.univ (View.stores_vmem_bits_univ h_S1x1024 rfl) (.inl rfl)) >>= fun _ => k) <|
    gate (gbit v14 128#32) (fun k => Prog.lift (.load (cs := .vmem) arg7 (Rect.unit (s := S1x1024) ![0, 0] S1x1024.size inb_S1x1024_S1x1024_0_0).toLoadRect (View.loadsAt_vmem h_S1x1024)) >>= fun a =>
      Prog.lift (.load (cs := .vmem) arg6 (Rect.unit (s := S1024x1024) ![128, 0] S128x1024.size inb_S1024x1024_S128x1024_128_0).toLoadRect (View.loadsAt_vmem h_S128x1024)) >>= fun b =>
      Prog.lift (.load (cs := .vmem) arg7 (Rect.unit (s := S1x1024) ![0, 0] S1x1024.size inb_S1x1024_S1x1024_0_0).toLoadRect (View.loadsAt_vmem h_S1x1024)) >>= fun _ =>
      Prog.lift (.store (cs := .vmem) arg7 (Rect.unit (s := S1x1024) ![0, 0] S1x1024.size inb_S1x1024_S1x1024_0_0) (k1_pay87 arg9 a b) Finset.univ (View.stores_vmem_bits_univ h_S1x1024 rfl) (.inl rfl)) >>= fun _ => k) <|
    gate (gbit v14 256#32) (fun k => Prog.lift (.load (cs := .vmem) arg7 (Rect.unit (s := S1x1024) ![0, 0] S1x1024.size inb_S1x1024_S1x1024_0_0).toLoadRect (View.loadsAt_vmem h_S1x1024)) >>= fun a =>
      Prog.lift (.load (cs := .vmem) arg6 (Rect.unit (s := S1024x1024) ![256, 0] S128x1024.size inb_S1024x1024_S128x1024_256_0).toLoadRect (View.loadsAt_vmem h_S128x1024)) >>= fun b =>
      Prog.lift (.load (cs := .vmem) arg7 (Rect.unit (s := S1x1024) ![0, 0] S1x1024.size inb_S1x1024_S1x1024_0_0).toLoadRect (View.loadsAt_vmem h_S1x1024)) >>= fun _ =>
      Prog.lift (.store (cs := .vmem) arg7 (Rect.unit (s := S1x1024) ![0, 0] S1x1024.size inb_S1x1024_S1x1024_0_0) (k1_pay88 arg9 a b) Finset.univ (View.stores_vmem_bits_univ h_S1x1024 rfl) (.inl rfl)) >>= fun _ => k) <|
    gate (gbit v14 384#32) (fun k => Prog.lift (.load (cs := .vmem) arg7 (Rect.unit (s := S1x1024) ![0, 0] S1x1024.size inb_S1x1024_S1x1024_0_0).toLoadRect (View.loadsAt_vmem h_S1x1024)) >>= fun a =>
      Prog.lift (.load (cs := .vmem) arg6 (Rect.unit (s := S1024x1024) ![384, 0] S128x1024.size inb_S1024x1024_S128x1024_384_0).toLoadRect (View.loadsAt_vmem h_S128x1024)) >>= fun b =>
      Prog.lift (.load (cs := .vmem) arg7 (Rect.unit (s := S1x1024) ![0, 0] S1x1024.size inb_S1x1024_S1x1024_0_0).toLoadRect (View.loadsAt_vmem h_S1x1024)) >>= fun _ =>
      Prog.lift (.store (cs := .vmem) arg7 (Rect.unit (s := S1x1024) ![0, 0] S1x1024.size inb_S1x1024_S1x1024_0_0) (k1_pay89 arg9 a b) Finset.univ (View.stores_vmem_bits_univ h_S1x1024 rfl) (.inl rfl)) >>= fun _ => k) <|
    gate (gbit v14 512#32) (fun k => Prog.lift (.load (cs := .vmem) arg7 (Rect.unit (s := S1x1024) ![0, 0] S1x1024.size inb_S1x1024_S1x1024_0_0).toLoadRect (View.loadsAt_vmem h_S1x1024)) >>= fun a =>
      Prog.lift (.load (cs := .vmem) arg6 (Rect.unit (s := S1024x1024) ![512, 0] S128x1024.size inb_S1024x1024_S128x1024_512_0).toLoadRect (View.loadsAt_vmem h_S128x1024)) >>= fun b =>
      Prog.lift (.load (cs := .vmem) arg7 (Rect.unit (s := S1x1024) ![0, 0] S1x1024.size inb_S1x1024_S1x1024_0_0).toLoadRect (View.loadsAt_vmem h_S1x1024)) >>= fun _ =>
      Prog.lift (.store (cs := .vmem) arg7 (Rect.unit (s := S1x1024) ![0, 0] S1x1024.size inb_S1x1024_S1x1024_0_0) (k1_pay90 arg9 a b) Finset.univ (View.stores_vmem_bits_univ h_S1x1024 rfl) (.inl rfl)) >>= fun _ => k) <|
    gate (gbit v14 640#32) (fun k => Prog.lift (.load (cs := .vmem) arg7 (Rect.unit (s := S1x1024) ![0, 0] S1x1024.size inb_S1x1024_S1x1024_0_0).toLoadRect (View.loadsAt_vmem h_S1x1024)) >>= fun a =>
      Prog.lift (.load (cs := .vmem) arg6 (Rect.unit (s := S1024x1024) ![640, 0] S128x1024.size inb_S1024x1024_S128x1024_640_0).toLoadRect (View.loadsAt_vmem h_S128x1024)) >>= fun b =>
      Prog.lift (.load (cs := .vmem) arg7 (Rect.unit (s := S1x1024) ![0, 0] S1x1024.size inb_S1x1024_S1x1024_0_0).toLoadRect (View.loadsAt_vmem h_S1x1024)) >>= fun _ =>
      Prog.lift (.store (cs := .vmem) arg7 (Rect.unit (s := S1x1024) ![0, 0] S1x1024.size inb_S1x1024_S1x1024_0_0) (k1_pay91 arg9 a b) Finset.univ (View.stores_vmem_bits_univ h_S1x1024 rfl) (.inl rfl)) >>= fun _ => k) <|
    gate (gbit v14 768#32) (fun k => Prog.lift (.load (cs := .vmem) arg7 (Rect.unit (s := S1x1024) ![0, 0] S1x1024.size inb_S1x1024_S1x1024_0_0).toLoadRect (View.loadsAt_vmem h_S1x1024)) >>= fun a =>
      Prog.lift (.load (cs := .vmem) arg6 (Rect.unit (s := S1024x1024) ![768, 0] S128x1024.size inb_S1024x1024_S128x1024_768_0).toLoadRect (View.loadsAt_vmem h_S128x1024)) >>= fun b =>
      Prog.lift (.load (cs := .vmem) arg7 (Rect.unit (s := S1x1024) ![0, 0] S1x1024.size inb_S1x1024_S1x1024_0_0).toLoadRect (View.loadsAt_vmem h_S1x1024)) >>= fun _ =>
      Prog.lift (.store (cs := .vmem) arg7 (Rect.unit (s := S1x1024) ![0, 0] S1x1024.size inb_S1x1024_S1x1024_0_0) (k1_pay92 arg9 a b) Finset.univ (View.stores_vmem_bits_univ h_S1x1024 rfl) (.inl rfl)) >>= fun _ => k) <|
    gate (gbit v14 896#32) (fun k => Prog.lift (.load (cs := .vmem) arg7 (Rect.unit (s := S1x1024) ![0, 0] S1x1024.size inb_S1x1024_S1x1024_0_0).toLoadRect (View.loadsAt_vmem h_S1x1024)) >>= fun a =>
      Prog.lift (.load (cs := .vmem) arg6 (Rect.unit (s := S1024x1024) ![896, 0] S128x1024.size inb_S1024x1024_S128x1024_896_0).toLoadRect (View.loadsAt_vmem h_S128x1024)) >>= fun b =>
      Prog.lift (.load (cs := .vmem) arg7 (Rect.unit (s := S1x1024) ![0, 0] S1x1024.size inb_S1x1024_S1x1024_0_0).toLoadRect (View.loadsAt_vmem h_S1x1024)) >>= fun _ =>
      Prog.lift (.store (cs := .vmem) arg7 (Rect.unit (s := S1x1024) ![0, 0] S1x1024.size inb_S1x1024_S1x1024_0_0) (k1_pay93 arg9 a b) Finset.univ (View.stores_vmem_bits_univ h_S1x1024 rfl) (.inl rfl)) >>= fun _ => k) <|
    Prog.lift (.load (cs := .vmem) arg7 (Rect.unit (s := S1x1024) ![0, 0] S1x1024.size inb_S1x1024_S1x1024_0_0).toLoadRect (View.loadsAt_vmem h_S1x1024)) >>= fun v173 =>
    pure ⟨v173, Scalar.ofBits .f32 0x00000000#32⟩) := rfl

theorem while_form (v14 v9 arg8 arg9) : cc1_while1 (F := Ideal) i v14 arg7 harg7 arg6 harg6 v9 arg8 arg9 =
    (if Scalar.cmpf .ogt (k1_pay2 (F := Ideal) arg8 arg9) (Scalar.ofBits (F := Ideal) .f32 0x00000000#32) = 1#1 then
      (k1_part21 (F := Ideal) i v14 arg7 harg7 arg6 harg6 v9 arg8 arg9 >>= fun x => match x with
        | ⟨a, b⟩ => Prog.lift (.call (2 : (Λ₀ Ideal).Label) ⟨i, v14, arg7, harg7, arg6, harg6, v9, arg9, k1_pay3 v9 a b⟩))
    else pure (arg8, arg9)) := rfl

theorem body_form : cc1__nms_body (F := Ideal) i arg1 harg1 arg2 harg2 arg3 harg3 arg4 harg4 arg5 harg5 arg6 harg6 arg7 harg7 =
    (k1_part17 (F := Ideal) i arg1 harg1 arg2 harg2 arg3 harg3 arg4 harg4 arg5 harg5 arg6 harg6 arg7 harg7 >>= fun x => match x with
    | ⟨v1, v3, v5, v7, v9, v14, v31⟩ => k1_part18 (F := Ideal) i arg1 harg1 arg2 harg2 arg3 harg3 arg4 harg4 arg5 harg5 arg6 harg6 arg7 harg7 v1 v3 v7 v14 v31 >>= fun x => match x with
      | ⟨v54, v57, v60, v63, v66, v67, v68, v69, v70, v71, v72⟩ =>
        k1_part19 (F := Ideal) i arg1 harg1 arg2 harg2 arg3 harg3 arg4 harg4 arg5 harg5 arg6 harg6 arg7 harg7 v9 v14 v54 v57 v60 v63 v66 v67 v68 v69 v70 v71 v72 >>= fun _ =>
        k1_part20 (F := Ideal) i arg1 harg1 arg2 harg2 arg3 harg3 arg4 harg4 arg5 harg5 arg6 harg6 arg7 harg7 v9 v14 v54 v57 >>= fun x => match x with
        | ⟨v129_1, v130, v132, v134⟩ =>
          Prog.lift (.load (cs := .vmem) arg4 (Rect.unit (s := S1x8x1024) ![0, 0, 0] S1x8x1024.size inb_S1x8x1024_S1x8x1024_0_0_0).toLoadRect (View.loadsAt_vmem h_S1x8x1024)) >>= fun _ =>
          Prog.lift (.store (cs := .vmem) arg4 (Rect.unit (s := S1x8x1024) ![0, 0, 0] S1x8x1024.size inb_S1x8x1024_S1x8x1024_0_0_0) (k1_pay1 v5 v60 v63 v129_1 v130 v132 v134) Finset.univ (View.stores_vmem_bits_univ h_S1x8x1024 rfl) (.inl rfl)) >>= fun _ => pure ⟨⟩) := rfl

end Parts

attribute [local irreducible] cc1_while1

/-- A call of the repeated step, at a variant below the caller's. -/
theorem call_while (c : Dev nD) (bd : Option ℕ) (d : ℕ) (hd : ∀ u ∈ bd, d < u) {α : Type} (i : grid1.Coords) (arg6 : Memref sig .tc .vmem S1024x1024 .f32)
    (harg6 : arg6.IsWhole) (arg7 : Memref sig .tc .vmem S1x1024 .f32) (harg7 : arg7.IsWhole) (v14 : BitVec 32) (v9 a b : FVec Ideal S1x1024 .f32)
    (k : FVec Ideal S1x1024 .f32 × FVec Ideal S1x1024 .f32 → PK α) (Q : α → sProp 𝕄) (P : sProp 𝕄)
    (h : P ⊢ wpK c (some d) (cc1_while1 (F := Ideal) i v14 arg7 harg7 arg6 harg6 v9 a b) fun x => wpK c bd (k x) Q) :
    P ⊢ wpK c bd (Prog.lift (.call (2 : (Λ₀ Ideal).Label) ⟨i, v14, arg7, harg7, arg6, harg6, v9, a, b⟩) >>= k) Q :=
  h.trans (wp_call Variants.nat (c : Thread nD τ) bd Set.univ (ℓ := (2 : (Λ₀ Ideal).Label)) (a := ⟨i, v14, arg7, harg7, arg6, harg6, v9, a, b⟩) (k := k) d hd)

end Cert.Proof

end
-- ==== Proof.NmsGather.lean ====
/-
  The first pass of the suppression kernel: count the valid candidates and gather their boxes, block by block.
-/
module

public import proofs.«01_k».proof.Proof.NmsForms

@[expose] public section

set_option maxRecDepth 65536

noncomputable section

namespace Cert.Proof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open scoped Classical

local notation "𝕄" => MT nD τ sig Unit (Elt Idealize.ShloMosaic.Ideal) ℕ UU ℕ

/-! ## Counting -/

/-- How many candidates are valid. -/
def nvS (s : Fin 1024 → EReal) : ℕ := (Finset.univ.filter fun j => vS s j).card

theorem nvS_le (s : Fin 1024 → EReal) : nvS s ≤ 1024 :=
  (Finset.card_le_univ _).trans (by simp)

theorem sum_ind {n : ℕ} (p : Fin n → Prop) : ∑ j, ind (p j) = (((Finset.univ.filter fun j => p j).card : ℝ) : EReal) := by
  unfold ind
  rw [Finset.sum_ite]
  simp

theorem fptosi_nat (k : ℕ) (hk : k ≤ 1024) : FloatOps.fptosi (F := Ideal) (φ := .f32) 32 ((k : ℝ) : EReal) = BitVec.ofNat 32 k := by
  show BitVec.ofInt 32 (Ideal.toIntClamped _ _ ((k : ℝ) : EReal)) = _
  unfold Ideal.toIntClamped
  show BitVec.ofInt 32 (max _ (min _ (if (0 : ℝ) ≤ (k : ℝ) then ⌊(k : ℝ)⌋ else ⌈(k : ℝ)⌉))) = _
  rw [if_pos (Nat.cast_nonneg k), Int.floor_natCast, min_eq_right (by norm_num; omega), max_eq_right (by norm_num)]
  exact BitVec.ofInt_natCast 32 k

theorem count_word (X3 : S1x1x1024.Idx → EReal) : cntW X3 = BitVec.ofNat 32 (nvS fun j => X3 (ix3 0 0 j)) := by
  unfold cntW
  rw [pay49_eq, sum_ind]
  exact fptosi_nat _ (nvS_le _)

/-! ## Reordering -/

theorem bring2 {A B C : sProp 𝕄} : iprop(A ∗ B ∗ C) ⊢ iprop(B ∗ A ∗ C) := sep_left_comm.1
theorem bring3 {A B C D : sProp 𝕄} : iprop(A ∗ B ∗ C ∗ D) ⊢ iprop(C ∗ A ∗ B ∗ D) :=
  (sep_mono_right sep_left_comm.1).trans sep_left_comm.1
theorem bring4 {A B C D E : sProp 𝕄} : iprop(A ∗ B ∗ C ∗ D ∗ E) ⊢ iprop(D ∗ A ∗ B ∗ C ∗ E) :=
  (sep_mono_right bring3).trans sep_left_comm.1

/-- A program that only returns. -/
theorem wp_ret' (c : Dev nD) (bd : Option ℕ) {α : Type} (a : α) (Q : α → sProp 𝕄) : Q a ⊢ wpK c bd (pure a) Q := by
  rw [Prog.pure_eq_ret]
  unfold wpK
  rw [wp_ret]
  exact BI.fupd_intro

section Parts
variable (c : Dev nD) (i : grid1.Coords) (arg1 : Memref sig .tc .vmem S1x4x8400 .f32) (harg1 : arg1.IsWhole)
  (arg2 : Memref sig .tc .vmem S1x1x1024 .i32) (harg2 : arg2.IsWhole) (arg3 : Memref sig .tc .vmem S1x1x1024 .f32) (harg3 : arg3.IsWhole)
  (arg4 : Memref sig .tc .vmem S1x8x1024 .f32) (harg4 : arg4.IsWhole) (arg5 : Memref sig .tc .vmem S8x1024 .f32) (harg5 : arg5.IsWhole)
  (arg6 : Memref sig .tc .vmem S1024x1024 .f32) (harg6 : arg6.IsWhole) (arg7 : Memref sig .tc .vmem S1x1024 .f32) (harg7 : arg7.IsWhole)
  (R : sProp 𝕄)

/-- The first five gather blocks. -/
theorem rest17_spec (T : FVec Ideal S4x8400 .f32) (I : IVec S1x1024 32) (v4 : Vec Ideal S1x1x1024 .f32) (nv : ℕ) (hn : nv ≤ 1024)
    (X5 : S8x1024.Idx → EReal) Q
    (hQ : ∀ X5', Cols (fun a k => T (ix2 a k)) (fun j => (I (ix2 0 j)).toNat) nv 640 X5' →
      iprop(ow c arg5 X5' ∗ R)
        ⊢ Q ⟨T, I, k1_pay46 v4, k1_pay47 v4, k1_pay48 v4, BitVec.ofNat 32 nv, Scalar.extui (Scalar.cmpi .sgt (BitVec.ofNat 32 nv) 640#32)⟩) :
    iprop(ow c arg5 X5 ∗ R) ⊢ wpK c none (rest17 i arg1 harg1 arg2 harg2 arg3 harg3 arg4 harg4 arg5 harg5 arg6 harg6 arg7 harg7 T I v4 (BitVec.ofNat 32 nv)) Q := by
  unfold rest17
  have hg : ∀ o : ℕ, o ≤ 1024 → (gbit (BitVec.ofNat 32 nv) (BitVec.ofNat 32 o) = 1#1 ↔ o < nv) := fun o ho => guard_iff hn ho
  have h : Cols (fun a k => T (ix2 a k)) (fun j => (I (ix2 0 j)).toNat) nv 0 X5 := fun r j h => absurd h (by omega)
  refine colGuard c none _ Q arg5 _ 0 _ Gen.slices_S1x1024_o0_0_S1x128 T I inb_S8x1024_S8x128_0_0 (View.loadsAt_vmem h_S8x128)
    (View.stores_vmem_bits_univ h_S8x128 rfl) (.inl rfl) _ _ _ h (hg 0 (by omega)) (by omega) (by omega) rfl fun X5 h => ?_
  refine colGuard c none _ Q arg5 _ 128 _ Gen.slices_S1x1024_o0_128_S1x128 T I inb_S8x1024_S8x128_0_128 (View.loadsAt_vmem h_S8x128)
    (View.stores_vmem_bits_univ h_S8x128 rfl) (.inl rfl) _ _ _ h (hg 128 (by omega)) (by omega) (by omega) rfl fun X5 h => ?_
  refine colGuard c none _ Q arg5 _ 256 _ Gen.slices_S1x1024_o0_256_S1x128 T I inb_S8x1024_S8x128_0_256 (View.loadsAt_vmem h_S8x128)
    (View.stores_vmem_bits_univ h_S8x128 rfl) (.inl rfl) _ _ _ h (hg 256 (by omega)) (by omega) (by omega) rfl fun X5 h => ?_
  refine colGuard c none _ Q arg5 _ 384 _ Gen.slices_S1x1024_o0_384_S1x128 T I inb_S8x1024_S8x128_0_384 (View.loadsAt_vmem h_S8x128)
    (View.stores_vmem_bits_univ h_S8x128 rfl) (.inl rfl) _ _ _ h (hg 384 (by omega)) (by omega) (by omega) rfl fun X5 h => ?_
  refine colGuard c none _ Q arg5 _ 512 _ Gen.slices_S1x1024_o0_512_S1x128 T I inb_S8x1024_S8x128_0_512 (View.loadsAt_vmem h_S8x128)
    (View.stores_vmem_bits_univ h_S8x128 rfl) (.inl rfl) _ _ _ h (hg 512 (by omega)) (by omega) (by omega) rfl fun X5 h => ?_
  exact (hQ _ h).trans (wp_ret' _ _ _ _)

/-- The loads of the three inputs and the first five gather blocks. -/
theorem part17_spec (X1 : S1x4x8400.Idx → EReal) (X2 : S1x1x1024.Idx → BitVec 32) (X3 : S1x1x1024.Idx → EReal) (X5 : S8x1024.Idx → EReal) (nv : ℕ)
    (hnv : nv = nvS fun j => X3 (ix3 0 0 j)) Q
    (hQ : ∀ X5', Cols (fun a k => k1_pay44 (F := Ideal) X1 (ix2 a k)) (fun j => (k1_pay45 (F := Ideal) X2 (ix2 0 j)).toNat) nv 640 X5' →
      iprop(ow c arg5 X5' ∗ ow c arg3 X3 ∗ ow c arg2 X2 ∗ ow c arg1 X1 ∗ R)
        ⊢ Q ⟨k1_pay44 (F := Ideal) X1, k1_pay45 (F := Ideal) X2, k1_pay46 (F := Ideal) X3, k1_pay47 (F := Ideal) X3, k1_pay48 (F := Ideal) X3,
          BitVec.ofNat 32 nv, Scalar.extui (Scalar.cmpi .sgt (BitVec.ofNat 32 nv) 640#32)⟩) :
    iprop(ow c arg1 X1 ∗ ow c arg2 X2 ∗ ow c arg3 X3 ∗ ow c arg5 X5 ∗ R)
      ⊢ wpK c none (k1_part17 (F := Ideal) i arg1 harg1 arg2 harg2 arg3 harg3 arg4 harg4 arg5 harg5 arg6 harg6 arg7 harg7) Q := by
  rw [part17_form]
  refine load_bind c none arg1 _ _ _ X1 _ Q X1 (ld_whole _ _) (bring2.trans ?_)
  refine load_bind c none arg2 _ _ _ X2 _ Q X2 (ld_whole _ _) (bring3.trans ?_)
  refine load_bind c none arg3 _ _ _ X3 _ Q X3 (ld_whole _ _) (bring4.trans ?_)
  rw [count_word X3, ← hnv]
  exact rest17_spec c i arg1 harg1 arg2 harg2 arg3 harg3 arg4 harg4 arg5 harg5 arg6 harg6 arg7 harg7 _ _ _ _ _ (hnv ▸ nvS_le _) _ _ hQ

/-- The last three gather blocks and the load of the boxes. -/
theorem part18_spec (T : FVec Ideal S4x8400 .f32) (I : IVec S1x1024 32) (v7 : IVec S1x1024 1) (nv : ℕ) (hn : nv ≤ 1024) (X5 : S8x1024.Idx → EReal)
    (v14 v31 : BitVec 32) (hv : v14 = BitVec.ofNat 32 nv) (h31 : v31 = Scalar.extui (Scalar.cmpi .sgt v14 640#32))
    (h : Cols (fun a k => T (ix2 a k)) (fun j => (I (ix2 0 j)).toNat) nv 640 X5) Q
    (hQ : ∀ X5', Cols (fun a k => T (ix2 a k)) (fun j => (I (ix2 0 j)).toNat) nv 1024 X5' →
      iprop(ow c arg5 X5' ∗ R)
        ⊢ Q ⟨k1_pay54 v7 X5', k1_pay55 v7 X5', k1_pay56 v7 X5', k1_pay57 v7 X5', k1_pay58 v7 X5', k1_pay59 v7 X5', k1_pay60 v7 X5',
          k1_pay61 v7 X5', k1_pay62 v7 X5', k1_pay63 v7 X5', Scalar.cmpi .sgt v14 0#32⟩) :
    iprop(ow c arg5 X5 ∗ R) ⊢ wpK c none (k1_part18 (F := Ideal) i arg1 harg1 arg2 harg2 arg3 harg3 arg4 harg4 arg5 harg5 arg6 harg6 arg7 harg7 T I v7 v14 v31) Q := by
  rw [part18_form]
  subst hv h31
  have hg : ∀ o : ℕ, o ≤ 1024 → (gbit (BitVec.ofNat 32 nv) (BitVec.ofNat 32 o) = 1#1 ↔ o < nv) := fun o ho => guard_iff hn ho
  refine colGuard c none _ Q arg5 _ 640 _ Gen.slices_S1x1024_o0_640_S1x128 T I inb_S8x1024_S8x128_0_640 (View.loadsAt_vmem h_S8x128)
    (View.stores_vmem_bits_univ h_S8x128 rfl) (.inl rfl) _ _ _ h (hg 640 (by omega)) (by omega) (by omega) rfl fun X5 h => ?_
  refine colGuard c none _ Q arg5 _ 768 _ Gen.slices_S1x1024_o0_768_S1x128 T I inb_S8x1024_S8x128_0_768 (View.loadsAt_vmem h_S8x128)
    (View.stores_vmem_bits_univ h_S8x128 rfl) (.inl rfl) _ _ _ h (hg 768 (by omega)) (by omega) (by omega) rfl fun X5 h => ?_
  refine colGuard c none _ Q arg5 _ 896 _ Gen.slices_S1x1024_o0_896_S1x128 T I inb_S8x1024_S8x128_0_896 (View.loadsAt_vmem h_S8x128)
    (View.stores_vmem_bits_univ h_S8x128 rfl) (.inl rfl) _ _ _ h (hg 896 (by omega)) (by omega) (by omega) rfl fun X5 h => ?_
  refine load_bind c none arg5 _ _ _ _ _ Q X5 (ld_whole _ _) ?_
  exact (hQ _ h).trans (wp_ret' _ _ _ _)

end Parts

end Cert.Proof

end
-- ==== Proof.NmsMask.lean ====
/-
  The mask, the support rows and the repeated suppression step of the suppression kernel; then its whole body.
-/
module

public import proofs.«01_k».proof.Proof.NmsGather

@[expose] public section

set_option maxRecDepth 65536

noncomputable section

namespace Cert.Proof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open scoped Classical

local notation "𝕄" => MT nD τ sig Unit (Elt Idealize.ShloMosaic.Ideal) ℕ UU ℕ

/-! ## One suppression step -/

theorem supp_zero (G : Fin 1024 → Prop) (M : Fin 1024 → Fin 1024 → Prop) (nv : ℕ) (X : S1x1024.Idx → EReal) (hX : ∀ j, X (ix2 0 j) = 0) :
    Supp G M nv 0 X := by
  intro j
  rw [hX]
  exact ⟨le_rfl, ⟨fun h => absurd h (lt_irrefl _), fun ⟨r, h, _⟩ => absurd h (Nat.not_lt_zero _)⟩⟩

/-- The chosen set after a support row is applied to the valid set. -/
theorem supp_next {v G : Fin 1024 → Prop} {M : Fin 1024 → Fin 1024 → Prop} {nv : ℕ} (hM : ∀ r j, M r j → r < j)
    (hG : ∀ r, G r → 128 * (r.val / 128) < nv) {X : S1x1024.Idx → EReal} (hX : Supp G M nv 1024 X) (j : Fin 1024) :
    (if 0 < X (ix2 0 j) then (0 : EReal) else ind (v j)) = ind (stepK v M G j) := by
  have e : 0 < X (ix2 0 j) ↔ ∃ i, i < j ∧ G i ∧ M i j := by
    rw [(hX j).2]
    constructor
    · rintro ⟨r, _, _, h1, h2⟩; exact ⟨r, hM r j h2, h1, h2⟩
    · rintro ⟨r, _, h1, h2⟩; exact ⟨r, r.isLt, hG r h1, h1, h2⟩
  unfold ind stepK
  by_cases h : ∃ i, i < j ∧ G i ∧ M i j
  · rw [if_pos (e.2 h), if_neg fun hh => hh.2 h]
  · rw [if_neg fun hh => h (e.1 hh)]
    simp only [h, not_false_eq_true, and_true]

theorem gen_sub {v : Fin 1024 → Prop} {M : Fin 1024 → Fin 1024 → Prop} (t : ℕ) (j : Fin 1024) (h : gen v M t j) : v j := by
  cases t with
  | zero => exact h
  | succ t => exact h.1

theorem bSup_lt {B : Fin 4 → Fin 1024 → EReal} (r j : Fin 1024) (h : bSup B r j) : r < j := h.2

attribute [local irreducible] cc1_while1

theorem entails_of {P Q : sProp 𝕄} (h : P = Q) : P ⊢ Q := h ▸ .rfl

theorem fun_keep {v : Fin 1024 → Prop} {M : Fin 1024 → Fin 1024 → Prop} {t : ℕ} (h : gen v M t = gen v M (t + 1)) :
    gen v M t = keepS v M ∧ gen v M (t + 1) = keepS v M := by
  have e : gen v M t = keepS v M := (isKeep_of_repeat h).unique isKeep_gen
  exact ⟨e, h ▸ e⟩

theorem ogt_pos (x : EReal) : Scalar.cmpf (F := Ideal) (φ := .f32) .ogt x (Scalar.ofBits .f32 0x00000000#32) = 1#1 ↔ 0 < x := by
  show BitVec.ofBool (decide (Ideal.ofBits .f32 0x00000000#32 < x)) = 1#1 ↔ _
  rw [ofBool_decide, show Ideal.ofBits .f32 0x00000000#32 = 0 by simp [Ideal.ofBits, Ideal.ieee]]

theorem pay72_at (j : Fin 1024) : k1_pay72 (F := Ideal) (ix2 0 j) = 0 := by
  pointwise [k1_pay72]

theorem pay85_at (j : Fin 1024) : k1_pay85 (F := Ideal) (ix2 0 j) = 0 := by
  pointwise [k1_pay85]

section Parts
variable (c : Dev nD) (i : grid1.Coords) (arg1 : Memref sig .tc .vmem S1x4x8400 .f32) (harg1 : arg1.IsWhole)
  (arg2 : Memref sig .tc .vmem S1x1x1024 .i32) (harg2 : arg2.IsWhole) (arg3 : Memref sig .tc .vmem S1x1x1024 .f32) (harg3 : arg3.IsWhole)
  (arg4 : Memref sig .tc .vmem S1x8x1024 .f32) (harg4 : arg4.IsWhole) (arg5 : Memref sig .tc .vmem S8x1024 .f32) (harg5 : arg5.IsWhole)
  (arg6 : Memref sig .tc .vmem S1024x1024 .f32) (harg6 : arg6.IsWhole) (arg7 : Memref sig .tc .vmem S1x1024 .f32) (harg7 : arg7.IsWhole)
  (R : sProp 𝕄)

variable (B : Fin 4 → Fin 1024 → EReal) (s : Fin 1024 → EReal) (nv : ℕ) (hn : nv ≤ 1024)

include hn

/-- The mask, and the first block of the first support row. -/
theorem part19_spec (X6 : S1024x1024.Idx → EReal) (X7 : S1x1024.Idx → EReal) (Q : PUnit → sProp 𝕄)
    (hQ : ∀ X6' X7', Rows B nv 1024 X6' → Supp (vS s) (bSup B) nv 128 X7' → iprop(ow c arg7 X7' ∗ ow c arg6 X6' ∗ R) ⊢ Q ⟨⟩) :
    iprop(ow c arg6 X6 ∗ ow c arg7 X7 ∗ R) ⊢ wpK c none (k1_part19 (F := Ideal) i arg1 harg1 arg2 harg2 arg3 harg3 arg4 harg4 arg5 harg5 arg6 harg6 arg7 harg7 (row fun j => ind (vS s j)) (BitVec.ofNat 32 nv)
      (row (bX1 B)) (row (bY1 B)) (row (bX2 B)) (row (bY2 B)) (row (bArea B)) (col (bX1 B)) (col (bY1 B)) (col (bX2 B)) (col (bY2 B)) (col (bArea B)) (Scalar.cmpi .sgt (BitVec.ofNat 32 nv) 0#32)) Q := by
  rw [part19_form]
  have hg : ∀ o : ℕ, o ≤ 1024 → (gbit (BitVec.ofNat 32 nv) (BitVec.ofNat 32 o) = 1#1 ↔ o < nv) := fun o ho => guard_iff hn ho
  have h6 : Rows B nv 0 X6 := fun r j h => absurd h (by omega)
  refine rowGuard c none _ Q arg6 _ 0 nv Gen.slices_S1024x1_o0_0_S128x1 B _ inb_S1024x1024_S128x1024_0_0 (View.loadsAt_vmem h_S128x1024)
    (View.stores_vmem_bits_univ h_S128x1024 rfl) (.inl rfl) _ _ h6 (hg 0 (by omega)) (by omega) (by omega) rfl fun X6 h6 => ?_
  refine rowGuard c none _ Q arg6 _ 128 nv Gen.slices_S1024x1_o128_0_S128x1 B _ inb_S1024x1024_S128x1024_128_0 (View.loadsAt_vmem h_S128x1024)
    (View.stores_vmem_bits_univ h_S128x1024 rfl) (.inl rfl) _ _ h6 (hg 128 (by omega)) (by omega) (by omega) rfl fun X6 h6 => ?_
  refine rowGuard c none _ Q arg6 _ 256 nv Gen.slices_S1024x1_o256_0_S128x1 B _ inb_S1024x1024_S128x1024_256_0 (View.loadsAt_vmem h_S128x1024)
    (View.stores_vmem_bits_univ h_S128x1024 rfl) (.inl rfl) _ _ h6 (hg 256 (by omega)) (by omega) (by omega) rfl fun X6 h6 => ?_
  refine rowGuard c none _ Q arg6 _ 384 nv Gen.slices_S1024x1_o384_0_S128x1 B _ inb_S1024x1024_S128x1024_384_0 (View.loadsAt_vmem h_S128x1024)
    (View.stores_vmem_bits_univ h_S128x1024 rfl) (.inl rfl) _ _ h6 (hg 384 (by omega)) (by omega) (by omega) rfl fun X6 h6 => ?_
  refine rowGuard c none _ Q arg6 _ 512 nv Gen.slices_S1024x1_o512_0_S128x1 B _ inb_S1024x1024_S128x1024_512_0 (View.loadsAt_vmem h_S128x1024)
    (View.stores_vmem_bits_univ h_S128x1024 rfl) (.inl rfl) _ _ h6 (hg 512 (by omega)) (by omega) (by omega) rfl fun X6 h6 => ?_
  refine rowGuard c none _ Q arg6 _ 640 nv Gen.slices_S1024x1_o640_0_S128x1 B _ inb_S1024x1024_S128x1024_640_0 (View.loadsAt_vmem h_S128x1024)
    (View.stores_vmem_bits_univ h_S128x1024 rfl) (.inl rfl) _ _ h6 (hg 640 (by omega)) (by omega) (by omega) rfl fun X6 h6 => ?_
  refine rowGuard c none _ Q arg6 _ 768 nv Gen.slices_S1024x1_o768_0_S128x1 B _ inb_S1024x1024_S128x1024_768_0 (View.loadsAt_vmem h_S128x1024)
    (View.stores_vmem_bits_univ h_S128x1024 rfl) (.inl rfl) _ _ h6 (hg 768 (by omega)) (by omega) (by omega) rfl fun X6 h6 => ?_
  refine rowGuard c none _ Q arg6 _ 896 nv Gen.slices_S1024x1_o896_0_S128x1 B _ inb_S1024x1024_S128x1024_896_0 (View.loadsAt_vmem h_S128x1024)
    (View.stores_vmem_bits_univ h_S128x1024 rfl) (.inl rfl) _ _ h6 (hg 896 (by omega)) (by omega) (by omega) rfl fun X6 h6 => ?_
  refine bring2.trans ?_
  refine load_bind c none arg7 _ _ _ _ _ Q X7 (ld_whole _ _) ?_
  refine store_bind c none arg7 _ _ _ _ _ _ _ Q ?_
  rw [show (Rect.unit (s := S1x1024) ![0, 0] S1x1024.size inb_S1x1024_S1x1024_0_0).overlay X7 (k1_pay72 (F := Ideal)) = k1_pay72 (F := Ideal) from overlay_whole _ _ _]
  have h7 := supp_zero (vS s) (bSup B) nv _ pay72_at
  refine suppGuard c none _ Q arg7 arg6 _ 0 nv Gen.slices_S1x1024_o0_0_S1x128 B (vS s) inb_S1x1024_S1x1024_0_0 inb_S1024x1024_S128x1024_0_0
    (View.loadsAt_vmem h_S1x1024) (View.loadsAt_vmem h_S128x1024) (View.loadsAt_vmem h_S1x1024) (View.stores_vmem_bits_univ h_S1x1024 rfl) (.inl rfl)
    _ _ _ _ rfl h7 h6 (hg 0 (by omega)) (by omega) (by omega) fun X7 h7 => ?_
  exact (hQ _ _ h6 h7).trans (wp_ret' _ _ _ _)

/-- A support row, from nothing. -/
theorem part21_spec (bd : Option ℕ) (v9 arg8 : FVec Ideal S1x1024 .f32) (G : Fin 1024 → Prop) (X6 : S1024x1024.Idx → EReal) (h6 : Rows B nv 1024 X6)
    (X7 : S1x1024.Idx → EReal) Q (hQ : ∀ X7', Supp G (bSup B) nv 1024 X7' → iprop(ow c arg7 X7' ∗ ow c arg6 X6 ∗ R) ⊢ Q ⟨X7', Scalar.ofBits .f32 0x00000000#32⟩) :
    iprop(ow c arg7 X7 ∗ ow c arg6 X6 ∗ R)
      ⊢ wpK c bd (k1_part21 (F := Ideal) i (BitVec.ofNat 32 nv) arg7 harg7 arg6 harg6 v9 arg8 (row fun j => ind (G j))) Q := by
  rw [part21_form]
  have hg : ∀ o : ℕ, o ≤ 1024 → (gbit (BitVec.ofNat 32 nv) (BitVec.ofNat 32 o) = 1#1 ↔ o < nv) := fun o ho => guard_iff hn ho
  refine load_bind c bd arg7 _ _ _ _ _ Q X7 (ld_whole _ _) ?_
  refine store_bind c bd arg7 _ _ _ _ _ _ _ Q ?_
  rw [show (Rect.unit (s := S1x1024) ![0, 0] S1x1024.size inb_S1x1024_S1x1024_0_0).overlay X7 (k1_pay85 (F := Ideal)) = k1_pay85 (F := Ideal) from overlay_whole _ _ _]
  have h7 := supp_zero G (bSup B) nv _ pay85_at
  refine suppGuard c bd _ Q arg7 arg6 _ 0 nv Gen.slices_S1x1024_o0_0_S1x128 B G inb_S1x1024_S1x1024_0_0 inb_S1024x1024_S128x1024_0_0
    (View.loadsAt_vmem h_S1x1024) (View.loadsAt_vmem h_S128x1024) (View.loadsAt_vmem h_S1x1024) (View.stores_vmem_bits_univ h_S1x1024 rfl) (.inl rfl)
    _ _ _ _ rfl h7 h6 (hg 0 (by omega)) (by omega) (by omega) fun X7 h7 => ?_
  refine suppGuard c bd _ Q arg7 arg6 _ 128 nv Gen.slices_S1x1024_o0_128_S1x128 B G inb_S1x1024_S1x1024_0_0 inb_S1024x1024_S128x1024_128_0
    (View.loadsAt_vmem h_S1x1024) (View.loadsAt_vmem h_S128x1024) (View.loadsAt_vmem h_S1x1024) (View.stores_vmem_bits_univ h_S1x1024 rfl) (.inl rfl)
    _ _ _ _ rfl h7 h6 (hg 128 (by omega)) (by omega) (by omega) fun X7 h7 => ?_
  refine suppGuard c bd _ Q arg7 arg6 _ 256 nv Gen.slices_S1x1024_o0_256_S1x128 B G inb_S1x1024_S1x1024_0_0 inb_S1024x1024_S128x1024_256_0
    (View.loadsAt_vmem h_S1x1024) (View.loadsAt_vmem h_S128x1024) (View.loadsAt_vmem h_S1x1024) (View.stores_vmem_bits_univ h_S1x1024 rfl) (.inl rfl)
    _ _ _ _ rfl h7 h6 (hg 256 (by omega)) (by omega) (by omega) fun X7 h7 => ?_
  refine suppGuard c bd _ Q arg7 arg6 _ 384 nv Gen.slices_S1x1024_o0_384_S1x128 B G inb_S1x1024_S1x1024_0_0 inb_S1024x1024_S128x1024_384_0
    (View.loadsAt_vmem h_S1x1024) (View.loadsAt_vmem h_S128x1024) (View.loadsAt_vmem h_S1x1024) (View.stores_vmem_bits_univ h_S1x1024 rfl) (.inl rfl)
    _ _ _ _ rfl h7 h6 (hg 384 (by omega)) (by omega) (by omega) fun X7 h7 => ?_
  refine suppGuard c bd _ Q arg7 arg6 _ 512 nv Gen.slices_S1x1024_o0_512_S1x128 B G inb_S1x1024_S1x1024_0_0 inb_S1024x1024_S128x1024_512_0
    (View.loadsAt_vmem h_S1x1024) (View.loadsAt_vmem h_S128x1024) (View.loadsAt_vmem h_S1x1024) (View.stores_vmem_bits_univ h_S1x1024 rfl) (.inl rfl)
    _ _ _ _ rfl h7 h6 (hg 512 (by omega)) (by omega) (by omega) fun X7 h7 => ?_
  refine suppGuard c bd _ Q arg7 arg6 _ 640 nv Gen.slices_S1x1024_o0_640_S1x128 B G inb_S1x1024_S1x1024_0_0 inb_S1024x1024_S128x1024_640_0
    (View.loadsAt_vmem h_S1x1024) (View.loadsAt_vmem h_S128x1024) (View.loadsAt_vmem h_S1x1024) (View.stores_vmem_bits_univ h_S1x1024 rfl) (.inl rfl)
    _ _ _ _ rfl h7 h6 (hg 640 (by omega)) (by omega) (by omega) fun X7 h7 => ?_
  refine suppGuard c bd _ Q arg7 arg6 _ 768 nv Gen.slices_S1x1024_o0_768_S1x128 B G inb_S1x1024_S1x1024_0_0 inb_S1024x1024_S128x1024_768_0
    (View.loadsAt_vmem h_S1x1024) (View.loadsAt_vmem h_S128x1024) (View.loadsAt_vmem h_S1x1024) (View.stores_vmem_bits_univ h_S1x1024 rfl) (.inl rfl)
    _ _ _ _ rfl h7 h6 (hg 768 (by omega)) (by omega) (by omega) fun X7 h7 => ?_
  refine suppGuard c bd _ Q arg7 arg6 _ 896 nv Gen.slices_S1x1024_o0_896_S1x128 B G inb_S1x1024_S1x1024_0_0 inb_S1024x1024_S128x1024_896_0
    (View.loadsAt_vmem h_S1x1024) (View.loadsAt_vmem h_S128x1024) (View.loadsAt_vmem h_S1x1024) (View.stores_vmem_bits_univ h_S1x1024 rfl) (.inl rfl)
    _ _ _ _ rfl h7 h6 (hg 896 (by omega)) (by omega) (by omega) fun X7 h7 => ?_
  refine load_bind c bd arg7 _ _ _ _ _ Q X7 (ld_whole _ _) ?_
  exact (hQ _ h7).trans (wp_ret' _ _ _ _)

variable (hs : ∀ j, vS s j → 128 * (j.val / 128) < nv)
include hs

/-- The repeated step, entered with iterates `t` and `t + 1` and `d` steps left, ends with the kept set twice. -/
theorem while_spec (X6 : S1024x1024.Idx → EReal) (h6 : Rows B nv 1024 X6) : ∀ (d t : ℕ), t + d = 1024 → ∀ (X7 : S1x1024.Idx → EReal) Q,
    (∀ X7', iprop(ow c arg7 X7' ∗ ow c arg6 X6 ∗ R) ⊢ Q (row fun j => ind (keepS (vS s) (bSup B) j), row fun j => ind (keepS (vS s) (bSup B) j))) →
    iprop(ow c arg7 X7 ∗ ow c arg6 X6 ∗ R) ⊢ wpK c (some d) (cc1_while1 (F := Ideal) i (BitVec.ofNat 32 nv) arg7 harg7 arg6 harg6 (row fun j => ind (vS s j))
      (row fun j => ind (gen (vS s) (bSup B) t j)) (row fun j => ind (gen (vS s) (bSup B) (t + 1) j))) Q := by
  intro d
  induction d with
  | zero =>
    intro t ht X7 Q hQ
    rw [while_form, if_neg (by
      rw [ogt_pos, pay2_pos, not_not]
      by_contra hc
      have := lt_of_gen_ne (fun h => hc (by rw [h]) : gen (vS s) (bSup B) t ≠ gen (vS s) (bSup B) (t + 1))
      omega)]
    have e := fun_keep (M := bSup B) (v := vS s) (t := t) (by
      by_contra hc
      have := lt_of_gen_ne hc
      omega)
    rw [e.1, e.2]
    exact (hQ X7).trans (wp_ret' _ _ _ _)
  | succ d ih =>
    intro t ht X7 Q hQ
    by_cases hstop : gen (vS s) (bSup B) t = gen (vS s) (bSup B) (t + 1)
    · have e := fun_keep hstop
      rw [while_form, if_neg (by rw [ogt_pos, pay2_pos, not_not, hstop]), e.1, e.2]
      exact (hQ X7).trans (wp_ret' _ _ _ _)
    · rw [while_form, if_pos (by
        rw [ogt_pos, pay2_pos]
        intro h
        exact hstop (funext fun j => propext (ind_inj.1 (congrFun h j))))]
      unfold wpK
      rw [wp_bind]
      refine part21_spec c i arg6 harg6 arg7 harg7 R B nv hn (some (d + 1)) _ _ _ X6 h6 X7 _ fun X7' h7 => ?_
      have e3 : k1_pay3 (F := Ideal) (row fun j => ind (vS s j)) X7' (Scalar.ofBits .f32 0x00000000#32) = row fun j => ind (gen (vS s) (bSup B) (t + 2) j) := by
        conv_lhs => rw [← row_eta X7']
        rw [pay3_eq]
        exact congrArg row (funext fun j => supp_next bSup_lt (fun r hr => hs r (gen_sub _ r hr)) h7 j)
      refine call_while c (some (d + 1)) d (fun u hu => by cases hu; exact Nat.lt_succ_self d) i arg6 harg6 arg7 harg7 _ _ _ _ pure Q _ ?_
      rw [e3]
      exact ih (t + 1) (by omega) X7' _ fun X7'' => (hQ X7'').trans (wp_ret' _ _ _ _)

/-- The rest of the first support row, the repeated step, and what the output needs. -/
theorem part20_spec (X6 : S1024x1024.Idx → EReal) (h6 : Rows B nv 1024 X6) (X7 : S1x1024.Idx → EReal) (h7 : Supp (vS s) (bSup B) nv 128 X7) (v54 v57) Q
    (hQ : ∀ X7', iprop(ow c arg7 X7' ∗ ow c arg6 X6 ∗ R) ⊢ Q ⟨row fun j => ind (keepS (vS s) (bSup B) j), k1_pay82 (F := Ideal), k1_pay83 v54, k1_pay84 v57⟩) :
    iprop(ow c arg7 X7 ∗ ow c arg6 X6 ∗ R) ⊢ wpK c none (k1_part20 (F := Ideal) i arg1 harg1 arg2 harg2 arg3 harg3 arg4 harg4 arg5 harg5 arg6 harg6 arg7 harg7 (row fun j => ind (vS s j)) (BitVec.ofNat 32 nv) v54 v57) Q := by
  rw [part20_form]
  have hg : ∀ o : ℕ, o ≤ 1024 → (gbit (BitVec.ofNat 32 nv) (BitVec.ofNat 32 o) = 1#1 ↔ o < nv) := fun o ho => guard_iff hn ho
  refine suppGuard c none _ Q arg7 arg6 _ 128 nv Gen.slices_S1x1024_o0_128_S1x128 B (vS s) inb_S1x1024_S1x1024_0_0 inb_S1024x1024_S128x1024_128_0
    (View.loadsAt_vmem h_S1x1024) (View.loadsAt_vmem h_S128x1024) (View.loadsAt_vmem h_S1x1024) (View.stores_vmem_bits_univ h_S1x1024 rfl) (.inl rfl)
    _ _ _ _ rfl h7 h6 (hg 128 (by omega)) (by omega) (by omega) fun X7 h7 => ?_
  refine suppGuard c none _ Q arg7 arg6 _ 256 nv Gen.slices_S1x1024_o0_256_S1x128 B (vS s) inb_S1x1024_S1x1024_0_0 inb_S1024x1024_S128x1024_256_0
    (View.loadsAt_vmem h_S1x1024) (View.loadsAt_vmem h_S128x1024) (View.loadsAt_vmem h_S1x1024) (View.stores_vmem_bits_univ h_S1x1024 rfl) (.inl rfl)
    _ _ _ _ rfl h7 h6 (hg 256 (by omega)) (by omega) (by omega) fun X7 h7 => ?_
  refine suppGuard c none _ Q arg7 arg6 _ 384 nv Gen.slices_S1x1024_o0_384_S1x128 B (vS s) inb_S1x1024_S1x1024_0_0 inb_S1024x1024_S128x1024_384_0
    (View.loadsAt_vmem h_S1x1024) (View.loadsAt_vmem h_S128x1024) (View.loadsAt_vmem h_S1x1024) (View.stores_vmem_bits_univ h_S1x1024 rfl) (.inl rfl)
    _ _ _ _ rfl h7 h6 (hg 384 (by omega)) (by omega) (by omega) fun X7 h7 => ?_
  refine suppGuard c none _ Q arg7 arg6 _ 512 nv Gen.slices_S1x1024_o0_512_S1x128 B (vS s) inb_S1x1024_S1x1024_0_0 inb_S1024x1024_S128x1024_512_0
    (View.loadsAt_vmem h_S1x1024) (View.loadsAt_vmem h_S128x1024) (View.loadsAt_vmem h_S1x1024) (View.stores_vmem_bits_univ h_S1x1024 rfl) (.inl rfl)
    _ _ _ _ rfl h7 h6 (hg 512 (by omega)) (by omega) (by omega) fun X7 h7 => ?_
  refine suppGuard c none _ Q arg7 arg6 _ 640 nv Gen.slices_S1x1024_o0_640_S1x128 B (vS s) inb_S1x1024_S1x1024_0_0 inb_S1024x1024_S128x1024_640_0
    (View.loadsAt_vmem h_S1x1024) (View.loadsAt_vmem h_S128x1024) (View.loadsAt_vmem h_S1x1024) (View.stores_vmem_bits_univ h_S1x1024 rfl) (.inl rfl)
    _ _ _ _ rfl h7 h6 (hg 640 (by omega)) (by omega) (by omega) fun X7 h7 => ?_
  refine suppGuard c none _ Q arg7 arg6 _ 768 nv Gen.slices_S1x1024_o0_768_S1x128 B (vS s) inb_S1x1024_S1x1024_0_0 inb_S1024x1024_S128x1024_768_0
    (View.loadsAt_vmem h_S1x1024) (View.loadsAt_vmem h_S128x1024) (View.loadsAt_vmem h_S1x1024) (View.stores_vmem_bits_univ h_S1x1024 rfl) (.inl rfl)
    _ _ _ _ rfl h7 h6 (hg 768 (by omega)) (by omega) (by omega) fun X7 h7 => ?_
  refine suppGuard c none _ Q arg7 arg6 _ 896 nv Gen.slices_S1x1024_o0_896_S1x128 B (vS s) inb_S1x1024_S1x1024_0_0 inb_S1024x1024_S128x1024_896_0
    (View.loadsAt_vmem h_S1x1024) (View.loadsAt_vmem h_S128x1024) (View.loadsAt_vmem h_S1x1024) (View.stores_vmem_bits_univ h_S1x1024 rfl) (.inl rfl)
    _ _ _ _ rfl h7 h6 (hg 896 (by omega)) (by omega) (by omega) fun X7 h7 => ?_
  refine load_bind c none arg7 _ _ _ _ _ Q X7 (ld_whole _ _) ?_
  have e3 : k1_pay81 (F := Ideal) (row fun j => ind (vS s j)) X7 = row fun j => ind (gen (vS s) (bSup B) 1 j) := by
    conv_lhs => rw [← row_eta X7]
    rw [pay81_eq]
    exact congrArg row (funext fun j => supp_next bSup_lt hs h7 j)
  rw [e3]
  refine call_while c none 1024 (fun u hu => nomatch hu) i arg6 harg6 arg7 harg7 _ _ _ _ _ Q _ ?_
  exact while_spec c i arg6 harg6 arg7 harg7 R B s nv hn hs X6 h6 1024 0 rfl X7 _ fun X7'' => (hQ X7'').trans (wp_ret' _ _ _ _)

end Parts

/-! ## The body -/

/-- What the body writes for an image: the scaled corners and the score of the kept candidates. -/
def nmsOut (X1 : S1x4x8400.Idx → EReal) (X2 : S1x1x1024.Idx → BitVec 32) (X3 : S1x1x1024.Idx → EReal) : S1x8x1024.Idx → EReal := fun i =>
  outS (bxS (fun a k => X1 (ix3 0 a k)) (fun j => (X2 (ix3 0 0 j)).toNat) (fun j => X3 (ix3 0 0 j))) (fun j => X3 (ix3 0 0 j))
    (keepS (vS fun j => X3 (ix3 0 0 j)) (bSup (bxS (fun a k => X1 (ix3 0 a k)) (fun j => (X2 (ix3 0 0 j)).toNat) (fun j => X3 (ix3 0 0 j)))))
    (i 1).val (i 2)

/-- Every block that holds a valid candidate runs. -/
def Dense (s : Fin 1024 → EReal) : Prop := ∀ j, vS s j → 128 * (j.val / 128) < nvS s

theorem boxOf_eq (X1 : S1x4x8400.Idx → EReal) (X2 : S1x1x1024.Idx → BitVec 32) (X3 : S1x1x1024.Idx → EReal) (X5 : S8x1024.Idx → EReal)
    (hs : Dense fun j => X3 (ix3 0 0 j))
    (h : Cols (fun a k => k1_pay44 (F := Ideal) X1 (ix2 a k)) (fun j => (k1_pay45 (F := Ideal) X2 (ix2 0 j)).toNat) (nvS fun j => X3 (ix3 0 0 j)) 1024 X5) :
    boxOf X3 X5 = bxS (fun a k => X1 (ix3 0 a k)) (fun j => (X2 (ix3 0 0 j)).toNat) (fun j => X3 (ix3 0 0 j)) := by
  funext r j
  unfold boxOf bxS
  split
  · rename_i hv
    rw [h r j j.isLt (hs j hv)]
    have e1 : (fun (a : Fin 4) (k : Fin 8400) => k1_pay44 (F := Ideal) X1 (ix2 a k)) = fun a k => X1 (ix3 0 a k) := by
      funext a k; pointwise [k1_pay44]
    have e2 : (fun j : Fin 1024 => (k1_pay45 (F := Ideal) X2 (ix2 0 j)).toNat) = fun j => (X2 (ix3 0 0 j)).toNat := by
      funext j; pointwise [k1_pay45]
    rw [e1, e2]
  · rfl

theorem pay46_eq (X3 : S1x1x1024.Idx → EReal) : k1_pay46 (F := Ideal) X3 = row fun j => X3 (ix3 0 0 j) := by
  rw [← row_eta (k1_pay46 (F := Ideal) X3)]
  congr 1
  funext j
  pointwise [k1_pay46]

theorem pay83_eq (f : Fin 1024 → EReal) : k1_pay83 (F := Ideal) (row f) = row fun j => Ideal.div (f j) cScale := by
  funext i
  pointwise [k1_pay83, row]
  rfl

theorem pay84_eq (f : Fin 1024 → EReal) : k1_pay84 (F := Ideal) (row f) = row fun j => Ideal.div (f j) cScale := by
  funext i
  pointwise [k1_pay84, row]
  rfl

section Body
variable (c : Dev nD) (i : grid1.Coords) (arg1 : Memref sig .tc .vmem S1x4x8400 .f32) (harg1 : arg1.IsWhole)
  (arg2 : Memref sig .tc .vmem S1x1x1024 .i32) (harg2 : arg2.IsWhole) (arg3 : Memref sig .tc .vmem S1x1x1024 .f32) (harg3 : arg3.IsWhole)
  (arg4 : Memref sig .tc .vmem S1x8x1024 .f32) (harg4 : arg4.IsWhole) (arg5 : Memref sig .tc .vmem S8x1024 .f32) (harg5 : arg5.IsWhole)
  (arg6 : Memref sig .tc .vmem S1024x1024 .f32) (harg6 : arg6.IsWhole) (arg7 : Memref sig .tc .vmem S1x1024 .f32) (harg7 : arg7.IsWhole)
  (R : sProp 𝕄)

/-- The body of the suppression kernel: whatever the scratch buffers hold, the output block is `nmsOut` of the input blocks. -/
theorem nms_spec (X1 : S1x4x8400.Idx → EReal) (X2 : S1x1x1024.Idx → BitVec 32) (X3 : S1x1x1024.Idx → EReal) (X4 : S1x8x1024.Idx → EReal)
    (X5 : S8x1024.Idx → EReal) (X6 : S1024x1024.Idx → EReal) (X7 : S1x1024.Idx → EReal) (hs : Dense fun j => X3 (ix3 0 0 j)) (Q : PUnit → sProp 𝕄)
    (hQ : ∀ X5' X6' X7', iprop(ow c arg4 (nmsOut X1 X2 X3) ∗ ow c arg7 X7' ∗ ow c arg6 X6' ∗ ow c arg5 X5' ∗ ow c arg3 X3 ∗ ow c arg2 X2 ∗ ow c arg1 X1 ∗ R) ⊢ Q ⟨⟩) :
    iprop(ow c arg1 X1 ∗ ow c arg2 X2 ∗ ow c arg3 X3 ∗ ow c arg5 X5 ∗ ow c arg6 X6 ∗ ow c arg7 X7 ∗ ow c arg4 X4 ∗ R)
      ⊢ wpK c none (cc1__nms_body (F := Ideal) i arg1 harg1 arg2 harg2 arg3 harg3 arg4 harg4 arg5 harg5 arg6 harg6 arg7 harg7) Q := by
  rw [body_form]
  unfold wpK
  rw [wp_bind]
  have hn := nvS_le fun j => X3 (ix3 0 0 j)
  refine part17_spec c i arg1 harg1 arg2 harg2 arg3 harg3 arg4 harg4 arg5 harg5 arg6 harg6 arg7 harg7 _ X1 X2 X3 X5 _ rfl _ fun X5a ha => ?_
  rw [wp_bind]
  refine part18_spec c i arg1 harg1 arg2 harg2 arg3 harg3 arg4 harg4 arg5 harg5 arg6 harg6 arg7 harg7 _ _ _ _ _ hn X5a _ _ rfl rfl ha _ fun X5b hb => ?_
  have hB := boxOf_eq X1 X2 X3 X5b hs hb
  rw [pay54_eq, pay55_eq, pay56_eq, pay57_eq, pay58_eq, pay59_eq, pay60_eq, pay61_eq, pay62_eq, pay63_eq, pay48_eq, pay46_eq, hB]
  generalize hBB : bxS (fun a k => X1 (ix3 0 a k)) (fun j => (X2 (ix3 0 0 j)).toNat) (fun j => X3 (ix3 0 0 j)) = B
  refine (show _ ⊢ iprop(ow c arg6 X6 ∗ ow c arg7 X7 ∗ ow c arg4 X4 ∗ ow c arg5 X5b ∗ ow c arg3 X3 ∗ ow c arg2 X2 ∗ ow c arg1 X1 ∗ R) by
    iintro ⟨H5, H3, H2, H1, H6, H7, H4, HR⟩
    iframe H6 H7 H4 H5 H3 H2 H1 HR).trans ?_
  rw [wp_bind]
  refine part19_spec c i arg1 harg1 arg2 harg2 arg3 harg3 arg4 harg4 arg5 harg5 arg6 harg6 arg7 harg7 _ B _ _ hn X6 X7 _ fun X6a X7a h6 h7 => ?_
  rw [wp_bind]
  refine part20_spec c i arg1 harg1 arg2 harg2 arg3 harg3 arg4 harg4 arg5 harg5 arg6 harg6 arg7 harg7 _ B _ _ hn hs X6a h6 X7a h7 _ _ _ fun X7b => ?_
  refine bring3.trans ?_
  refine load_bind c none arg4 _ _ _ _ _ Q X4 (ld_whole _ _) ?_
  refine store_bind c none arg4 _ _ _ _ _ _ _ Q ?_
  refine BIBase.Entails.trans ?_ (wp_ret' _ _ _ _)
  refine BIBase.Entails.trans (sep_mono_left (entails_of ?_)) (hQ X5b X6a X7b)
  refine congrArg (ow c arg4) ((overlay_whole _ _ _).trans ?_)
  funext j
  rw [pay83_eq, pay84_eq]
  rw [eq_ix3 j, show j 0 = (0 : Fin 1) from Subsingleton.elim (α := Fin 1) _ _]
  refine (pay1_at _ _ _ _ _ _ _ _).trans ?_
  unfold nmsOut
  rw [hBB]
  rfl

end Body

end Cert.Proof

end
-- ==== Proof.ScoreRegion.lean ====
/-
  The first launch: its body leaves the masked scores and the boxes of one image; and the launch as a segment of the program,
  entered from any contents of the buffers.
-/
module

public import proofs.«01_k».proof.Proof.NmsGather
public import Idealize.ShloMosaic.Lib.Pipeline.Regions
public import Idealize.ShloMosaic.Lib.Pipeline.ValueKit

@[expose] public section

set_option maxRecDepth 65536

noncomputable section

namespace Cert.Proof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Idealize.ShloMosaic.Ideal) ℕ UU ℕ

/-- The body of the first kernel: from the input block to the two output blocks. -/
theorem score_spec (c : Dev nD) (i : grid0.Coords) (arg1 : Memref sig .tc .vmem S1x84x8400 .f32) (harg1 : arg1.IsWhole)
    (arg2 : Memref sig .tc .vmem S1x1x8400 .f32) (harg2 : arg2.IsWhole) (arg3 : Memref sig .tc .vmem S1x4x8400 .f32) (harg3 : arg3.IsWhole)
    (R : sProp 𝕄) (X1 : Vec Ideal S1x84x8400 .f32) (X2 : Vec Ideal S1x1x8400 .f32) (X3 : Vec Ideal S1x4x8400 .f32) (Q : PUnit → sProp 𝕄)
    (hQ : iprop(ow c arg3 (k0_pay3 X1) ∗ ow c arg2 (k0_pay2 X1) ∗ ow c arg1 X1 ∗ R) ⊢ Q ⟨⟩) :
    iprop(ow c arg1 X1 ∗ ow c arg2 X2 ∗ ow c arg3 X3 ∗ R) ⊢ wpK c none (cc0__score_body (F := Ideal) i arg1 harg1 arg2 harg2 arg3 harg3) Q := by
  rw [cc0__score_body_eq_skeleton]
  unfold cc0__score_body_skel
  refine load_bind c none arg1 _ _ _ X1 _ Q X1 (ld_whole _ _) ?_
  refine sep_left_comm.1.trans ?_
  refine load_bind c none arg2 _ _ _ X2 _ Q X2 (ld_whole _ _) ?_
  refine store_bind c none arg2 _ _ _ _ _ X2 _ Q ?_
  rw [show (Rect.unit (s := S1x1x8400) ![0, 0, 0] S1x1x8400.size inb_S1x1x8400_S1x1x8400_0_0_0).overlay X2 (k0_pay2 X1) = k0_pay2 X1 from overlay_whole _ _ _]
  refine bring3.trans ?_
  refine load_bind c none arg3 _ _ _ X3 _ Q X3 (ld_whole _ _) ?_
  refine store_bind c none arg3 _ _ _ _ _ X3 _ Q ?_
  rw [show (Rect.unit (s := S1x4x8400) ![0, 0, 0] S1x4x8400.size inb_S1x4x8400_S1x4x8400_0_0_0).overlay X3 (k0_pay3 X1) = k0_pay3 X1 from overlay_whole _ _ _]
  exact hQ.trans (wp_ret' _ _ _ _)

/-! ## The launch, at an entry valuation -/

/-- The prefetched tables' admissible contents: no launch has a table. -/
abbrev adm : (p : Fin 2) → (pcfgs (F := Ideal) p).Adm := fun p => (cfgs p).toPCfg_adm
/-- The measure the loop of the second kernel is bounded by. -/
abbrev 𝒱₀ : Variants := Variants.nat
/-- No core owes another anything: no level is assigned. -/
abbrev Lev : GSem nD τ sig → Finset Unit := fun _ => ∅
abbrev lvl : GSem nD τ sig → Unit → ℕ := fun _ _ => 0

variable (V : (c : Dev nD) → (b : Ref sig .tc) → Buf (Elt Ideal) ((c : Thread nD τ).loc b))

/-- The input block of point `t`. -/
abbrev blkIn0 (c : Dev nD) (t : Fin (cfg0 (F := Ideal)).N) : Vec Ideal S1x84x8400 .f32 :=
  (((cfg0 (F := Ideal)).win 0).blk t).view.read (Elt Ideal) (V c main_arg0)

/-- The launch's data: the input block stays, the outputs are the body's two payloads of it. -/
def dat0 (c : Dev nD) : Dat τ (Elt Ideal) Unit ℕ UU ℕ (cfg0 (F := Ideal)) c where
  A w := V c (Pipeline.arrRef spec0 w)
  after w t := match w with
    | ⟨0, _⟩ => blkIn0 V c t
    | ⟨1, _⟩ => k0_pay2 (blkIn0 V c t)
    | ⟨2, _⟩ => k0_pay3 (blkIn0 V c t)
  Φ _ := Pipeline.scopedRest (Ix := Unit) (Name := ℕ) (U := UU) (Lvl := ℕ) (Val := Elt Ideal) spec0 c
  q _ := fullShare
  owed _ := 0

theorem before0 (c : Dev nD) (t : Fin (cfg0 (F := Ideal)).N) (d) : (dat0 V c).before 0 t d = blkIn0 V c t :=
  (dat0 V c).before_fetched 0 t (fetch0_0 t) d

section
attribute [local irreducible] cc0__score_body

theorem body0 (c : Dev nD) : BodyObligation (dat0 V c) (defs₀ (F := Ideal)) 𝒱₀ () Set.univ := fun t => by
  rw [bigSep_W0, bigSep_W0]
  show iprop((dat0 V c).Φ t.castSucc ∗ (dat0 V c).owesAt () t.castSucc
      ∗ (∃ d, ow c (st0_0 t) ((dat0 V c).before 0 t d)) ∗ (∃ d, ow c (st0_1 t) ((dat0 V c).before 1 t d)) ∗ (∃ d, ow c (st0_2 t) ((dat0 V c).before 2 t d)))
    ⊢ wpK c none (bodyAt0 t) (fun _ => iprop((dat0 V c).Φ t.castSucc ∗ (dat0 V c).owesAt () t.castSucc
      ∗ ow c (st0_0 t) (blkIn0 V c t) ∗ ow c (st0_1 t) (k0_pay2 (blkIn0 V c t)) ∗ ow c (st0_2 t) (k0_pay3 (blkIn0 V c t))))
  iintro ⟨HΦ, HO, ⟨%d0, H0⟩, ⟨%d1, H1⟩, ⟨%d2, H2⟩⟩
  rw [before0]
  iapply (score_spec c _ (st0_0 t) _ (st0_1 t) _ (st0_2 t) _ iprop((dat0 V c).Φ t.castSucc ∗ (dat0 V c).owesAt () t.castSucc)
    (blkIn0 V c t) ((dat0 V c).before 1 t d1) ((dat0 V c).before 2 t d2) _ (by
      iintro ⟨H2, H1, H0, HΦ, HO⟩
      iframe H0 H1 H2 HΦ HO))
  iframe H0 H1 H2 HΦ HO
end

end Cert.Proof

end
-- ==== Proof.NmsRegion.lean ====
/-
  The second launch at an entry valuation: its body obligation, given that every image's scores are dense.
-/
module

public import proofs.«01_k».proof.Proof.NmsMask
public import proofs.«01_k».proof.Proof.ScoreRegion

@[expose] public section

set_option maxRecDepth 65536

noncomputable section

namespace Cert.Proof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Idealize.ShloMosaic.Ideal) ℕ UU ℕ

variable (V : (c : Dev nD) → (b : Ref sig .tc) → Buf (Elt Ideal) ((c : Thread nD τ).loc b))

/-- The three input blocks of point `t`: the boxes, the chosen indices, their scores. -/
abbrev blkBox (c : Dev nD) (t : Fin (cfg1 (F := Ideal)).N) : S1x4x8400.Idx → EReal :=
  (((cfg1 (F := Ideal)).win 0).blk t).view.read (Elt Ideal) (V c main_v0_1)
abbrev blkIdx (c : Dev nD) (t : Fin (cfg1 (F := Ideal)).N) : S1x1x1024.Idx → BitVec 32 :=
  (((cfg1 (F := Ideal)).win 1).blk t).view.read (Elt Ideal) (V c main_v12)
abbrev blkSc (c : Dev nD) (t : Fin (cfg1 (F := Ideal)).N) : S1x1x1024.Idx → EReal :=
  (((cfg1 (F := Ideal)).win 2).blk t).view.read (Elt Ideal) (V c main_v14)

/-- The launch's data: the inputs stay, the output is `nmsOut` of them. -/
def dat1 (c : Dev nD) : Dat τ (Elt Ideal) Unit ℕ UU ℕ (cfg1 (F := Ideal)) c where
  A w := V c (Pipeline.arrRef spec1 w)
  after w t := match w with
    | ⟨0, _⟩ => blkBox V c t
    | ⟨1, _⟩ => blkIdx V c t
    | ⟨2, _⟩ => blkSc V c t
    | ⟨3, _⟩ => nmsOut (blkBox V c t) (blkIdx V c t) (blkSc V c t)
  Φ _ := Pipeline.scopedRest (Ix := Unit) (Name := ℕ) (U := UU) (Lvl := ℕ) (Val := Elt Ideal) spec1 c
  q _ := fullShare
  owed _ := 0

theorem before1_0 (c : Dev nD) (t : Fin (cfg1 (F := Ideal)).N) (d) : (dat1 V c).before 0 t d = blkBox V c t :=
  (dat1 V c).before_fetched 0 t (fetch1_0 t) d
theorem before1_1 (c : Dev nD) (t : Fin (cfg1 (F := Ideal)).N) (d) : (dat1 V c).before 1 t d = blkIdx V c t :=
  (dat1 V c).before_fetched 1 t (fetch1_1 t) d
theorem before1_2 (c : Dev nD) (t : Fin (cfg1 (F := Ideal)).N) (d) : (dat1 V c).before 2 t d = blkSc V c t :=
  (dat1 V c).before_fetched 2 t (fetch1_2 t) d

/-- A whole scratch buffer held at some contents, read as its memref owned. -/
theorem scratch_owns (c : Dev nD) (b : Ref sig .tc) (f : Buf (Elt Ideal) ((c : Thread nD τ).loc b)) :
    (((c : Thread nD τ).loc b) ↦{fullShare} f : sProp 𝕄) = ow c (Memref.whole b) f := by
  unfold ow
  rw [owns_whole]

section
attribute [local irreducible] cc1__nms_body

theorem body1 (hD : ∀ c t, Dense fun j => blkSc V c t (ix3 0 0 j)) (c : Dev nD) : BodyObligation (dat1 V c) (defs₀ (F := Ideal)) 𝒱₀ () Set.univ := fun t => by
  rw [bigSep_W1, bigSep_W1]
  show iprop((dat1 V c).Φ t.castSucc ∗ (dat1 V c).owesAt () t.castSucc
      ∗ (∃ d, ow c (st1_0 t) ((dat1 V c).before 0 t d)) ∗ (∃ d, ow c (st1_1 t) ((dat1 V c).before 1 t d)) ∗ (∃ d, ow c (st1_2 t) ((dat1 V c).before 2 t d)) ∗ (∃ d, ow c (st1_3 t) ((dat1 V c).before 3 t d)))
    ⊢ wpK c none (bodyAt1 t) (fun _ => iprop((dat1 V c).Φ t.castSucc ∗ (dat1 V c).owesAt () t.castSucc
      ∗ ow c (st1_0 t) (blkBox V c t) ∗ ow c (st1_1 t) (blkIdx V c t) ∗ ow c (st1_2 t) (blkSc V c t) ∗ ow c (st1_3 t) (nmsOut (blkBox V c t) (blkIdx V c t) (blkSc V c t))))
  rw [show (dat1 V c).Φ t.castSucc = Pipeline.scopedRest (Ix := Unit) (Name := ℕ) (U := UU) (Lvl := ℕ) (Val := Elt Ideal) spec1 c from rfl, scopedRest1_eq]
  simp only [scratch_owns]
  iintro ⟨⟨HA, HB, HC, HD, HE, HF, ⟨%s0, HS0⟩, ⟨%s1, HS1⟩, ⟨%s2, HS2⟩⟩, HO, ⟨%d0, H0⟩, ⟨%d1, H1⟩, ⟨%d2, H2⟩, ⟨%d3, H3⟩⟩
  rw [before1_0, before1_1, before1_2]
  iapply (nms_spec c _ (st1_0 t) _ (st1_1 t) _ (st1_2 t) _ (st1_3 t) _ (Memref.whole cc1_scratch0) _ (Memref.whole cc1_scratch1) _ (Memref.whole cc1_scratch2) _
    iprop((∃ f, ow c (Memref.whole cc0_stg0_0) f) ∗ (∃ f, ow c (Memref.whole cc0_stg0_1) f) ∗ (∃ f, ow c (Memref.whole cc0_stg1_0) f)
      ∗ (∃ f, ow c (Memref.whole cc0_stg1_1) f) ∗ (∃ f, ow c (Memref.whole cc0_stg2_0) f) ∗ (∃ f, ow c (Memref.whole cc0_stg2_1) f) ∗ (dat1 V c).owesAt () t.castSucc)
    (blkBox V c t) (blkIdx V c t) (blkSc V c t) ((dat1 V c).before 3 t d3) s0 s1 s2 (hD c t) _ (fun X5 X6 X7 => by
      iintro ⟨H3, HS2, HS1, HS0, H2, H1, H0, HA, HB, HC, HD, HE, HF, HO⟩
      iframe HA HB HC HD HE HF HO H0 H1 H2 H3
      isplitl [HS0]; · iexists _; iexact HS0
      isplitl [HS1]; · iexists _; iexact HS1
      iexists _; iexact HS2))
  iframe H0 H1 H2 HS0 HS1 HS2 H3 HA HB HC HD HE HF HO
end

end Cert.Proof

end
-- ==== Proof.CaseSeg.lean ====
/-
  The host branch of the program as a segment: the word that picks the arm, the two arms' operations, and what they leave.
-/
module

public import proofs.«01_k».proof.Proof.NmsRegion
public import Idealize.ShloMosaic.Lib.Pipeline.RegionsCase

@[expose] public section

set_option maxRecDepth 65536

noncomputable section

namespace Cert.Proof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Idealize.ShloMosaic.Ideal) ℕ UU ℕ

section
variable {F : FTy → Type} [FloatOps F]

/-- The operation whose result picks the arm. -/
abbrev rdOp : HloOp τ sig (Elt F) :=
  StableHlo.unary main_v8 main_v9 ((extui 32 · natLt_1_32) : (⟨S_, .i1⟩ : BufTy).Contents (Elt F) → (⟨S_, .i32⟩ : BufTy).Contents (Elt F))

/-- The arm taken when some group has more than sixteen scores above the threshold: one choice over the whole row. -/
abbrev fullOps : List (HloOp τ sig (Elt F)) :=
  [ StableHlo.unary main_v1 main_case0b0_values ((fun x => (Host.topK S32x1000 1 (FloatOps.cmpfTotal .gt) x sliceFits_S32x8400_S32x1000).1) : (⟨S32x8400, .f32⟩ : BufTy).Contents (Elt F) → (⟨S32x1000, .f32⟩ : BufTy).Contents (Elt F)),
    StableHlo.unary main_v1 main_case0b0_indices ((fun x => (Host.topK S32x1000 1 (FloatOps.cmpfTotal .gt) x sliceFits_S32x8400_S32x1000).2) : (⟨S32x8400, .f32⟩ : BufTy).Contents (Elt F) → (⟨S32x1000, .i32⟩ : BufTy).Contents (Elt F)),
    StableHlo.unary main_case0b0_values main_v10_0 id,
    StableHlo.unary main_case0b0_indices main_v10_1 id ]

/-- The arm taken otherwise: sixteen per group, then sorted. -/
abbrev groupOps : List (HloOp τ sig (Elt F)) :=
  [ StableHlo.unary main_v2 main_case0b1_values ((fun x => (Host.topK S32x84x16 2 (FloatOps.cmpfTotal .gt) x sliceFits_S32x84x100_S32x84x16).1) : (⟨S32x84x100, .f32⟩ : BufTy).Contents (Elt F) → (⟨S32x84x16, .f32⟩ : BufTy).Contents (Elt F)),
    StableHlo.unary main_v2 main_case0b1_indices ((fun x => (Host.topK S32x84x16 2 (FloatOps.cmpfTotal .gt) x sliceFits_S32x84x100_S32x84x16).2) : (⟨S32x84x100, .f32⟩ : BufTy).Contents (Elt F) → (⟨S32x84x16, .i32⟩ : BufTy).Contents (Elt F)),
    StableHlo.nullary main_case0b1_v18 (iotaInDim S84 32 0),
    StableHlo.unary main_case0b1_v18 main_case0b1_v19 (broadcastInDim S1x84x1 ![1] bcast_S84_S1x84x1_1 : (⟨S84, .i32⟩ : BufTy).Contents (Elt F) → (⟨S1x84x1, .i32⟩ : BufTy).Contents (Elt F)),
    StableHlo.nullary main_case0b1_c_4 (constantI S_ 32 100#32),
    StableHlo.unary main_case0b1_c_4 main_case0b1_v20 (broadcastInDim S1x84x1 ![] bcast_S_S1x84x1 : (⟨S_, .i32⟩ : BufTy).Contents (Elt F) → (⟨S1x84x1, .i32⟩ : BufTy).Contents (Elt F)),
    StableHlo.binary main_case0b1_v19 main_case0b1_v20 main_case0b1_v21 (muli : (⟨S1x84x1, .i32⟩ : BufTy).Contents (Elt F) → (⟨S1x84x1, .i32⟩ : BufTy).Contents (Elt F) → (⟨S1x84x1, .i32⟩ : BufTy).Contents (Elt F)),
    StableHlo.unary main_case0b1_v21 main_case0b1_v22 (broadcastInDim S32x84x16 ![0, 1, 2] bcast_S1x84x1_S32x84x16_0_1_2 : (⟨S1x84x1, .i32⟩ : BufTy).Contents (Elt F) → (⟨S32x84x16, .i32⟩ : BufTy).Contents (Elt F)),
    StableHlo.binary main_case0b1_indices main_case0b1_v22 main_case0b1_v23 (addi : (⟨S32x84x16, .i32⟩ : BufTy).Contents (Elt F) → (⟨S32x84x16, .i32⟩ : BufTy).Contents (Elt F) → (⟨S32x84x16, .i32⟩ : BufTy).Contents (Elt F)),
    StableHlo.reshape main_case0b1_values main_case0b1_v24 (rfl : (.f32 : EltTy) = .f32) shapeCasts_S32x84x16_S32x1344,
    StableHlo.unary main_case0b1_v24 main_case0b1_v25 (Host.negf : (⟨S32x1344, .f32⟩ : BufTy).Contents (Elt F) → (⟨S32x1344, .f32⟩ : BufTy).Contents (Elt F)),
    StableHlo.reshape main_case0b1_v23 main_case0b1_v26 (rfl : (.i32 : EltTy) = .i32) shapeCasts_S32x84x16_S32x1344,
    StableHlo.binary main_case0b1_v25 main_case0b1_v26 main_case0b1_v27_0 ((fun x y => (Host.sort2 S32x1344 1 comparator_f32_i32_d1 x y).1) : (⟨S32x1344, .f32⟩ : BufTy).Contents (Elt F) → (⟨S32x1344, .i32⟩ : BufTy).Contents (Elt F) → (⟨S32x1344, .f32⟩ : BufTy).Contents (Elt F)),
    StableHlo.binary main_case0b1_v25 main_case0b1_v26 main_case0b1_v27_1 ((fun x y => (Host.sort2 S32x1344 1 comparator_f32_i32_d1 x y).2) : (⟨S32x1344, .f32⟩ : BufTy).Contents (Elt F) → (⟨S32x1344, .i32⟩ : BufTy).Contents (Elt F) → (⟨S32x1344, .i32⟩ : BufTy).Contents (Elt F)),
    StableHlo.unary main_case0b1_v27_0 main_case0b1_v28 ((extractStridedSlice S32x1000 ![0, 0] · slices_S32x1344_S32x1000_0_0) : (⟨S32x1344, .f32⟩ : BufTy).Contents (Elt F) → (⟨S32x1000, .f32⟩ : BufTy).Contents (Elt F)),
    StableHlo.unary main_case0b1_v28 main_case0b1_v29 (Host.negf : (⟨S32x1000, .f32⟩ : BufTy).Contents (Elt F) → (⟨S32x1000, .f32⟩ : BufTy).Contents (Elt F)),
    StableHlo.unary main_case0b1_v27_1 main_case0b1_v30 ((extractStridedSlice S32x1000 ![0, 0] · slices_S32x1344_S32x1000_0_0) : (⟨S32x1344, .i32⟩ : BufTy).Contents (Elt F) → (⟨S32x1000, .i32⟩ : BufTy).Contents (Elt F)),
    StableHlo.unary main_case0b1_v29 main_v10_0 id,
    StableHlo.unary main_case0b1_v30 main_v10_1 id ]

/-- The arms' operations. -/
abbrev armOps : Fin 2 → List (HloOp τ sig (Elt F))
  | 0 => fullOps
  | 1 => groupOps

theorem fullOps_sub : (fullOps : List (HloOp τ sig (Elt F))).Forall fun op => op.bufs ⊆ StableHlo.tcRefs τ sig :=
  ⟨StableHlo.unary_bufs_sub .., StableHlo.unary_bufs_sub .., StableHlo.unary_bufs_sub .., StableHlo.unary_bufs_sub ..⟩
theorem groupOps_sub : (groupOps : List (HloOp τ sig (Elt F))).Forall fun op => op.bufs ⊆ StableHlo.tcRefs τ sig :=
  ⟨StableHlo.unary_bufs_sub .., StableHlo.unary_bufs_sub .., StableHlo.nullary_bufs_sub .., StableHlo.unary_bufs_sub .., StableHlo.nullary_bufs_sub .., StableHlo.unary_bufs_sub .., StableHlo.binary_bufs_sub .., StableHlo.unary_bufs_sub .., StableHlo.binary_bufs_sub .., StableHlo.reshape_bufs_sub .., StableHlo.unary_bufs_sub .., StableHlo.reshape_bufs_sub .., StableHlo.binary_bufs_sub .., StableHlo.binary_bufs_sub .., StableHlo.unary_bufs_sub .., StableHlo.unary_bufs_sub .., StableHlo.unary_bufs_sub .., StableHlo.unary_bufs_sub .., StableHlo.unary_bufs_sub ..⟩
theorem fullOps_fresh : (fullOps : List (HloOp τ sig (Elt F))).Forall fun op => op.fresh = ∅ := by
  simp only [List.Forall]; repeat' constructor
theorem groupOps_fresh : (groupOps : List (HloOp τ sig (Elt F))).Forall fun op => op.fresh = ∅ := by
  simp only [List.Forall]; repeat' constructor

theorem armOps_sub (b : Fin 2) : ∀ op ∈ armOps (F := F) b, op.bufs ⊆ Pipeline.ucRefs τ sig :=
  match b with
  | 0 => fun op ho => Pipeline.sub_ucRefs op (List.forall_iff_forall_mem.mp fullOps_sub op ho)
  | 1 => fun op ho => Pipeline.sub_ucRefs op (List.forall_iff_forall_mem.mp groupOps_sub op ho)

theorem armOps_fresh (b : Fin 2) : ∀ op ∈ armOps (F := F) b, op.fresh = ∅ :=
  match b with
  | 0 => fun op ho => List.forall_iff_forall_mem.mp fullOps_fresh op ho
  | 1 => fun op ho => List.forall_iff_forall_mem.mp groupOps_fresh op ho

/-- The branch as run: the read, then the arm its word names. -/
abbrev caseProg : Prog (TpuEff nD τ sig (Elt F) (Pipeline.Sig (Λ₀ F) (Fin 2) fun p => (pcfgs (F := F) p).Adm) .tc) PUnit :=
  hlo rfl rdOp (HostLoop.elt main_v9) >>= fun x => HostLoop.case 2 x fun b => StableHlo.seq (armOps b)

/-- The program's items. -/
theorem main_items (c : Dev nD) : main (F := F) c = (Pipeline.chain
  [ Prog.lift (.customCall (Pipeline.entry 0) ()),
    StableHlo.seq hostOps1,
    caseProg,
    StableHlo.seq hostOps1_1,
    StableHlo.seq hostOps1_2,
    StableHlo.seq hostOps1_3,
    StableHlo.seq hostOps1_4,
    StableHlo.seq hostOps1_5,
    Prog.lift (.customCall (Pipeline.entry 1) ()),
    StableHlo.seq hostOps2 ] : Prog (TpuEff nD τ sig (Elt F) (Pipeline.Sig (Λ₀ F) (Fin 2) fun p => (pcfgs (F := F) p).Adm) .tc) PUnit) := by
  refine (main_chain c).trans ?_
  refine congrArg Pipeline.chain (congrArg (List.cons _) (congrArg (List.cons _) (congrArg (fun x => x :: _) ?_)))
  refine congrArg (fun k => hlo rfl rdOp (HostLoop.elt main_v9) >>= k) (funext fun x => congrArg (HostLoop.case 2 x) (funext fun b => ?_))
  match b with
  | 0 => rfl
  | 1 => rfl

end

/-! ## The branch as a segment -/

variable (V : Dev nD → Valuation τ sig (Elt Ideal))

/-- The buffers after the read, the word read, and the buffers after the arm it names. -/
def rdV (c : Dev nD) : Valuation τ sig (Elt Ideal) := StableHlo.after [rdOp] (V c)
def caseWord (c : Dev nD) : BitVec 32 := rdV V c main_v9 HostLoop.idx0
def caseV (c : Dev nD) : Valuation τ sig (Elt Ideal) := StableHlo.after (armOps (HostLoop.branch (caseWord V c) 1)) (rdV V c)

set_option backward.isDefEq.respectTransparency.types false in
def caseSeg (R : Dev nD → sProp 𝕄) : Pipeline.HostSeg (Name := ℕ) (U := UU) (pcfgs (F := Ideal)) defs₀ 𝒱₀ Lev lvl where
  prog := caseProg
  pre c := iprop(StableHlo.held (c : Thread nD τ) (Pipeline.ucRefs τ sig) (V c) ∗ R c)
  post c := iprop(StableHlo.held (c : Thread nD τ) (Pipeline.ucRefs τ sig) (caseV V c) ∗ R c)
  run c {β} k K := by
    have hseq := StableHlo.wp_seq (defs := Pipeline.defs pcfgs defs₀) (Variants.lift 𝒱₀) none Set.univ c (Pipeline.ucRefs τ sig) k (K := K) (armOps (HostLoop.branch (caseWord V c) 1))
      (armOps_sub _) (armOps_fresh _) (rdV V c)
    unfold caseProg
    rw [Prog.bind_assoc, wp_bind]
    iintro ⟨Hk, Hbd, ⟨Hh, HR⟩, -⟩
    iapply (StableHlo.wp_hlo_within (Variants.lift 𝒱₀) (c : Thread nD τ) none Set.univ (S := Pipeline.ucRefs τ sig) (Pipeline.sub_ucRefs _ (StableHlo.unary_bufs_sub ..))) $$ [Hbd Hh]
    · isplitl [Hbd] <;> iassumption
    iintro ⟨Hbd, Hh⟩
    rw [HostLoop.elt_apply, wp_ret]; imodintro
    rw [HostLoop.case_succ]
    iapply hseq $$ [Hbd Hh]
    · isplitl [Hbd]; · iexact Hbd
      iexact Hh
    iintro ⟨Hbd, Hh⟩
    iapply Hk
    isplitl [Hbd]; · iexact Hbd
    isplitl [Hh]; · iexact Hh
    iexact HR

end Cert.Proof

end
-- ==== Proof.Run.lean ====
/-
  The whole program's run: the contents of the buffers after each of its items, the two launches as segments, and the
  final contents.
-/
module

public import proofs.«01_k».proof.Proof.CaseSeg

@[expose] public section

set_option maxRecDepth 65536

noncomputable section

namespace Cert.Proof

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf HostSeg)

local notation "𝕄" => MT nD τ sig Unit (Elt Idealize.ShloMosaic.Ideal) ℕ UU ℕ

/-! ## The host stretches -/

section
variable {F : FTy → Type} [FloatOps F]

theorem fresh1 : (hostOps1 : List (HloOp τ sig (Elt F))).Forall fun op => op.fresh = ∅ := by
  simp only [List.Forall]; repeat' constructor
theorem fresh1_1 : (hostOps1_1 : List (HloOp τ sig (Elt F))).Forall fun op => op.fresh = ∅ := by
  simp only [List.Forall]; repeat' constructor
theorem fresh1_2 : (hostOps1_2 : List (HloOp τ sig (Elt F))).Forall fun op => op.fresh = ∅ := by
  simp only [List.Forall]; repeat' constructor
theorem fresh1_3 : (hostOps1_3 : List (HloOp τ sig (Elt F))).Forall fun op => op.fresh = ∅ := by
  simp only [List.Forall]; repeat' constructor
theorem fresh1_4 : (hostOps1_4 : List (HloOp τ sig (Elt F))).Forall fun op => op.fresh = ∅ := by
  simp only [List.Forall]; repeat' constructor
theorem fresh1_5 : (hostOps1_5 : List (HloOp τ sig (Elt F))).Forall fun op => op.fresh = ∅ := by
  simp only [List.Forall]; repeat' constructor
theorem fresh2 : (hostOps2 : List (HloOp τ sig (Elt F))).Forall fun op => op.fresh = ∅ := by
  simp only [List.Forall]; repeat' constructor

end

/-! ## The contents after each item -/

abbrev Vals : Type := Dev nD → Valuation τ sig (Elt Ideal)

/-- A valuation's reading of the TensorCore's buffers. -/
abbrev tcV (V : Vals) : (c : Dev nD) → (b : Ref sig .tc) → Buf (Elt Ideal) ((c : Thread nD τ).loc b) := fun c b => V c b

variable (m : (ℓ : Loc nD τ sig) → Buf (Elt Ideal) ℓ)

def W0 : Vals := fun c b => m (c, b)
def W1 : Vals := fun c => Function.update (Function.update (W0 m c) main_v0_0 ((dat0 (tcV (W0 m)) c).arrAt 1 (cfg0 (F := Ideal)).N))
  main_v0_1 ((dat0 (tcV (W0 m)) c).arrAt 2 (cfg0 (F := Ideal)).N)
def W2 : Vals := fun c => StableHlo.after hostOps1 (W1 m c)
def W3 : Vals := caseV (W2 m)
def W4 : Vals := fun c => StableHlo.after hostOps1_1 (W3 m c)
def W5 : Vals := fun c => StableHlo.after hostOps1_2 (W4 m c)
def W6 : Vals := fun c => StableHlo.after hostOps1_3 (W5 m c)
def W7 : Vals := fun c => StableHlo.after hostOps1_4 (W6 m c)
def W8 : Vals := fun c => StableHlo.after hostOps1_5 (W7 m c)
def W9 : Vals := fun c => Function.update (W8 m c) main_v15 ((dat1 (tcV (W8 m)) c).arrAt 3 (cfg1 (F := Ideal)).N)
def W10 : Vals := fun c => StableHlo.after hostOps2 (W9 m c)

/-- The two launches' data. -/
def pdats : (p : Fin 2) → (c : Dev nD) → Dat τ (Elt Ideal) Unit ℕ UU ℕ (Pipeline.pin (pcfgs (F := Ideal)) adm p) c
  | ⟨0, _⟩ => fun c => dat0 (tcV (W0 m)) c
  | ⟨1, _⟩ => fun c => dat1 (tcV (W8 m)) c

/-- What rides along: the core owes nothing. -/
abbrev R0 (c : Dev nD) : sProp 𝕄 := iprop(∃ W, owes (c : Thread nD τ) (0 : CellTallies nD τ sig Unit) W)

/-- Every unscoped buffer at a valuation, and nothing owed. -/
abbrev heldR (V : Vals) (c : Dev nD) : sProp 𝕄 := iprop(StableHlo.held (c : Thread nD τ) (Pipeline.ucRefs τ sig) (V c) ∗ R0 c)

/-- A host stretch as a segment. -/
def opsSeg (ops : List (HloOp τ sig (Elt Ideal))) (hs : ops.Forall fun op => op.bufs ⊆ StableHlo.tcRefs τ sig) (hf : ops.Forall fun op => op.fresh = ∅) (V : Vals) :
    HostSeg (Ix := Unit) (Name := ℕ) (U := UU) (Lvl := ℕ) (pcfgs (F := Ideal)) defs₀ 𝒱₀ Lev lvl :=
  HostSeg.ofOps _ _ _ _ _ (Pipeline.ucRefs τ sig) ops
    (fun op h => Pipeline.sub_ucRefs op ((List.forall_iff_forall_mem.mp hs) op h))
    (fun op h => (List.forall_iff_forall_mem.mp hf) op h) V R0

theorem W1_out0 (c : Dev nD) : W1 m c main_v0_0 = (dat0 (tcV (W0 m)) c).arrAt 1 (cfg0 (F := Ideal)).N := by
  unfold W1
  rw [Function.update_of_ne (StableHlo.devRef_ne_of_ne (by decide : (main_v0_0 : Ref sig .tc) ≠ main_v0_1)), Function.update_self]
theorem W1_out1 (c : Dev nD) : W1 m c main_v0_1 = (dat0 (tcV (W0 m)) c).arrAt 2 (cfg0 (F := Ideal)).N := by
  unfold W1; rw [Function.update_self]
theorem W1_of (c : Dev nD) (b : Ref sig .tc) (h0 : b ≠ main_v0_0) (h1 : b ≠ main_v0_1) : W1 m c b = W0 m c b := by
  unfold W1
  rw [Function.update_of_ne (StableHlo.devRef_ne_of_ne h1), Function.update_of_ne (StableHlo.devRef_ne_of_ne h0)]
theorem W9_out (c : Dev nD) : W9 m c main_v15 = (dat1 (tcV (W8 m)) c).arrAt 3 (cfg1 (F := Ideal)).N := by
  unfold W9; rw [Function.update_self]
theorem W9_of (c : Dev nD) (b : Ref sig .tc) (h : b ≠ main_v15) : W9 m c b = W8 m c b := by
  unfold W9; rw [Function.update_of_ne (StableHlo.devRef_ne_of_ne h)]

set_option backward.isDefEq.respectTransparency.types false in
/-- The first launch over the buffers' contents. -/
def reg0 : Pipeline.RegionSeg (pcfgs (F := Ideal)) adm (pdats m) () defs₀ 𝒱₀ Lev lvl 0 where
  win := (launch0 (F := Ideal)).win.to₀
  block_pos := (launch0 (F := Ideal)).block_pos
  stage_whole := (launch0 (F := Ideal)).stage_whole
  K := PEmpty
  osem k := k.elim
  ho := Pipeline.OwnSemFacts.none _
  hbody c := (body0 (tcV (W0 m)) c).loose
  hwaits := Pipeline.hwaits_of_owed_zero _ _ _ _ Lev lvl 0 fun _ _ => rfl
  pre c := heldR (W0 m) c
  post c := heldR (W1 m) c
  X _ := BI.emp
  Y _ := BI.emp
  Z c := Pipeline.unscopedRest (Ix := Unit) (Name := ℕ) (U := UU) (Lvl := ℕ) spec0 c (tcV (W0 m) c)
  hentry c := by
    rw [Pipeline.ownSems0_none]
    have hsplit := Pipeline.arrays_of_unscopedBufs (p := 0) (pcfgs (F := Ideal)) adm (pdats m) (launch0 (F := Ideal)).win (launch0 (F := Ideal)).arr_whole c
      ((pdats m 0 c).share_full fun _ => rfl) (tcV (W0 m) c) fun _ => rfl
    rw [show heldR (W0 m) c = iprop(unscopedBufs c (tcV (W0 m) c) ∗ R0 c) from by unfold heldR; rw [Pipeline.unscopedBufs_held]]
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 0 c).Φ 0 = Pipeline.scopedRest (Ix := Unit) (Name := ℕ) (U := UU) (Lvl := ℕ) (Val := Elt Ideal) spec0 c from rfl]
    iintro ⟨-, -, Hr⟩; iexact Hr
  hout c := by
    rw [Pipeline.ownSems0_none, show (pdats m 0 c).Φ (Fin.last _) = Pipeline.scopedRest (Ix := Unit) (Name := ℕ) (U := UU) (Lvl := ℕ) (Val := Elt Ideal) spec0 c from rfl]
    iintro Hr
    isplitr; · iempintro
    isplitr; · iempintro
    iexact Hr
  hexit c := by
    have hjoin := Pipeline.unscopedBufs_of_arrays (p := 0) (pcfgs (F := Ideal)) adm (Ix := Unit) (Name := ℕ) (U := UU) (Lvl := ℕ) (launch0 (F := Ideal)).win (launch0 (F := Ideal)).arr_whole c
      (pdats m) ((pdats m 0 c).share_full fun _ => rfl) (tcV (W0 m) c) (tcV (W1 m) c) ((pdats m 0 c).arrAt · (cfg0 (F := Ideal)).N)
      (fun w => by
        fin_cases w
        · exact ((pdats m 0 c).arrAt_in 0 rfl _).trans (W1_of m c main_arg0 (by decide) (by decide)).symm
        · exact (W1_out0 m c).symm
        · exact (W1_out1 m c).symm)
      (fun b hb => W1_of m c b (fun h => hb (h ▸ Finset.mem_image.mpr ⟨1, Finset.mem_univ _, rfl⟩)) (fun h => hb (h ▸ Finset.mem_image.mpr ⟨2, Finset.mem_univ _, rfl⟩)))
    rw [show heldR (W1 m) c = iprop(unscopedBufs c (tcV (W1 m) c) ∗ R0 c) from by unfold heldR; rw [Pipeline.unscopedBufs_held]]
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

/-- The scores the second launch reads are dense at every point. -/
abbrev DenseAll : Prop := ∀ (c : Dev nD) (t : Fin (cfg1 (F := Ideal)).N), Dense fun j => blkSc (tcV (W8 m)) c t (ix3 0 0 j)

section
attribute [local irreducible] W8 W9

set_option backward.isDefEq.respectTransparency.types false in
/-- The second launch over the buffers' contents. -/
def reg1 (hD : DenseAll m) : Pipeline.RegionSeg (pcfgs (F := Ideal)) adm (pdats m) () defs₀ 𝒱₀ Lev lvl 1 where
  win := (launch1 (F := Ideal)).win.to₀
  block_pos := (launch1 (F := Ideal)).block_pos
  stage_whole := (launch1 (F := Ideal)).stage_whole
  K := PEmpty
  osem k := k.elim
  ho := Pipeline.OwnSemFacts.none _
  hbody c := (body1 (tcV (W8 m)) hD c).loose
  hwaits := Pipeline.hwaits_of_owed_zero _ _ _ _ Lev lvl 1 fun _ _ => rfl
  pre c := heldR (W8 m) c
  post c := heldR (W9 m) c
  X _ := BI.emp
  Y _ := BI.emp
  Z c := Pipeline.unscopedRest (Ix := Unit) (Name := ℕ) (U := UU) (Lvl := ℕ) spec1 c (tcV (W8 m) c)
  hentry c := by
    rw [Pipeline.ownSems0_none]
    have hsplit := Pipeline.arrays_of_unscopedBufs (p := 1) (pcfgs (F := Ideal)) adm (pdats m) (launch1 (F := Ideal)).win (launch1 (F := Ideal)).arr_whole c
      ((pdats m 1 c).share_full fun _ => rfl) (tcV (W8 m) c) fun _ => rfl
    rw [show heldR (W8 m) c = iprop(unscopedBufs c (tcV (W8 m) c) ∗ R0 c) from by unfold heldR; rw [Pipeline.unscopedBufs_held]]
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitr; · iempintro
    iexact Hrest
  hin c := by
    rw [show (pdats m 1 c).Φ 0 = Pipeline.scopedRest (Ix := Unit) (Name := ℕ) (U := UU) (Lvl := ℕ) (Val := Elt Ideal) spec1 c from rfl]
    iintro ⟨-, -, Hr⟩; iexact Hr
  hout c := by
    rw [Pipeline.ownSems0_none, show (pdats m 1 c).Φ (Fin.last _) = Pipeline.scopedRest (Ix := Unit) (Name := ℕ) (U := UU) (Lvl := ℕ) (Val := Elt Ideal) spec1 c from rfl]
    iintro Hr
    isplitr; · iempintro
    isplitr; · iempintro
    iexact Hr
  hexit c := by
    have hjoin := Pipeline.unscopedBufs_of_arrays (p := 1) (pcfgs (F := Ideal)) adm (Ix := Unit) (Name := ℕ) (U := UU) (Lvl := ℕ) (launch1 (F := Ideal)).win (launch1 (F := Ideal)).arr_whole c
      (pdats m) ((pdats m 1 c).share_full fun _ => rfl) (tcV (W8 m) c) (tcV (W9 m) c) ((pdats m 1 c).arrAt · (cfg1 (F := Ideal)).N)
      (fun w => by
        fin_cases w
        · exact ((pdats m 1 c).arrAt_in 0 rfl _).trans (W9_of m c main_v0_1 (by decide)).symm
        · exact ((pdats m 1 c).arrAt_in 1 rfl _).trans (W9_of m c main_v12 (by decide)).symm
        · exact ((pdats m 1 c).arrAt_in 2 rfl _).trans (W9_of m c main_v14 (by decide)).symm
        · exact (W9_out m c).symm)
      (fun b hb => W9_of m c b (fun h => hb (Finset.mem_image.mpr ⟨3, Finset.mem_univ _, h.symm⟩)))
    rw [show heldR (W9 m) c = iprop(unscopedBufs c (tcV (W9 m) c) ∗ R0 c) from by unfold heldR; rw [Pipeline.unscopedBufs_held]]
    iintro ⟨Ha, HO, -, Hrest⟩
    imodintro
    isplitl [Ha Hrest]
    · iapply hjoin; isplitl [Ha] <;> iassumption
    unfold Pipeline.Dat.owesAt Pipeline.owesWithin
    icases HO with ⟨%W, -, HO⟩; iexists W; iexact HO

end

/-- The program's segments. -/
abbrev segs (hD : DenseAll m) : List (Pipeline.Seg (pcfgs (F := Ideal)) adm (pdats m) () defs₀ 𝒱₀ Lev lvl) :=
  [.region (reg0 m), .host (opsSeg hostOps1 hostOps1_sub fresh1 (W1 m)), .host (caseSeg (W2 m) R0), .host (opsSeg hostOps1_1 hostOps1_1_sub fresh1_1 (W3 m)),
    .host (opsSeg hostOps1_2 hostOps1_2_sub fresh1_2 (W4 m)), .host (opsSeg hostOps1_3 hostOps1_3_sub fresh1_3 (W5 m)), .host (opsSeg hostOps1_4 hostOps1_4_sub fresh1_4 (W6 m)),
    .host (opsSeg hostOps1_5 hostOps1_5_sub fresh1_5 (W7 m)), .region (reg1 m hD), .host (opsSeg hostOps2 hostOps2_sub fresh2 (W9 m))]

/-- The pipelines' own resources inside the proof's. -/
abbrev EP : Emb (URounds (GSem nD τ sig) Unit) 𝕄 := embL

theorem no_unscoped_sem : ∀ sm : SemLoc sig, sm.isScoped .tc = true := by decide

set_option backward.isDefEq.respectTransparency.types false in
/-- Every run ends with each of the TensorCore's unscoped buffers at the last contents and every counter at zero. -/
theorem run_all (hD : DenseAll m) (ρ : Dev nD → PrngReg) :
    θ_run (defs (F := Ideal)) (onTc (τ := τ) (main (F := Ideal))) ⟨m, fun _ => 0, ρ⟩ (fun r => (∀ (c : Dev nD) (b : Ref sig .tc), ¬ (Proc.devRef (τ := τ) .tc b).isScoped →
      r.2.mem ((c.tc : Thread nD τ).loc b) = W10 m c b) ∧ r.2.sem = fun _ => 0) := by
  refine Pipeline.θ_run_regions_kit_dev_sems (pcfgs (F := Ideal)) adm (pdats m) () cellOf_inj EP defs₀ 𝒱₀ Lev lvl m ρ main (fun _ => segs m hD)
    (fun c Q => by
      rewrite [main_items c, Pipeline.Seg.run_eq_chain,
        show (segs m hD).map Pipeline.Seg.prog = [
          Prog.lift (.customCall (Pipeline.entry 0) ()), StableHlo.seq hostOps1, caseProg, StableHlo.seq hostOps1_1, StableHlo.seq hostOps1_2,
          StableHlo.seq hostOps1_3, StableHlo.seq hostOps1_4, StableHlo.seq hostOps1_5, Prog.lift (.customCall (Pipeline.entry 1) ()), StableHlo.seq hostOps2 ] from rfl]
      exact .rfl)
    (fun c => by simp only [segs, Pipeline.Seg.pipes_host, Pipeline.Seg.pipes_region, Pipeline.Seg.pipes_nil]; decide) (fun _ => 0) (fun _ _ => rfl) (fun _ => iprop(emp))
    (initOf (Pipeline.cells (cfgs (F := Ideal)) cellOf_inj) (Pipeline.launchToks (cfgs (F := Ideal)) cellOf_inj), 1)
    (by
      iintro Hu
      ihave H := (ownU_pair _ _) $$ Hu
      icases H with ⟨HP, -⟩
      imodintro
      isplitl [HP]; · iexact HP
      iapply (show (BI.emp : sProp 𝕄) ⊢ bigSep Finset.univ (fun _ : Dev nD => (BI.emp : sProp 𝕄)) from by rw [BI.bigSep_emp_const])
      iempintro)
    (T₀ := fun c => heldR (W0 m) c) (Tₙ := fun c => StableHlo.held (c : Thread nD τ) (Pipeline.ucRefs τ sig) (W10 m c))
    (hch := fun c => ⟨.rfl, .rfl, .rfl, .rfl, .rfl, .rfl, .rfl, .rfl, .rfl, .rfl, .rfl⟩)
    (hinit := ?_) (QY := fun c s => ∀ b : Ref sig .tc, ¬ (Proc.devRef (τ := τ) .tc b).isScoped → s.mem ((c.tc : Thread nD τ).loc b) = W10 m c b)
    (hfin := fun c s' => ?_) (hQ := fun _ h hz => ⟨h, funext fun g => hz g (.inr (no_unscoped_sem g.2))⟩)
  · refine Pipeline.initEach Lev lvl fun c => ?_
    rw [show unscopedBufs c (fun b => m ((c : Thread nD τ).loc b)) = StableHlo.held (c : Thread nD τ) (Pipeline.ucRefs τ sig) (W0 m c) from Pipeline.unscopedBufs_held c (W0 m c)]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (Pipeline.ucRefs τ sig) (fun b => ((c : Thread nD τ).1, b)) (W10 m c) s') $$ [Hh HSI]
    · isplitl [Hh] <;> iassumption
    icases Hr with ⟨%h, HSI⟩
    imodintro
    isplitr
    · ipureintro
      intro b hb
      exact h (Proc.devRef .tc b) (Finset.mem_filter.mpr ⟨StableHlo.devRef_mem_tcRefs b, hb⟩)
    · iexact HSI

end Cert.Proof

end
-- ==== Proof.MaskVal.lean ====
/-
  The score of class 0 where it is the highest of the classes and above the threshold: what the first kernel's body leaves,
  and a fold that keeps the greater value and the smaller index, as the reference's arg-max does.
-/
module

public import proofs.«01_k».proof.Proof.NmsMask

@[expose] public section

set_option maxRecDepth 65536

noncomputable section

namespace Cert.Proof

open Cert.KernelIdeal Cert.KernelIdeal.Gen
open Idealize.ShloMosaic
open Idealize.ShloMosaic.TcCoe Idealize.ShloMosaic.Tactic

/-- The score of class 0 where it is the highest of the classes and above the threshold, otherwise minus one. -/
def mk (s : Fin 80 → EReal) : EReal :=
  open scoped Classical in if (∀ k, s k ≤ s 0) ∧ c01 < s 0 then s 0 else Ideal.ofBits .f32 0xBF800000#32

theorem c01_pos : (0 : EReal) < c01 := by
  unfold c01
  simp [Ideal.ofBits, Ideal.ieee]
  rw [← EReal.coe_mul]
  exact EReal.coe_pos.mpr (by norm_num)

theorem not_c01_minus : ¬ c01 < Ideal.ofBits .f32 0xBF800000#32 := by
  refine not_lt.mpr (le_trans ?_ c01_pos.le)
  simp [Ideal.ofBits, Ideal.ieee]
  rw [← EReal.coe_mul]
  exact EReal.coe_nonneg.mpr (by norm_num)

theorem mk_valid (s : Fin 80 → EReal) : c01 < mk s ↔ (∀ k, s k ≤ s 0) ∧ c01 < s 0 := by
  unfold mk
  split
  · rename_i h; exact ⟨fun _ => h, fun _ => h.2⟩
  · rename_i h; exact ⟨fun h' => absurd h' not_c01_minus, fun h' => absurd h' h⟩

theorem pay2_mk (v : Vec Ideal S1x84x8400 .f32) (i : Fin 8400) :
    k0_pay2 v (ix3 0 0 i) = mk (fun k : Fin 80 => v (ix3 0 (⟨4 + k.val, by omega⟩ : Fin 84) i)) := by
  pointwise [k0_pay2, k0_pay1]
  have hall : (max (Finset.fold max (Ideal.ofBits FTy.f32 4286578688#32) (fun x : Fin 76 => v (ix3 0 (⟨8 + x.val, by omega⟩ : Fin 84) i)) Finset.univ)
        (Finset.fold max (Ideal.ofBits FTy.f32 4286578688#32) (fun x : Fin 4 => v (ix3 0 (⟨4 + x.val, by omega⟩ : Fin 84) i)) Finset.univ) ≤ v (ix3 0 (4 : Fin 84) i))
      ↔ ∀ k : Fin 80, v (ix3 0 (⟨4 + k.val, by omega⟩ : Fin 84) i) ≤ v (ix3 0 (4 : Fin 84) i) := by
    rw [max_le_iff, Finset.fold_max_le, Finset.fold_max_le, neg_inf]
    constructor
    · rintro ⟨⟨-, h1⟩, -, h2⟩ k
      by_cases hk : k.val < 4
      · exact h2 ⟨k.val, hk⟩ (Finset.mem_univ _)
      · have := h1 ⟨k.val - 4, by omega⟩ (Finset.mem_univ _)
        have e : (⟨8 + (k.val - 4), by omega⟩ : Fin 84) = ⟨4 + k.val, by omega⟩ := Fin.ext (by show 8 + (k.val - 4) = 4 + k.val; omega)
        rw [← e]; exact this
    · intro h
      refine ⟨⟨bot_le, fun x _ => ?_⟩, bot_le, fun x _ => h ⟨x.val, by omega⟩⟩
      have e : (⟨8 + x.val, by omega⟩ : Fin 84) = ⟨4 + (4 + x.val), by omega⟩ := Fin.ext (by show 8 + x.val = 4 + (4 + x.val); omega)
      rw [e]; exact h ⟨4 + x.val, by omega⟩
  unfold mk
  rw [show (fun k : Fin 80 => v (ix3 0 (⟨4 + k.val, by omega⟩ : Fin 84) i)) 0 = v (ix3 0 (4 : Fin 84) i) from rfl]
  unfold c01
  have hsel : ∀ (P Q : Prop) [Decidable P] [Decidable Q] (a b : EReal),
      Scalar.select (IntOp.andi (BitVec.ofBool (decide P)) (BitVec.ofBool (decide Q))) a b = open scoped Classical in if P ∧ Q then a else b := by
    intro P Q _ _ a b
    by_cases hp : P <;> by_cases hq : Q <;> simp [hp, hq, Scalar.select, IntOp.andi]
  rw [hsel]
  refine if_congr (and_congr hall Iff.rfl) rfl rfl

theorem pay3_at (v : Vec Ideal S1x84x8400 .f32) (r : Fin 4) (i : Fin 8400) :
    k0_pay3 v (ix3 0 r i) = v (ix3 0 (⟨r.val, by omega⟩ : Fin 84) i) := by
  pointwise [k0_pay3, k0_pay1]

/-! ## A fold for the greatest value and the smallest of its indices -/

/-- `p` is at least as good as `q`. -/
def better (p q : EReal × BitVec 32) : Prop := q.1 < p.1 ∨ (q.1 = p.1 ∧ p.2.toInt ≤ q.2.toInt)

theorem better_trans {p q r : EReal × BitVec 32} (h1 : better p q) (h2 : better q r) : better p r := by
  rcases h1 with h1 | ⟨e1, h1⟩ <;> rcases h2 with h2 | ⟨e2, h2⟩
  · exact .inl (h2.trans h1)
  · exact .inl (e2 ▸ h1)
  · exact .inl (e1 ▸ h2)
  · exact .inr ⟨e2.trans e1, h1.trans h2⟩

theorem foldl_better (f : EReal × BitVec 32 → EReal × BitVec 32 → EReal × BitVec 32)
    (hf : ∀ a b, (f a b = a ∨ f a b = b) ∧ better (f a b) a ∧ better (f a b) b) (L : List (EReal × BitVec 32)) (a : EReal × BitVec 32) :
    (L.foldl f a = a ∨ L.foldl f a ∈ L) ∧ better (L.foldl f a) a ∧ ∀ q ∈ L, better (L.foldl f a) q := by
  induction L generalizing a with
  | nil => exact ⟨.inl rfl, .inr ⟨rfl, le_rfl⟩, by simp⟩
  | cons b L ih =>
    obtain ⟨h1, h2, h3⟩ := ih (f a b)
    obtain ⟨g1, g2, g3⟩ := hf a b
    rw [List.foldl_cons]
    refine ⟨?_, better_trans h2 g2, ?_⟩
    · rcases h1 with h1 | h1
      · rcases g1 with g1 | g1
        · exact .inl (h1.trans g1)
        · exact .inr (by rw [h1, g1]; exact List.mem_cons_self)
      · exact .inr (List.mem_cons_of_mem _ h1)
    · intro q hq
      rcases List.mem_cons.mp hq with rfl | hq
      · exact better_trans h2 g3
      · exact h3 q hq

/-- Over the eighty class scores with their indices, started at minus infinity and index 0: the index left is 0 exactly when
    no score exceeds that of class 0. -/
theorem foldl_zero (f : EReal × BitVec 32 → EReal × BitVec 32 → EReal × BitVec 32)
    (hf : ∀ a b, (f a b = a ∨ f a b = b) ∧ better (f a b) a ∧ better (f a b) b) (s : Fin 80 → EReal) (L : List (EReal × BitVec 32))
    (hL : ∀ q, q ∈ L ↔ ∃ k : Fin 80, q = (s k, BitVec.ofNat 32 k.val)) :
    (L.foldl f (⊥, 0#32)).2 = 0#32 ↔ ∀ k, s k ≤ s 0 := by
  obtain ⟨h1, h2, h3⟩ := foldl_better f hf L (⊥, 0#32)
  have hle : ∀ k, s k ≤ (L.foldl f (⊥, 0#32)).1 := fun k => by
    rcases h3 _ ((hL _).mpr ⟨k, rfl⟩) with h | ⟨h, -⟩
    · exact h.le
    · exact h.le
  have hi : ∀ k : Fin 80, (BitVec.ofNat 32 k.val).toInt = k.val := by decide +kernel
  constructor
  · intro h0 k
    refine (hle k).trans ?_
    rcases h1 with h1 | h1
    · rw [h1]; exact bot_le
    · obtain ⟨k', hk'⟩ := (hL _).mp h1
      rw [hk'] at h0 ⊢
      have := hi k'
      rw [show BitVec.ofNat 32 k'.val = 0#32 from h0] at this
      have e : k' = 0 := Fin.ext (by have h : (0 : ℤ) = k'.val := this; simpa using h.symm)
      rw [e]
  · intro hall
    rcases h1 with h1 | h1
    · rw [h1]
    · obtain ⟨k', hk'⟩ := (hL _).mp h1
      rcases h3 _ ((hL _).mpr ⟨0, rfl⟩) with h | ⟨-, h⟩
      · rw [hk'] at h
        exact absurd h (not_lt.mpr (hall k'))
      · rw [hk'] at h ⊢
        have h' : (BitVec.ofNat 32 k'.val).toInt ≤ (BitVec.ofNat 32 (0 : Fin 80).val).toInt := h
        rw [hi, hi] at h'
        have e : k'.val = 0 := by
          have : ((0 : Fin 80).val : ℤ) = 0 := rfl
          omega
        show BitVec.ofNat 32 k'.val = 0#32
        rw [e]

end Cert.Proof

end
-- ==== Proof.Arrays.lean ====
/-
  The launches' blocks at coordinates, and the arrays the launches leave: image by image what the body leaves.
-/
module

public import proofs.«01_k».proof.Proof.Run
public import proofs.«01_k».proof.Proof.MaskVal

@[expose] public section

set_option maxRecDepth 65536

noncomputable section

namespace Cert.Proof

open Cert.KernelIdeal Cert.KernelIdeal.Gen
open Idealize.ShloMosaic
open Idealize.ShloMosaic.TcCoe Idealize.ShloMosaic.Tactic
open Idealize.ShloMosaic.Pipeline (Dat Cfg Window BodyObligation cellOf)

theorem ix3_first {a b : ℕ} (i : (⟨3, ![1, a, b]⟩ : Shape).Idx) : i = ix3 (0 : Fin 1) (i 1 : Fin a) (i 2 : Fin b) := by
  refine (eq_ix3 i).trans ?_
  rw [show (i 0 : Fin 1) = (0 : Fin 1) from Subsingleton.elim (α := Fin 1) _ _]
  rfl
theorem ix3_row {b : ℕ} (i : (⟨3, ![1, 1, b]⟩ : Shape).Idx) : i = ix3 (0 : Fin 1) (0 : Fin 1) (i 2 : Fin b) := by
  refine (ix3_first i).trans ?_
  rw [show (i 1 : Fin 1) = (0 : Fin 1) from Subsingleton.elim (α := Fin 1) _ _]
  rfl

theorem pay2_at (v : Vec Ideal S1x84x8400 .f32) (y : S1x1x8400.Idx) :
    k0_pay2 v y = mk (fun k : Fin 80 => v (ix3 0 (⟨4 + k.val, by omega⟩ : Fin 84) (y 2))) :=
  (congrArg (k0_pay2 v) (ix3_row y)).trans (pay2_mk v (y 2))
theorem pay3_at' (v : Vec Ideal S1x84x8400 .f32) (y : S1x4x8400.Idx) :
    k0_pay3 v y = v (ix3 0 (⟨(y 1).val, by have : (y 1).val < 4 := (y 1).isLt; omega⟩ : Fin 84) (y 2)) :=
  (congrArg (k0_pay3 v) (ix3_first y)).trans (pay3_at v (y 1) (y 2))

variable (V : (c : Dev nD) → (b : Ref sig .tc) → Buf (Elt Ideal) ((c : Thread nD τ).loc b))

theorem e0_0 : ∀ t : Fin (cfg0 (F := Ideal)).N, win0_0.index t = ![(grid0.coords t 0).val, 0, 0] := (by decide +kernel : ∀ t : Fin grid0.N, _)
theorem e0_1 : ∀ t : Fin (cfg0 (F := Ideal)).N, win0_1.index t = ![(grid0.coords t 0).val, 0, 0] := (by decide +kernel : ∀ t : Fin grid0.N, _)
theorem e0_2 : ∀ t : Fin (cfg0 (F := Ideal)).N, win0_2.index t = ![(grid0.coords t 0).val, 0, 0] := (by decide +kernel : ∀ t : Fin grid0.N, _)
theorem e1_0 : ∀ t : Fin (cfg1 (F := Ideal)).N, win1_0.index t = ![(grid1.coords t 0).val, 0, 0] := (by decide +kernel : ∀ t : Fin grid1.N, _)
theorem e1_1 : ∀ t : Fin (cfg1 (F := Ideal)).N, win1_1.index t = ![(grid1.coords t 0).val, 0, 0] := (by decide +kernel : ∀ t : Fin grid1.N, _)
theorem e1_2 : ∀ t : Fin (cfg1 (F := Ideal)).N, win1_2.index t = ![(grid1.coords t 0).val, 0, 0] := (by decide +kernel : ∀ t : Fin grid1.N, _)
theorem e1_3 : ∀ t : Fin (cfg1 (F := Ideal)).N, win1_3.index t = ![(grid1.coords t 0).val, 0, 0] := (by decide +kernel : ∀ t : Fin grid1.N, _)

theorem blkIn0_at (c : Dev nD) (t : Fin (cfg0 (F := Ideal)).N) (r : Fin 84) (i : Fin 8400) :
    blkIn0 V c t (ix3 0 r i) = (V c main_arg0 : S32x84x8400.Idx → EReal) (ix3 ((grid0.coords t 0 : Fin 32)) r i) := by
  unfold blkIn0
  blk_simp
  refine congrArg (V c main_arg0) ?_
  blk_ext [e0_0]
theorem blkBox_at (c : Dev nD) (t : Fin (cfg1 (F := Ideal)).N) (r : Fin 4) (i : Fin 8400) :
    blkBox V c t (ix3 0 r i) = (V c main_v0_1 : S32x4x8400.Idx → EReal) (ix3 ((grid1.coords t 0 : Fin 32)) r i) := by
  unfold blkBox
  blk_simp
  refine congrArg (V c main_v0_1) ?_
  blk_ext [e1_0]
theorem blkIdx_at (c : Dev nD) (t : Fin (cfg1 (F := Ideal)).N) (i : Fin 1024) :
    blkIdx V c t (ix3 0 0 i) = (V c main_v12 : S32x1x1024.Idx → BitVec 32) (ix3 ((grid1.coords t 0 : Fin 32)) 0 i) := by
  unfold blkIdx
  blk_simp
  refine congrArg (V c main_v12) ?_
  blk_ext [e1_1]
theorem blkSc_at (c : Dev nD) (t : Fin (cfg1 (F := Ideal)).N) (i : Fin 1024) :
    blkSc V c t (ix3 0 0 i) = (V c main_v14 : S32x1x1024.Idx → EReal) (ix3 ((grid1.coords t 0 : Fin 32)) 0 i) := by
  unfold blkSc
  blk_simp
  refine congrArg (V c main_v14) ?_
  blk_ext [e1_2]

section
attribute [local irreducible] k0_pay2 k0_pay3 nmsOut

theorem out0_1 (c : Dev nD) : (dat0 V c).arrAt 1 (cfg0 (F := Ideal)).N
    = fun j : S32x1x8400.Idx => mk (fun k : Fin 80 => (V c main_arg0 : S32x84x8400.Idx → EReal) (ix3 (j 0) (⟨4 + k.val, by omega⟩ : Fin 84) (j 2))) := by
  refine (dat0 V c).arrAt_eq_of_covers 1 _ (by decide +kernel) fun t hf y => ?_
  blk_simp
  refine (show (dat0 V c).after 1 t y = k0_pay2 (blkIn0 V c t) y from rfl).trans ?_
  refine (pay2_at (blkIn0 V c t) y).trans ?_
  have e0 : ((win0_1.blk t).view.emb y 0 : Fin 32) = (grid0.coords t 0 : Fin 32) := by
    apply Fin.ext
    blk_simp [e0_1]
  have e2 : ((win0_1.blk t).view.emb y 2 : Fin 8400) = (y 2 : Fin 8400) := by
    apply Fin.ext
    blk_simp [e0_1]
  refine congrArg mk (funext fun k => ?_)
  refine (blkIn0_at V c t _ _).trans ?_
  rw [e0, e2]

theorem out0_2 (c : Dev nD) : (dat0 V c).arrAt 2 (cfg0 (F := Ideal)).N
    = fun j : S32x4x8400.Idx => (V c main_arg0 : S32x84x8400.Idx → EReal) (ix3 (j 0) (⟨(j 1).val, by have : (j 1).val < 4 := (j 1).isLt; omega⟩ : Fin 84) (j 2)) := by
  refine (dat0 V c).arrAt_eq_of_covers 2 _ (by decide +kernel) fun t hf y => ?_
  blk_simp
  refine (show (dat0 V c).after 2 t y = k0_pay3 (blkIn0 V c t) y from rfl).trans ?_
  refine (pay3_at' (blkIn0 V c t) y).trans ((blkIn0_at V c t _ _).trans ?_)
  have e0 : ((win0_2.blk t).view.emb y 0 : Fin 32) = (grid0.coords t 0 : Fin 32) := by
    apply Fin.ext
    blk_simp [e0_2]
  have e2 : ((win0_2.blk t).view.emb y 2 : Fin 8400) = (y 2 : Fin 8400) := by
    apply Fin.ext
    blk_simp [e0_2]
  rw [e0, e2]
  refine congrArg (V c main_arg0) (congrArg (fun r => ix3 _ r _) (Fin.ext ?_))
  blk_simp [e0_2]

/-- What the second launch leaves for image `b`: the suppression's result of that image's boxes, indices and scores. -/
theorem out1_3 (c : Dev nD) : (dat1 V c).arrAt 3 (cfg1 (F := Ideal)).N
    = fun j : S32x8x1024.Idx => nmsOut (fun i : S1x4x8400.Idx => (V c main_v0_1 : S32x4x8400.Idx → EReal) (ix3 (j 0) (i 1) (i 2)))
        (fun i : S1x1x1024.Idx => (V c main_v12 : S32x1x1024.Idx → BitVec 32) (ix3 (j 0) 0 (i 2)))
        (fun i : S1x1x1024.Idx => (V c main_v14 : S32x1x1024.Idx → EReal) (ix3 (j 0) 0 (i 2))) (ix3 0 (j 1) (j 2)) := by
  refine (dat1 V c).arrAt_eq_of_covers 3 _ (by decide +kernel) fun t hf y => ?_
  blk_simp
  refine (show (dat1 V c).after 3 t y = nmsOut (blkBox V c t) (blkIdx V c t) (blkSc V c t) y from rfl).trans ?_
  have e0 : ((win1_3.blk t).view.emb y 0 : Fin 32) = (grid1.coords t 0 : Fin 32) := by
    apply Fin.ext
    blk_simp [e1_3]
  have h1 : blkBox V c t = fun i : S1x4x8400.Idx => (V c main_v0_1 : S32x4x8400.Idx → EReal) (ix3 ((win1_3.blk t).view.emb y 0 : Fin 32) (i 1) (i 2)) := by
    funext i
    rw [e0]
    refine Eq.trans ?_ (blkBox_at V c t (i 1) (i 2))
    exact congrArg _ (ix3_first i)
  have h2 : blkIdx V c t = fun i : S1x1x1024.Idx => (V c main_v12 : S32x1x1024.Idx → BitVec 32) (ix3 ((win1_3.blk t).view.emb y 0 : Fin 32) 0 (i 2)) := by
    funext i
    rw [e0]
    refine Eq.trans ?_ (blkIdx_at V c t (i 2))
    exact congrArg _ (ix3_row i)
  have h3 : blkSc V c t = fun i : S1x1x1024.Idx => (V c main_v14 : S32x1x1024.Idx → EReal) (ix3 ((win1_3.blk t).view.emb y 0 : Fin 32) 0 (i 2)) := by
    funext i
    rw [e0]
    refine Eq.trans ?_ (blkSc_at V c t (i 2))
    exact congrArg _ (ix3_row i)
  rw [h1, h2, h3]
  refine congrArg (nmsOut _ _ _) ?_
  blk_ext [e1_3]
end

end Cert.Proof

end
-- ==== Proof.SortMath.lean ====
/-
  The choice of the highest scores, as mathematics: the positions in descending order of score (equal scores by position),
  the valid positions a prefix of it, and the two-step choice (some per group, then a sort of those) agreeing with the
  one-step choice wherever a score is valid.
-/
module

public import proofs.«01_k».proof.Proof.NmsMask
public import Idealize.ShloMosaic.Lib.SortPrefix

@[expose] public section

noncomputable section

namespace Cert.Proof

open Idealize.ShloMosaic

variable {n : ℕ}

/-- `a` stands before `b`: a higher score, or the same score at an earlier position. -/
def lexB (x : Fin n → EReal) (a b : Fin n) : Bool := decide (x b < x a) || (decide (x a = x b) && decide (a < b))

theorem lexB_iff (x : Fin n → EReal) (a b : Fin n) : lexB x a b = true ↔ x b < x a ∨ (x a = x b ∧ a < b) := by
  simp [lexB]

theorem lexB_false (x : Fin n → EReal) (a b : Fin n) : lexB x a b = false ↔ ¬ (x b < x a ∨ (x a = x b ∧ a < b)) := by
  rw [← lexB_iff, Bool.not_eq_true]

theorem lexB_total (x : Fin n → EReal) : StrictTotalBefore (lexB x) where
  irrefl a := by simp [lexB]
  trans a b c h1 h2 := by
    rw [lexB_iff] at *
    rcases h1 with h1 | ⟨e1, h1⟩ <;> rcases h2 with h2 | ⟨e2, h2⟩
    · exact .inl (h2.trans h1)
    · exact .inl (e2 ▸ h1)
    · exact .inl (e1 ▸ h2)
    · exact .inr ⟨e1.trans e2, h1.trans h2⟩
  total a b h := by
    rw [lexB_iff, lexB_iff]
    rcases lt_trichotomy (x a) (x b) with h1 | h1 | h1
    · exact .inr (.inl h1)
    · rcases lt_or_gt_of_ne h with h2 | h2
      · exact .inl (.inr ⟨h1, h2⟩)
      · exact .inr (.inr ⟨h1.symm, h2⟩)
    · exact .inl (.inl h1)

/-- The position whose score comes at place `r` of the descending order. -/
def srt (x : Fin n → EReal) (r : Fin n) : Fin n := sortedFrom (lexB x) r

/-- A stable sort by the score alone is the sort by score and position. -/
theorem stable_lex (x : Fin n → EReal) (R : Fin n → Fin n → Bool) (hR : ∀ a b, R a b = decide (x b < x a))
    (l : List (Fin n)) (hl : l.Pairwise (· < ·)) : stableSort R l = stableSort (lexB x) l := by
  induction l with
  | nil => rfl
  | cons a l ih =>
    rw [List.pairwise_cons] at hl
    unfold stableSort
    rw [ih hl.2]
    refine insertBefore_congr _ _ _ _ fun b hb => ?_
    have hab := hl.1 b ((perm_stableSort _ _).mem_iff.mp hb)
    rw [hR, lexB, decide_eq_false (not_lt.mpr hab.le), Bool.and_false, Bool.or_false]

theorem sortedFrom_srt (x : Fin n → EReal) (R : Fin n → Fin n → Bool) (hR : ∀ a b, R a b = decide (x b < x a)) (r : Fin n) :
    sortedFrom R r = srt x r := by
  have h : sortPositions n R = sortPositions n (lexB x) := stable_lex x R hR _ (List.pairwise_lt_finRange n)
  unfold srt sortedFrom
  rw [List.get_of_eq h]
  rfl

theorem srt_inj (x : Fin n → EReal) : Function.Injective (srt x) := sortedFrom_injective _
theorem srt_surj (x : Fin n → EReal) : Function.Surjective (srt x) := sortedFrom_surjective _

theorem srt_ord (x : Fin n → EReal) {i j : Fin n} (h : i < j) : lexB x (srt x j) (srt x i) = false :=
  sortedFrom_noInversion (lexB x) (lexB x) (fun _ _ => (lexB_total x).asymm _ _) (fun _ _ h => h) (lexB_total x).negTrans i j h

theorem srt_anti (x : Fin n → EReal) {i j : Fin n} (h : i ≤ j) : x (srt x j) ≤ x (srt x i) := by
  rcases h.eq_or_lt with rfl | h
  · exact le_rfl
  · have := (lexB_false _ _ _).mp (srt_ord x h)
    exact not_lt.mp fun h => this (.inl h)

theorem srt_tie (x : Fin n → EReal) {i j : Fin n} (h : i < j) (he : x (srt x i) = x (srt x j)) : srt x i < srt x j := by
  have := (lexB_false _ _ _).mp (srt_ord x h)
  rcases lt_trichotomy (srt x i) (srt x j) with h1 | h1 | h1
  · exact h1
  · exact absurd (srt_inj x h1) h.ne
  · exact absurd (.inr ⟨he.symm, h1⟩) this

/-- How many scores exceed `c`. -/
def cnt (c : EReal) (x : Fin n → EReal) : ℕ := (Finset.univ.filter fun i => c < x i).card

/-- Those that do come first. -/
theorem srt_valid (c : EReal) (x : Fin n → EReal) (r : Fin n) : c < x (srt x r) ↔ r.val < cnt c x := by
  have e : cnt c x = (Finset.univ.filter fun r => c < x (srt x r)).card := by
    refine (Finset.card_bij (fun r _ => srt x r) ?_ ?_ ?_).symm
    · intro a ha; simpa using ha
    · intro a _ b _ h; exact srt_inj x h
    · intro b hb
      obtain ⟨a, rfl⟩ := srt_surj x b
      exact ⟨a, by simpa using hb, rfl⟩
  constructor
  · intro h
    have : (Finset.Iic r).card ≤ cnt c x := by
      rw [e]
      refine Finset.card_le_card fun j hj => ?_
      simp only [Finset.mem_Iic] at hj
      simpa using h.trans_le (srt_anti x hj)
    rw [Fin.card_Iic] at this
    omega
  · intro h
    by_contra hn
    have : cnt c x ≤ (Finset.Iio r).card := by
      rw [e]
      refine Finset.card_le_card fun j hj => ?_
      simp only [Finset.mem_filter, Finset.mem_univ, true_and] at hj
      simp only [Finset.mem_Iio]
      by_contra hr
      exact hn (hj.trans_le (srt_anti x (not_lt.mp hr)))
    rw [Fin.card_Iio] at this
    omega

theorem cnt_le (c : EReal) (x : Fin n → EReal) : cnt c x ≤ n := by
  unfold cnt
  exact (Finset.card_le_univ _).trans (by simp)

/-- A sort of some of the entries, `y q = x (p q)`, equal scores in the same order and every valid entry among them: where
    either sort has a valid score, both have the same position. -/
theorem srt_part {m : ℕ} (c : EReal) (x : Fin n → EReal) (y : Fin m → EReal) (p : Fin m → Fin n)
    (hy : ∀ q, y q = x (p q)) (hp : Function.Injective p) (ht : ∀ q q', q < q' → y q = y q' → p q < p q')
    (hc : ∀ i, c < x i → ∃ q, p q = i) (r : ℕ) (hn : r < n) (hm : r < m)
    (hv : c < x (srt x ⟨r, hn⟩) ∨ c < y (srt y ⟨r, hm⟩)) : srt x ⟨r, hn⟩ = p (srt y ⟨r, hm⟩) := by
  have hcard : cnt c y = cnt c x := by
    refine Finset.card_bij (fun q _ => p q) ?_ ?_ ?_
    · intro q hq; simpa [hy] using hq
    · intro a _ b _ h; exact hp h
    · intro i hi
      simp only [Finset.mem_filter, Finset.mem_univ, true_and] at hi
      obtain ⟨q, rfl⟩ := hc i hi
      exact ⟨q, by simpa [hy] using hi, rfl⟩
  have hr : r < cnt c y := by
    rcases hv with h | h
    · rw [hcard]; exact (srt_valid c x _).mp h
    · exact (srt_valid c y _).mp h
  have hkn : cnt c y ≤ n := hcard ▸ cnt_le c x
  have hkm : cnt c y ≤ m := cnt_le c y
  have hval : ∀ i : Fin (cnt c y), c < y (srt y (i.castLE hkm)) := fun i => (srt_valid c y _).mpr i.isLt
  have := (lexB_total x).sortedFrom_eq_of_prefix hkn (fun i => p (srt y (i.castLE hkm)))
    (fun a b h => by
      have := srt_inj y (hp h)
      simpa [Fin.ext_iff] using this)
    (fun i j hij => by
      rw [lexB_false]
      have hij' : i.castLE hkm < j.castLE hkm := hij
      rintro (h | ⟨e, h⟩)
      · rw [← hy, ← hy] at h
        exact absurd (srt_anti y hij'.le) (not_le.mpr h)
      · rw [← hy, ← hy] at e
        exact lt_asymm h (ht _ _ (srt_tie y hij' e.symm) e.symm))
    (fun i q hq => by
      rw [lexB_false]
      have hq' : ¬ c < x q := fun h => by
        obtain ⟨u, rfl⟩ := hc q h
        obtain ⟨s, rfl⟩ := srt_surj y u
        rw [← hy] at h
        exact hq ⟨s.val, (srt_valid c y s).mp h⟩ rfl
      have hi := hval i
      rw [hy] at hi
      rintro (h | ⟨e, h⟩)
      · exact hq' (hi.trans h)
      · exact hq' (e ▸ hi)) ⟨r, hr⟩
  exact this

/-- Groups of `a`: `k` kept per group, each group's in descending order; no group has more than `k` valid scores. The sort
    of the kept ones has the same positions as the sort of all, wherever either has a valid score. -/
theorem srt_groups {G a k : ℕ} (c : EReal) (x : Fin n → EReal) (hG : n = G * a) (hk : k ≤ a)
    (xg : Fin G → Fin a → EReal) (hxg : ∀ g t (h : a * g.val + t.val < n), xg g t = x ⟨a * g.val + t.val, h⟩)
    (y : Fin (G * k) → EReal)
    (hy : ∀ (g : Fin G) (t : Fin k) (h : k * g.val + t.val < G * k), y ⟨k * g.val + t.val, h⟩ = xg g (srt (xg g) (t.castLE hk)))
    (hcap : ∀ g, cnt c (xg g) ≤ k) (r : ℕ) (hn : r < n) (hm : r < G * k)
    (hv : c < x (srt x ⟨r, hn⟩) ∨ c < y (srt y ⟨r, hm⟩)) :
    ∃ (g : Fin G) (t : Fin k), (srt y ⟨r, hm⟩).val = k * g.val + t.val ∧
      (srt x ⟨r, hn⟩).val = a * g.val + (srt (xg g) (t.castLE hk)).val := by
  have hk0 : 0 < k := by
    rcases Nat.eq_zero_or_pos k with rfl | h
    · simp at hm
    · exact h
  have hg : ∀ q : Fin (G * k), q.val / k < G := fun q => Nat.div_lt_of_lt_mul (lt_of_lt_of_eq q.isLt (Nat.mul_comm _ _))
  have hb : ∀ (g : Fin G) (t : Fin a), a * g.val + t.val < n := fun g t => by
    subst hG
    calc a * g.val + t.val < a * g.val + a := by omega
      _ = a * (g.val + 1) := by ring
      _ ≤ a * G := Nat.mul_le_mul_left _ g.isLt
      _ = G * a := Nat.mul_comm _ _
  let gq : Fin (G * k) → Fin G := fun q => ⟨q.val / k, hg q⟩
  let tq : Fin (G * k) → Fin k := fun q => ⟨q.val % k, Nat.mod_lt _ hk0⟩
  let s : Fin (G * k) → Fin a := fun q => srt (xg (gq q)) ((tq q).castLE hk)
  let p : Fin (G * k) → Fin n := fun q => ⟨a * (gq q).val + (s q).val, hb _ _⟩
  have hq : ∀ q : Fin (G * k), k * (gq q).val + (tq q).val = q.val := fun q => Nat.div_add_mod _ _
  have hyp : ∀ q, y q = x (p q) := fun q => by
    have h1 := hy (gq q) (tq q) (by rw [hq]; exact q.isLt)
    rw [show (⟨k * (gq q).val + (tq q).val, _⟩ : Fin (G * k)) = q from Fin.ext (hq q), hxg _ _ (hb _ _)] at h1
    exact h1
  have hdec : ∀ q q', p q = p q' → gq q = gq q' ∧ s q = s q' := fun q q' h => by
    have h := congrArg Fin.val h
    simp only [p] at h
    have h1 := (s q).isLt
    have h2 := (s q').isLt
    have e : (gq q).val = (gq q').val := by
      have ea : (a * (gq q).val + (s q).val) / a = (gq q).val := by
        rw [Nat.mul_add_div (by omega), Nat.div_eq_of_lt h1, Nat.add_zero]
      have eb : (a * (gq q').val + (s q').val) / a = (gq q').val := by
        rw [Nat.mul_add_div (by omega), Nat.div_eq_of_lt h2, Nat.add_zero]
      rw [← ea, ← eb, h]
    refine ⟨Fin.ext e, Fin.ext ?_⟩
    rw [e] at h
    omega
  have hinj : Function.Injective p := fun q q' h => by
    obtain ⟨e1, e2⟩ := hdec q q' h
    simp only [s, e1] at e2
    have e3 := congrArg Fin.val (srt_inj _ e2)
    apply Fin.ext
    rw [← hq q, ← hq q', e1]
    simpa using e3
  have htie : ∀ q q', q < q' → y q = y q' → p q < p q' := fun q q' h e => by
    have hle : (gq q).val ≤ (gq q').val := Nat.div_le_div_right (Nat.le_of_lt h)
    rcases Nat.lt_or_ge (gq q).val (gq q').val with hl | hl
    · show a * (gq q).val + (s q).val < a * (gq q').val + (s q').val
      have h1 := (s q).isLt
      have h2 : a * ((gq q).val + 1) ≤ a * (gq q').val := Nat.mul_le_mul_left _ hl
      rw [Nat.mul_add, Nat.mul_one] at h2
      omega
    · have eg : gq q = gq q' := Fin.ext (le_antisymm hle hl)
      have ht : (tq q).castLE hk < (tq q').castLE hk := by
        show (tq q).val < (tq q').val
        have h1 := hq q
        have h2 := hq q'
        rw [eg] at h1
        have h3 : q.val < q'.val := h
        omega
      have hs : s q < s q' := by
        have e' : xg (gq q) (s q) = xg (gq q') (s q') := by
          rw [hxg _ _ (hb _ _), hxg _ _ (hb _ _)]
          exact (hyp q).symm.trans (e.trans (hyp q'))
        simp only [s, eg] at e' ⊢
        exact srt_tie _ ht e'
      show a * (gq q).val + (s q).val < a * (gq q').val + (s q').val
      rw [eg]
      exact Nat.add_lt_add_left hs _
  have hcov : ∀ i, c < x i → ∃ q, p q = i := fun i hi => by
    have ha : 0 < a := lt_of_lt_of_le hk0 hk
    have hgi : i.val / a < G := Nat.div_lt_of_lt_mul (lt_of_lt_of_eq i.isLt (hG.trans (Nat.mul_comm _ _)))
    let g : Fin G := ⟨i.val / a, hgi⟩
    let u : Fin a := ⟨i.val % a, Nat.mod_lt _ ha⟩
    have hi' : a * g.val + u.val = i.val := Nat.div_add_mod _ _
    obtain ⟨t, ht⟩ := srt_surj (xg g) u
    have hv : c < xg g (srt (xg g) t) := by
      rw [ht, hxg g u (by rw [hi']; exact i.isLt), show (⟨a * g.val + u.val, _⟩ : Fin n) = i from Fin.ext hi']
      exact hi
    have htk : t.val < k := lt_of_lt_of_le ((srt_valid c _ _).mp hv) (hcap g)
    have hqb : k * g.val + t.val < G * k := by
      calc k * g.val + t.val < k * g.val + k := by omega
        _ = k * (g.val + 1) := by ring
        _ ≤ k * G := Nat.mul_le_mul_left _ g.isLt
        _ = G * k := Nat.mul_comm _ _
    refine ⟨⟨k * g.val + t.val, hqb⟩, Fin.ext ?_⟩
    have e1 : gq ⟨k * g.val + t.val, hqb⟩ = g := Fin.ext (by
      show (k * g.val + t.val) / k = g.val
      rw [Nat.mul_add_div hk0, Nat.div_eq_of_lt htk, Nat.add_zero])
    have e2 : (tq ⟨k * g.val + t.val, hqb⟩).castLE hk = t := Fin.ext (by
      show (k * g.val + t.val) % k = t.val
      rw [Nat.mul_add_mod, Nat.mod_eq_of_lt htk])
    show a * (gq _).val + (srt (xg (gq _)) ((tq _).castLE hk)).val = i.val
    rw [e1, e2, ht, hi']
  have := srt_part c x y p hyp hinj htie hcov r hn hm hv
  exact ⟨gq (srt y ⟨r, hm⟩), tq (srt y ⟨r, hm⟩), (hq _).symm, congrArg Fin.val this⟩

/-- Scores and index words that agree with the sort of `x` wherever either score is valid. -/
def TopOK (x : Fin 8400 → EReal) (ts : Fin 1000 → EReal) (ti : Fin 1000 → BitVec 32) : Prop :=
  ∀ r : Fin 1000, c01 < x (srt x (r.castLE (by decide))) ∨ c01 < ts r →
    ts r = x (srt x (r.castLE (by decide))) ∧ (ti r).toNat = (srt x (r.castLE (by decide))).val

theorem TopOK.valid {x ts ti} (h : TopOK x ts ti) (r : Fin 1000) : c01 < ts r ↔ c01 < x (srt x (r.castLE (by decide))) :=
  ⟨fun hv => (h r (.inr hv)).1 ▸ hv, fun hv => (h r (.inl hv)).1.symm ▸ hv⟩

/-- The scores with the padding after them have their valid ones first. -/
theorem TopOK.dense {x ts ti} (h : TopOK x ts ti) (s : Fin 1024 → EReal) (hs : ∀ r : Fin 1000, s (r.castLE (by decide)) = ts r)
    (hp : ∀ j : Fin 1024, 1000 ≤ j.val → ¬ c01 < s j) : Dense s := by
  intro j hj
  have hj1 : j.val < 1000 := by
    by_contra hn
    exact hp j (by omega) hj
  have hle : (Finset.Iic j).card ≤ nvS s := by
    refine Finset.card_le_card fun i hi => ?_
    simp only [Finset.mem_Iic] at hi
    have hi1 : i.val < 1000 := lt_of_le_of_lt hi hj1
    have ej := hs ⟨j.val, hj1⟩
    have ei := hs ⟨i.val, hi1⟩
    have hv : c01 < ts ⟨j.val, hj1⟩ := ej ▸ hj
    have hv' : c01 < ts ⟨i.val, hi1⟩ := (h.valid _).mpr (((h.valid _).mp hv).trans_le (srt_anti x hi))
    simp only [Finset.mem_filter, Finset.mem_univ, true_and]
    show c01 < s i
    exact ei ▸ hv'
  rw [Fin.card_Iic] at hle
  omega

end Cert.Proof

end
-- ==== Proof.TopSort.lean ====
/-
  The host's choice of the greatest entries and its two-operand sort, read at an index: the entry at the place's position in
  descending order of score.
-/
module

public import proofs.«01_k».proof.Proof.SortMath

@[expose] public section

set_option maxRecDepth 65536

noncomputable section

namespace Cert.Proof

open Cert.KernelIdeal Cert.KernelIdeal.Gen
open Idealize.ShloMosaic
open Idealize.ShloMosaic.TcCoe Idealize.ShloMosaic.Tactic

theorem along2 {B n : ℕ} (b : Fin B) (r k : Fin n) (h : 1 < 2) :
    (ix2 b r : (⟨2, ![B, n]⟩ : Shape).Idx).along (⟨1, h⟩ : Fin 2) k = ix2 b k := by
  funext a
  match a with
  | ⟨0, _⟩ => rfl
  | ⟨1, _⟩ => rfl

theorem along3 {B G n : ℕ} (b : Fin B) (g : Fin G) (r k : Fin n) (h : 2 < 3) :
    (ix3 b g r : (⟨3, ![B, G, n]⟩ : Shape).Idx).along (⟨2, h⟩ : Fin 3) k = ix3 b g k := by
  funext a
  match a with
  | ⟨0, _⟩ => rfl
  | ⟨1, _⟩ => rfl
  | ⟨2, _⟩ => rfl

theorem gt_dec (a b : EReal) : (FloatOps.cmpfTotal (F := Ideal) (φ := .f32) .gt a b == 1#1) = decide (b < a) := by
  show (Ideal.cmp CmpDirection.gt.ordered a b == 1#1) = _
  by_cases h : b < a <;> simp [Ideal.cmp, CmpDirection.ordered, h]

/-- A sort of the last axis of rank 2, of two operands: both read at the position of the place. -/
theorem sort2_2 {B n : ℕ} {β : Type} (cmp : EReal × β → EReal × β → BitVec 1) (x : (⟨2, ![B, n]⟩ : Shape).Idx → EReal)
    (y : (⟨2, ![B, n]⟩ : Shape).Idx → β) (key : Fin n → EReal) (b : Fin B)
    (hc : ∀ k k', (cmp (x (ix2 b k), y (ix2 b k)) (x (ix2 b k'), y (ix2 b k')) == 1#1) = decide (key k' < key k)) (r : Fin n) :
    (Host.sort2 ⟨2, ![B, n]⟩ 1 cmp x y).1 (ix2 b r) = x (ix2 b (srt key r))
      ∧ (Host.sort2 ⟨2, ![B, n]⟩ 1 cmp x y).2 (ix2 b r) = y (ix2 b (srt key r)) := by
  have h2 : 1 < 2 := by decide
  have e := sortedFrom_srt key (fun k k' : Fin n => cmp (x ((ix2 b r : (⟨2, ![B, n]⟩ : Shape).Idx).along (⟨1, h2⟩ : Fin 2) k), y ((ix2 b r : (⟨2, ![B, n]⟩ : Shape).Idx).along (⟨1, h2⟩ : Fin 2) k))
      (x ((ix2 b r : (⟨2, ![B, n]⟩ : Shape).Idx).along (⟨1, h2⟩ : Fin 2) k'), y ((ix2 b r : (⟨2, ![B, n]⟩ : Shape).Idx).along (⟨1, h2⟩ : Fin 2) k')) == 1#1)
    (fun k k' => by
      refine Eq.trans ?_ (hc k k')
      exact congrArg₂ (fun i i' => cmp (x i, y i) (x i', y i') == 1#1) (along2 b r k h2) (along2 b r k' h2)) r
  unfold Host.sort2
  rw [dif_pos (show 1 < (⟨2, ![B, n]⟩ : Shape).rank from h2)]
  refine ⟨(congrArg x (along2 b r _ h2)).trans (congrArg (fun i => x (ix2 b i)) e), (congrArg y (along2 b r _ h2)).trans (congrArg (fun i => y (ix2 b i)) e)⟩

/-- The same for the last axis of rank 3. -/
theorem sort2_3 {B G n : ℕ} {β : Type} (cmp : EReal × β → EReal × β → BitVec 1) (x : (⟨3, ![B, G, n]⟩ : Shape).Idx → EReal)
    (y : (⟨3, ![B, G, n]⟩ : Shape).Idx → β) (key : Fin n → EReal) (b : Fin B) (g : Fin G)
    (hc : ∀ k k', (cmp (x (ix3 b g k), y (ix3 b g k)) (x (ix3 b g k'), y (ix3 b g k')) == 1#1) = decide (key k' < key k)) (r : Fin n) :
    (Host.sort2 ⟨3, ![B, G, n]⟩ 2 cmp x y).1 (ix3 b g r) = x (ix3 b g (srt key r))
      ∧ (Host.sort2 ⟨3, ![B, G, n]⟩ 2 cmp x y).2 (ix3 b g r) = y (ix3 b g (srt key r)) := by
  have h3 : 2 < 3 := by decide
  have e := sortedFrom_srt key (fun k k' : Fin n => cmp (x ((ix3 b g r : (⟨3, ![B, G, n]⟩ : Shape).Idx).along (⟨2, h3⟩ : Fin 3) k), y ((ix3 b g r : (⟨3, ![B, G, n]⟩ : Shape).Idx).along (⟨2, h3⟩ : Fin 3) k))
      (x ((ix3 b g r : (⟨3, ![B, G, n]⟩ : Shape).Idx).along (⟨2, h3⟩ : Fin 3) k'), y ((ix3 b g r : (⟨3, ![B, G, n]⟩ : Shape).Idx).along (⟨2, h3⟩ : Fin 3) k')) == 1#1)
    (fun k k' => by
      refine Eq.trans ?_ (hc k k')
      exact congrArg₂ (fun i i' => cmp (x i, y i) (x i', y i') == 1#1) (along3 b g r k h3) (along3 b g r k' h3)) r
  unfold Host.sort2
  rw [dif_pos (show 2 < (⟨3, ![B, G, n]⟩ : Shape).rank from h3)]
  refine ⟨(congrArg x (along3 b g r _ h3)).trans (congrArg (fun i => x (ix3 b g i)) e), (congrArg y (along3 b g r _ h3)).trans (congrArg (fun i => y (ix3 b g i)) e)⟩

theorem topK2 {B n k : ℕ} (x : (⟨2, ![B, n]⟩ : Shape).Idx → EReal) (h) (hk : k ≤ n) (b : Fin B) (r : Fin k) :
    (Host.topK (s := ⟨2, ![B, n]⟩) ⟨2, ![B, k]⟩ 1 (FloatOps.cmpfTotal (F := Ideal) (φ := .f32) .gt) x h).1 (ix2 b r)
        = x (ix2 b (srt (fun i => x (ix2 b i)) (r.castLE hk)))
    ∧ (Host.topK (s := ⟨2, ![B, n]⟩) ⟨2, ![B, k]⟩ 1 (FloatOps.cmpfTotal (F := Ideal) (φ := .f32) .gt) x h).2 (ix2 b r)
        = BitVec.ofNat 32 (srt (fun i => x (ix2 b i)) (r.castLE hk)).val := by
  have hsl : ∀ {α : Type} (v : (⟨2, ![B, n]⟩ : Shape).Idx → α), extractStridedSlice ⟨2, ![B, k]⟩ (fun _ => 0) v h (ix2 b r) = v (ix2 b (r.castLE hk)) := by
    intro α v
    unfold extractStridedSlice
    refine congrArg v (funext fun a => Fin.ext ?_)
    match a with
    | ⟨0, _⟩ => exact Nat.zero_add _
    | ⟨1, _⟩ => exact Nat.zero_add _
  unfold Host.topK
  simp only [hsl]
  obtain ⟨h1, h2⟩ := sort2_2 (fun l r : EReal × BitVec 32 => FloatOps.cmpfTotal (F := Ideal) (φ := .f32) .gt l.1 r.1) x
    (fun i => if hd : 1 < (⟨2, ![B, n]⟩ : Shape).rank then iotaInDim (⟨2, ![B, n]⟩ : Shape) 32 ⟨1, hd⟩ i else 0#32)
    (fun i => x (ix2 b i)) b (fun _ _ => gt_dec _ _) (r.castLE hk)
  exact ⟨h1, h2⟩

theorem topK3 {B G n k : ℕ} (x : (⟨3, ![B, G, n]⟩ : Shape).Idx → EReal) (h) (hk : k ≤ n) (b : Fin B) (g : Fin G) (r : Fin k) :
    (Host.topK (s := ⟨3, ![B, G, n]⟩) ⟨3, ![B, G, k]⟩ 2 (FloatOps.cmpfTotal (F := Ideal) (φ := .f32) .gt) x h).1 (ix3 b g r)
        = x (ix3 b g (srt (fun i => x (ix3 b g i)) (r.castLE hk)))
    ∧ (Host.topK (s := ⟨3, ![B, G, n]⟩) ⟨3, ![B, G, k]⟩ 2 (FloatOps.cmpfTotal (F := Ideal) (φ := .f32) .gt) x h).2 (ix3 b g r)
        = BitVec.ofNat 32 (srt (fun i => x (ix3 b g i)) (r.castLE hk)).val := by
  have hsl : ∀ {α : Type} (v : (⟨3, ![B, G, n]⟩ : Shape).Idx → α), extractStridedSlice ⟨3, ![B, G, k]⟩ (fun _ => 0) v h (ix3 b g r) = v (ix3 b g (r.castLE hk)) := by
    intro α v
    unfold extractStridedSlice
    refine congrArg v (funext fun a => Fin.ext ?_)
    match a with
    | ⟨0, _⟩ => exact Nat.zero_add _
    | ⟨1, _⟩ => exact Nat.zero_add _
    | ⟨2, _⟩ => exact Nat.zero_add _
  unfold Host.topK
  simp only [hsl]
  obtain ⟨h1, h2⟩ := sort2_3 (fun l r : EReal × BitVec 32 => FloatOps.cmpfTotal (F := Ideal) (φ := .f32) .gt l.1 r.1) x
    (fun i => if hd : 2 < (⟨3, ![B, G, n]⟩ : Shape).rank then iotaInDim (⟨3, ![B, G, n]⟩ : Shape) 32 ⟨2, hd⟩ i else 0#32)
    (fun i => x (ix3 b g i)) b g (fun _ _ => gt_dec _ _) (r.castLE hk)
  exact ⟨h1, h2⟩

/-- The comparator of the sort: the lesser of two negated scores is the greater score. -/
theorem cmp_dec (a b : EReal) (u v : BitVec 32) : (comparator_f32_i32_d1 (F := Ideal) (-a, u) (-b, v) == 1#1) = decide (b < a) := by
  have hz : ∀ w : EReal, (Scalar.select (Ideal.cmp .oeq w (Ideal.ofBits .f32 0x00000000#32)) (Ideal.ofBits .f32 0x00000000#32) w : EReal) = w := by
    intro w
    rw [show Ideal.ofBits .f32 0x00000000#32 = 0 from by simp [Ideal.ofBits, Ideal.ieee]]
    by_cases h : w = 0
    · subst h; simp [Scalar.select]
    · simp [Ideal.cmp, h, Scalar.select]
  have hn : ∀ w x : EReal, (Scalar.select (Ideal.cmp .une w w) x w : EReal) = w := by
    intro w x
    simp [Ideal.cmp, Scalar.select]
  have e : comparator_f32_i32_d1 (F := Ideal) (-a, u) (-b, v)
      = Ideal.cmp .olt
        (Scalar.select (Ideal.cmp .une (-a) (-a)) (Ideal.ofBits .f32 0x7FC00000#32) (Scalar.select (Ideal.cmp .oeq (-a) (Ideal.ofBits .f32 0x00000000#32)) (Ideal.ofBits .f32 0x00000000#32) (-a)))
        (Scalar.select (Ideal.cmp .une (-b) (-b)) (Ideal.ofBits .f32 0x7FC00000#32) (Scalar.select (Ideal.cmp .oeq (-b) (Ideal.ofBits .f32 0x00000000#32)) (Ideal.ofBits .f32 0x00000000#32) (-b))) := rfl
  rw [e, hz, hz, hn, hn]
  by_cases h : b < a
  · have : -a < -b := EReal.neg_lt_neg_iff.mpr h
    simp [Ideal.cmp, h, this]
  · have : ¬ -a < -b := fun h' => h (EReal.neg_lt_neg_iff.mp h')
    simp [Ideal.cmp, h, this]

end Cert.Proof

end
-- ==== Proof.KerVal.lean ====
/-
  The host's operations of the program at indices: the count of scores per group, the two ways of choosing the highest
  scores, and the padding; both ways give scores and indices that agree with the descending order of all the scores.
-/
module

public import proofs.«01_k».proof.Proof.Run
public import proofs.«01_k».proof.Proof.Arrays
public import proofs.«01_k».proof.Proof.TopSort
public import Idealize.ShloMosaic.Lib.StableHlo.ReadAt
public import Idealize.ShloMosaic.Lib.StableHlo.Predicate

@[expose] public section

set_option maxRecDepth 65536

noncomputable section

namespace Cert.Proof

open Cert.KernelIdeal Cert.KernelIdeal.Gen
open Idealize.ShloMosaic
open Idealize.ShloMosaic.TcCoe Idealize.ShloMosaic.Tactic

variable (V : Valuation τ sig (Elt Ideal))

/-- The buffers after the padding of the scores and indices. -/
def padV : Valuation τ sig (Elt Ideal) :=
  StableHlo.after hostOps1_5 (StableHlo.after hostOps1_4 (StableHlo.after hostOps1_3 (StableHlo.after hostOps1_2 (StableHlo.after hostOps1_1 V))))

theorem v1_at (b : Fin 32) (i : Fin 8400) : (StableHlo.after hostOps1 V main_v1 : S32x8400.Idx → EReal) (ix2 b i) = (V main_v0_0 : S32x1x8400.Idx → EReal) (ix3 b 0 i) := by
  after_reads_at
theorem v2_at (b : Fin 32) (g : Fin 84) (t : Fin 100) :
    (StableHlo.after hostOps1 V main_v2 : S32x84x100.Idx → EReal) (ix3 b g t) = (V main_v0_0 : S32x1x8400.Idx → EReal) (ix3 b 0 ⟨g.val * 100 + t.val, by omega⟩) := by
  after_reads_at
theorem v14_at (b : Fin 32) (j : Fin 1024) : (padV V main_v14 : S32x1x1024.Idx → EReal) (ix3 b 0 j)
    = if h : j.val < 1000 then (V main_v10_0 : S32x1000.Idx → EReal) (ix2 b ⟨j.val, h⟩) else Ideal.ofBits .f32 0xBF800000#32 := by
  unfold padV
  after_reads_at
  rfl
theorem v12_at (b : Fin 32) (j : Fin 1024) : (padV V main_v12 : S32x1x1024.Idx → BitVec 32) (ix3 b 0 j)
    = if h : j.val < 1000 then (V main_v10_1 : S32x1000.Idx → BitVec 32) (ix2 b ⟨j.val, h⟩) else 4294967295#32 := by
  unfold padV
  after_reads_at
  rfl
theorem box_at : padV V main_v0_1 = V main_v0_1 := by
  unfold padV
  after_reads_simp
theorem v17_at (b : Fin 32) (j : Fin 1000) (k : Fin 6) : (StableHlo.after hostOps2 V main_v17 : S32x1000x6.Idx → EReal) (ix3 b j k)
    = (V main_v15 : S32x8x1024.Idx → EReal) (ix3 b ⟨k.val, by omega⟩ ⟨j.val, by omega⟩) := by
  after_reads_at

/-! ## The count of scores per group -/

theorem cnt_at (mask : IVec S32x84x100 1) (b : Fin 32) (g : Fin 84) :
    (Host.reduce IntOp.addi (extui 32 mask natLt_1_32) (constantI S_ 32 0#32) reducesTo_S32x84x100_S32x84_d2 h_S_ (ix2 b g)).toNat
      = (Finset.univ.filter fun t : Fin 100 => mask (ix3 b g t) = 1#1).card := by
  have e : Host.reduce IntOp.addi (extui 32 mask natLt_1_32) (constantI S_ 32 0#32) reducesTo_S32x84x100_S32x84_d2 h_S_ (ix2 b g)
      = Finset.fold IntOp.addi (0#32) (fun x : Fin 100 => BitVec.setWidth 32 (mask (ix3 b g x))) Finset.univ := by pointwise
  have hs : ∑ t : Fin 100, (BitVec.setWidth 32 (mask (ix3 b g t))).toNat = (Finset.univ.filter fun t : Fin 100 => mask (ix3 b g t) = 1#1).card := by
    rw [Finset.card_filter]
    exact Finset.sum_congr rfl fun t _ => StableHlo.Predicate.toNat_setWidth_bit _
  rw [e, StableHlo.Predicate.toNat_fold_addi _ _ (by
    rw [hs]; exact lt_of_le_of_lt (Finset.card_le_univ _) (by decide)), hs]

theorem fold_maxsi_le {ι : Type} [DecidableEq ι] (S : Finset ι) (f : ι → BitVec 32) (a : BitVec 32) (i : ι) (hi : i ∈ S) :
    (f i).toInt ≤ (S.fold IntOp.maxsi a f).toInt := by
  have hm : ∀ x y : BitVec 32, x.toInt ≤ (IntOp.maxsi x y).toInt ∧ y.toInt ≤ (IntOp.maxsi x y).toInt := by
    intro x y
    unfold IntOp.maxsi
    rw [BitVec.slt_eq_decide]
    by_cases h : y.toInt < x.toInt
    · simp [h]; omega
    · simp [h]; omega
  induction S using Finset.cons_induction with
  | empty => simp at hi
  | cons b S hb ih =>
    rw [Finset.fold_cons]
    rcases Finset.mem_cons.mp hi with rfl | h
    · exact (hm _ _).1
    · exact (ih h).trans (hm _ _).2

/-- The test passes only if no group has more than sixteen. -/
theorem cap_of (mask : IVec S32x84x100 1)
    (h : IntOp.cmpi .sle (Host.reduce IntOp.maxsi (Host.reduce IntOp.addi (extui 32 mask natLt_1_32) (constantI S_ 32 0#32) reducesTo_S32x84x100_S32x84_d2 h_S_)
      (constantI S_ 32 2147483648#32) reducesTo_S32x84_S_d0_1 h_S_ ix0) 16#32 = 1#1) (b : Fin 32) (g : Fin 84) :
    (Finset.univ.filter fun t : Fin 100 => mask (ix3 b g t) = 1#1).card ≤ 16 := by
  generalize hx : Host.reduce IntOp.addi (extui 32 mask natLt_1_32) (constantI S_ 32 0#32) reducesTo_S32x84x100_S32x84_d2 h_S_ = x at h
  have e : Host.reduce IntOp.maxsi x (constantI S_ 32 2147483648#32) reducesTo_S32x84_S_d0_1 h_S_ ix0
      = Finset.fold IntOp.maxsi (2147483648#32) (fun k : Fin 32 × Fin 84 => x (ix2 k.1 k.2)) Finset.univ := by pointwise
  rw [e] at h
  have h1 := fold_maxsi_le Finset.univ (fun k : Fin 32 × Fin 84 => x (ix2 k.1 k.2)) (2147483648#32) (b, g) (Finset.mem_univ _)
  have h2 : (Finset.fold IntOp.maxsi (2147483648#32) (fun k : Fin 32 × Fin 84 => x (ix2 k.1 k.2)) Finset.univ).toInt ≤ 16 := by
    simp only [IntOp.cmpi, BitVec.sle_eq_decide] at h
    by_contra hn
    have h16 : (16#32).toInt = 16 := by decide
    rw [h16] at h
    simp [hn] at h
  have h3 := cnt_at mask b g
  rw [hx] at h3
  have h4 : (x (ix2 b g)).toNat ≤ 100 := by
    rw [h3]; exact (Finset.card_le_univ _).trans (by simp)
  have h5 : (x (ix2 b g)).toInt = (x (ix2 b g)).toNat := by
    rw [BitVec.toInt_eq_toNat_cond]
    rw [if_pos (by omega)]
  have h6 : (x (ix2 b g)).toInt ≤ 16 := h1.trans h2
  rw [← h3]
  omega

/-! ## The two arms -/

theorem full0 (b : Fin 32) (r : Fin 1000) : (StableHlo.after fullOps V main_v10_0 : S32x1000.Idx → EReal) (ix2 b r)
    = (Host.topK S32x1000 1 (FloatOps.cmpfTotal (F := Ideal) (φ := .f32) .gt) (V main_v1 : S32x8400.Idx → EReal) sliceFits_S32x8400_S32x1000).1 (ix2 b r) := by
  after_reads_at
  rfl
theorem full1 (b : Fin 32) (r : Fin 1000) : (StableHlo.after fullOps V main_v10_1 : S32x1000.Idx → BitVec 32) (ix2 b r)
    = (Host.topK S32x1000 1 (FloatOps.cmpfTotal (F := Ideal) (φ := .f32) .gt) (V main_v1 : S32x8400.Idx → EReal) sliceFits_S32x8400_S32x1000).2 (ix2 b r) := by
  after_reads_at
  rfl

theorem full_ok (b : Fin 32) (x : Fin 8400 → EReal) (hx : ∀ i, (V main_v1 : S32x8400.Idx → EReal) (ix2 b i) = x i) :
    TopOK x (fun r => (StableHlo.after fullOps V main_v10_0 : S32x1000.Idx → EReal) (ix2 b r))
      (fun r => (StableHlo.after fullOps V main_v10_1 : S32x1000.Idx → BitVec 32) (ix2 b r)) := by
  intro r _
  obtain rfl : (fun i => (V main_v1 : S32x8400.Idx → EReal) (ix2 b i)) = x := funext hx
  obtain ⟨h1, h2⟩ := topK2 (V main_v1 : S32x8400.Idx → EReal) sliceFits_S32x8400_S32x1000 (by decide) b r
  refine ⟨(full0 V b r).trans h1, ?_⟩
  show BitVec.toNat ((StableHlo.after fullOps V main_v10_1 : S32x1000.Idx → BitVec 32) (ix2 b r)) = _
  rw [full1 V b r]
  refine (congrArg BitVec.toNat h2).trans ?_
  rw [BitVec.toNat_ofNat]
  exact Nat.mod_eq_of_lt (lt_trans (Fin.isLt _) (by decide))

/-- The scores kept, sixteen of each group. -/
def keptS (x2 : S32x84x100.Idx → EReal) (b : Fin 32) (q : Fin 1344) : EReal :=
  (Host.topK S32x84x16 2 (FloatOps.cmpfTotal (F := Ideal) (φ := .f32) .gt) x2 sliceFits_S32x84x100_S32x84x16).1
    (ix3 b (⟨q.val / 16, by omega⟩ : Fin 84) (⟨q.val % 16, Nat.mod_lt _ (by decide)⟩ : Fin 16))
/-- Their indices in the whole row. -/
def keptI (x2 : S32x84x100.Idx → EReal) (b : Fin 32) (q : Fin 1344) : BitVec 32 :=
  IntOp.addi ((Host.topK S32x84x16 2 (FloatOps.cmpfTotal (F := Ideal) (φ := .f32) .gt) x2 sliceFits_S32x84x100_S32x84x16).2
    (ix3 b (⟨q.val / 16, by omega⟩ : Fin 84) (⟨q.val % 16, Nat.mod_lt _ (by decide)⟩ : Fin 16)))
    (IntOp.muli (BitVec.ofNat 32 (q.val / 16)) 100#32)
/-- The sort of the kept scores. -/
def keptSort (x2 : S32x84x100.Idx → EReal) : (S32x1344.Idx → EReal) × (S32x1344.Idx → BitVec 32) :=
  Host.sort2 (α := EReal) S32x1344 1 (comparator_f32_i32_d1 (F := Ideal)) (fun i => -(keptS x2 (i 0) (i 1))) (fun i => keptI x2 (i 0) (i 1))

theorem keptS_at (x2 : S32x84x100.Idx → EReal) (b : Fin 32) (g : Fin 84) (t : Fin 16) (h : 16 * g.val + t.val < 1344) :
    keptS x2 b ⟨16 * g.val + t.val, h⟩ = x2 (ix3 b g (srt (fun u => x2 (ix3 b g u)) (t.castLE (by decide)))) := by
  have hg : (⟨(16 * g.val + t.val) / 16, by omega⟩ : Fin 84) = g := Fin.ext (by show (16 * g.val + t.val) / 16 = g.val; omega)
  have ht : (⟨(16 * g.val + t.val) % 16, Nat.mod_lt _ (by decide)⟩ : Fin 16) = t := Fin.ext (by show (16 * g.val + t.val) % 16 = t.val; omega)
  unfold keptS
  simp only [hg, ht]
  exact (topK3 x2 sliceFits_S32x84x100_S32x84x16 (by decide) b g t).1

theorem keptI_at (x2 : S32x84x100.Idx → EReal) (b : Fin 32) (g : Fin 84) (t : Fin 16) (h : 16 * g.val + t.val < 1344) :
    (keptI x2 b ⟨16 * g.val + t.val, h⟩).toNat = 100 * g.val + (srt (fun u => x2 (ix3 b g u)) (t.castLE (by decide))).val := by
  have hg : (⟨(16 * g.val + t.val) / 16, by omega⟩ : Fin 84) = g := Fin.ext (by show (16 * g.val + t.val) / 16 = g.val; omega)
  have ht : (⟨(16 * g.val + t.val) % 16, Nat.mod_lt _ (by decide)⟩ : Fin 16) = t := Fin.ext (by show (16 * g.val + t.val) % 16 = t.val; omega)
  have hd : (16 * g.val + t.val) / 16 = g.val := by omega
  unfold keptI
  simp only [hg, ht, hd]
  have e := (topK3 x2 sliceFits_S32x84x100_S32x84x16 (by decide : 16 ≤ 100) b g t).2
  refine (congrArg (fun w => (IntOp.addi w (IntOp.muli (BitVec.ofNat 32 g.val) 100#32)).toNat) e).trans ?_
  generalize srt (fun i => x2 (ix3 b g i)) (t.castLE (by decide : 16 ≤ 100)) = u
  have hu := u.isLt
  have hg' := g.isLt
  unfold IntOp.addi IntOp.muli
  simp only [BitVec.toNat_add, BitVec.toNat_mul, BitVec.toNat_ofNat]
  omega

theorem keptSort_at (x2 : S32x84x100.Idx → EReal) (b : Fin 32) (r : Fin 1344) :
    (-((keptSort x2).1 (ix2 b r)) : EReal) = keptS x2 b (srt (keptS x2 b) r) ∧ (keptSort x2).2 (ix2 b r) = keptI x2 b (srt (keptS x2 b) r) := by
  obtain ⟨s1, s2⟩ := sort2_2 (B := 32) (n := 1344) (comparator_f32_i32_d1 (F := Ideal)) (fun i : S32x1344.Idx => (-(keptS x2 (i 0) (i 1)) : EReal)) (fun i : S32x1344.Idx => keptI x2 (i 0) (i 1)) (keptS x2 b) b
    (fun k k' => cmp_dec _ _ _ _) r
  exact ⟨(congrArg (fun z : EReal => -z) s1).trans (neg_neg _), s2⟩

theorem slice_at {α : Type} (x : S32x1344.Idx → α) (b : Fin 32) (r : Fin 1000) :
    extractStridedSlice S32x1000 ![0, 0] x slices_S32x1344_S32x1000_0_0 (ix2 b r) = x (ix2 b (⟨r.val, by omega⟩ : Fin 1344)) := by
  unfold extractStridedSlice
  refine congrArg x (funext fun a => Fin.ext ?_)
  match a with
  | ⟨0, _⟩ => exact Nat.zero_add _
  | ⟨1, _⟩ => exact Nat.zero_add _

theorem group0 (b : Fin 32) (r : Fin 1000) : (StableHlo.after groupOps V main_v10_0 : S32x1000.Idx → EReal) (ix2 b r)
    = (-((keptSort (V main_v2)).1 (ix2 b (⟨r.val, by omega⟩ : Fin 1344)) : EReal) : EReal) := by
  after_reads_at
  exact congrArg (fun z : EReal => -z) (slice_at (keptSort (V main_v2)).1 b r)
theorem group1 (b : Fin 32) (r : Fin 1000) : (StableHlo.after groupOps V main_v10_1 : S32x1000.Idx → BitVec 32) (ix2 b r)
    = (keptSort (V main_v2)).2 (ix2 b (⟨r.val, by omega⟩ : Fin 1344)) := by
  after_reads_at
  exact slice_at (keptSort (V main_v2)).2 b r

theorem group_ok (b : Fin 32) (x : Fin 8400 → EReal) (hx : ∀ (g : Fin 84) (t : Fin 100), (V main_v2 : S32x84x100.Idx → EReal) (ix3 b g t) = x ⟨100 * g.val + t.val, by omega⟩)
    (hcap : ∀ g : Fin 84, cnt c01 (fun t : Fin 100 => (V main_v2 : S32x84x100.Idx → EReal) (ix3 b g t)) ≤ 16) :
    TopOK x (fun r => (StableHlo.after groupOps V main_v10_0 : S32x1000.Idx → EReal) (ix2 b r))
      (fun r => (StableHlo.after groupOps V main_v10_1 : S32x1000.Idx → BitVec 32) (ix2 b r)) := by
  intro r hv
  have f0 := group0 V b r
  have f1 := group1 V b r
  simp only [f0, f1] at hv ⊢
  generalize (V main_v2 : S32x84x100.Idx → EReal) = x2 at *
  obtain ⟨s1, s2⟩ := keptSort_at x2 b (⟨r.val, by omega⟩ : Fin 1344)
  have hr := r.isLt
  have hv' : c01 < x (srt x ⟨r.val, by omega⟩) ∨ c01 < keptS x2 b (srt (n := 84 * 16) (keptS x2 b) ⟨r.val, by omega⟩) :=
    hv.imp id fun h => lt_of_lt_of_eq h s1
  obtain ⟨g, t, h1, h2⟩ := srt_groups (G := 84) (a := 100) (k := 16) c01 x (by decide) (by decide) (fun g u => x2 (ix3 b g u)) (fun g u h => hx g u)
    (keptS x2 b) (fun g t h => keptS_at x2 b g t h) hcap r.val (by omega) (by omega) hv'
  have hgt : 16 * g.val + t.val < 1344 := by have := g.isLt; have := t.isLt; omega
  have hq : srt (keptS x2 b) (⟨r.val, by omega⟩ : Fin 1344) = ⟨16 * g.val + t.val, hgt⟩ := Fin.ext h1
  rw [hq] at s1 s2
  refine ⟨?_, ?_⟩
  · refine s1.trans ((keptS_at x2 b g t hgt).trans ((hx g _).trans (congrArg x (Fin.ext h2.symm))))
  · exact (congrArg BitVec.toNat s2).trans ((keptI_at x2 b g t hgt).trans h2.symm)

end Cert.Proof

end
-- ==== Proof.ImageSpec.lean ====
/-
  What the program computes for one image, as plain mathematics: the score of a box is its class score 0 where that one
  is the greatest and above the threshold; boxes are ordered by descending score, the first thousand are candidates, and
  greedy suppression keeps some of them. Facts that carry the answer over from other numbers of candidates.
-/
module

public import proofs.«01_k».proof.Proof.SortMath
public import proofs.«01_k».proof.Proof.MaskVal

@[expose] public section

noncomputable section

namespace Cert.Proof

open Idealize.ShloMosaic
open scoped Classical

section Image
variable (A : Fin 84 → Fin 8400 → EReal)

/-- The score of box `i`. -/
def imSc (i : Fin 8400) : EReal := mk fun k : Fin 80 => A ⟨4 + k.val, by omega⟩ i
/-- The box of candidate `r`. -/
def imOrd (r : Fin 1000) : Fin 8400 := srt (imSc A) (r.castLE (by decide))
/-- The score of candidate `r`. -/
def imTop (r : Fin 1000) : EReal := imSc A (imOrd A r)
/-- Centre, width and height of candidate `r`. -/
def imBx (row : Fin 4) (r : Fin 1000) : EReal := A ⟨row.val, by omega⟩ (imOrd A r)
/-- The candidates kept. -/
def imKept : Fin 1000 → Prop := keepS (vS (imTop A)) (bSup (imBx A))
/-- The result: scaled corners, score and a zero, all 0 at a candidate not kept. -/
def imOut (r : Fin 1000) (k : Fin 6) : EReal := outS (imBx A) (imTop A) (imKept A) k.val r

end Image

theorem keep_valid {n : ℕ} {v : Fin n → Prop} {M : Fin n → Fin n → Prop} {K : Fin n → Prop} (h : IsKeep v M K) {j : Fin n} (hj : K j) : v j := ((h j).1 hj).1

/-- The kept set depends on who suppresses whom among the valid only. -/
theorem keep_congr {n : ℕ} {v : Fin n → Prop} {M M' : Fin n → Fin n → Prop} (hM : ∀ i j, v i → v j → i < j → (M' i j ↔ M i j)) {K : Fin n → Prop}
    (h : IsKeep v M' K) : K = keepS v M := by
  refine IsKeep.unique (v := v) (M := M) (fun j => ?_) isKeep_gen
  rw [h j]
  unfold stepK
  refine and_congr_right fun hj => not_congr (exists_congr fun i => and_congr_right fun hij => ⟨fun ⟨a, b⟩ => ⟨a, ?_⟩, fun ⟨a, b⟩ => ⟨a, ?_⟩⟩)
  · exact (hM i j (keep_valid h a) hj hij).1 b
  · exact (hM i j (keep_valid h a) hj hij).2 b

/-- Invalid candidates after the others change nothing. -/
theorem keep_restrict {n N : ℕ} (hn : n ≤ N) {v' : Fin N → Prop} {M' : Fin N → Fin N → Prop} {v : Fin n → Prop} {M : Fin n → Fin n → Prop}
    (hv : ∀ j : Fin n, v' (j.castLE hn) ↔ v j) (hout : ∀ j : Fin N, n ≤ j.val → ¬ v' j)
    (hM : ∀ i j : Fin n, v i → v j → i < j → (M' (i.castLE hn) (j.castLE hn) ↔ M i j)) (j : Fin n) : keepS v' M' (j.castLE hn) ↔ keepS v M j := by
  have hk : IsKeep v' M' (keepS v' M') := isKeep_gen
  have h : IsKeep v (fun i j => M' (i.castLE hn) (j.castLE hn)) fun j => keepS v' M' (j.castLE hn) := by
    intro j
    refine (hk _).trans ?_
    unfold stepK
    refine and_congr (hv j) (not_congr ⟨?_, ?_⟩)
    · rintro ⟨i, h1, h2, h3⟩
      have hi : i.val < n := by
        by_contra hc
        exact hout i (by omega) (keep_valid hk h2)
      exact ⟨⟨i.val, hi⟩, h1, h2, h3⟩
    · rintro ⟨i, h1, h2, h3⟩
      exact ⟨i.castLE hn, h1, h2, h3⟩
  exact iff_of_eq (congrFun (keep_congr hM h) j)

/-- A result row depends on the box and score of a kept candidate only. -/
theorem outS_congr {n N : ℕ} {B' : Fin 4 → Fin N → EReal} {s' : Fin N → EReal} {K' : Fin N → Prop} {B : Fin 4 → Fin n → EReal} {s : Fin n → EReal}
    {K : Fin n → Prop} {j' : Fin N} {j : Fin n} (hK : K' j' ↔ K j) (hB : K j → ∀ row, B' row j' = B row j) (hs : K j → s' j' = s j) (row : ℕ) :
    outS B' s' K' row j' = outS B s K row j := by
  unfold outS
  rw [ind_congr hK]
  by_cases h : K j
  · refine congrArg (· * ind (K j)) ?_
    have e := hB h
    rw [hs h]
    unfold bX1 bY1 bX2 bY2
    simp only [e]
  · rw [show ind (K j) = 0 from if_neg h, mul_zero, mul_zero]

/-- Who suppresses whom depends on the two boxes and the order. -/
theorem bSup_congr {n N : ℕ} {B' : Fin 4 → Fin N → EReal} {B : Fin 4 → Fin n → EReal} {r' c' : Fin N} {r c : Fin n} (ho : r' < c' ↔ r < c)
    (hr : ∀ row, B' row r' = B row r) (hc : ∀ row, B' row c' = B row c) : bSup B' r' c' ↔ bSup B r c := by
  unfold bSup bIou bInter bArea bX1 bY1 bX2 bY2
  simp only [hr, hc, ho]

/-- The answer for an image, from scores and indices that agree with the order, padded with invalid candidates. -/
theorem out_of_top (A : Fin 84 → Fin 8400 → EReal) (b : Fin 4 → Fin 8400 → EReal) (hb : ∀ row i, b row i = A ⟨row.val, by omega⟩ i)
    {ts : Fin 1000 → EReal} {ti : Fin 1000 → BitVec 32} (h : TopOK (imSc A) ts ti) (s : Fin 1024 → EReal) (ix : Fin 1024 → ℕ)
    (hs : ∀ r : Fin 1000, s (r.castLE (by decide)) = ts r) (hix : ∀ r : Fin 1000, ix (r.castLE (by decide)) = (ti r).toNat)
    (hp : ∀ j : Fin 1024, 1000 ≤ j.val → ¬ c01 < s j) (r : Fin 1000) (row : ℕ) :
    outS (bxS b ix s) s (keepS (vS s) (bSup (bxS b ix s))) row (r.castLE (by decide)) = outS (imBx A) (imTop A) (imKept A) row r := by
  have hv : ∀ r : Fin 1000, vS s (r.castLE (by decide)) ↔ vS (imTop A) r := fun r => by
    unfold vS
    rw [hs]
    exact h.valid r
  have hbx : ∀ r : Fin 1000, vS (imTop A) r → ∀ row, bxS b ix s row (r.castLE (by decide)) = imBx A row r := fun r hr row => by
    unfold bxS
    rw [if_pos ((hv r).2 hr)]
    have e := (h r (.inl hr)).2
    unfold gath
    have hlt : ix (r.castLE (by decide)) < 8400 := by rw [hix, e]; exact Fin.isLt _
    rw [dif_pos hlt, hb]
    refine congrArg (A _) (Fin.ext ?_)
    show ix (r.castLE (by decide)) = _
    rw [hix, e]
    rfl
  have hk := keep_restrict (by decide : 1000 ≤ 1024) (v' := vS s) (M' := bSup (bxS b ix s)) (v := vS (imTop A)) (M := bSup (imBx A)) hv hp
    (fun i j hi hj hij => bSup_congr ⟨fun h => h, fun h => h⟩ (hbx i hi) (hbx j hj)) r
  have hkv : imKept A r → vS (imTop A) r := fun h => keep_valid isKeep_gen h
  have hsr : vS (imTop A) r → s (r.castLE (by decide)) = imTop A r := fun hr => by
    rw [hs]
    exact (h r (.inl hr)).1
  exact outS_congr hk (fun h => hbx r (hkv h)) (fun hk' => hsr (hkv hk')) row

end Cert.Proof

end
-- ==== Proof.KerOut.lean ====
/-
  The whole program's result at an index.
-/
module

public import proofs.«01_k».proof.Proof.KerVal
public import proofs.«01_k».proof.Proof.ImageSpec

@[expose] public section

set_option maxRecDepth 65536

noncomputable section

namespace Cert.Proof

open Cert.KernelIdeal Cert.KernelIdeal.Gen
open Idealize.ShloMosaic
open Idealize.ShloMosaic.TcCoe Idealize.ShloMosaic.Tactic

theorem gt_bit (w : EReal) : c01 < w ↔ Ideal.cmp .ogt w c01 = 1#1 := by
  by_cases h : c01 < w <;> simp [Ideal.cmp, h]

theorem branch_bit : ∀ w : BitVec 1, HostLoop.branch (BitVec.setWidth 32 w) 1 = 1 → w = 1#1 := by decide

section Branch
variable (V : Valuation τ sig (Elt Ideal))

theorem rd_v1 : StableHlo.after [rdOp] V main_v1 = V main_v1 := by after_reads_simp
theorem rd_v2 : StableHlo.after [rdOp] V main_v2 = V main_v2 := by after_reads_simp
theorem rd_box : StableHlo.after [rdOp] V main_v0_1 = V main_v0_1 := by after_reads_simp
theorem rd_word : (StableHlo.after [rdOp] V main_v9 : S_.Idx → BitVec 32) ix0 = BitVec.setWidth 32 ((V main_v8 : S_.Idx → BitVec 1) ix0) := by
  after_reads_at
theorem full_box : StableHlo.after fullOps V main_v0_1 = V main_v0_1 := by after_reads_simp
theorem group_box : StableHlo.after groupOps V main_v0_1 = V main_v0_1 := by after_reads_simp
theorem ops1_box : StableHlo.after hostOps1 V main_v0_1 = V main_v0_1 := by after_reads_simp

/-- Sixteen per group is chosen only when no group has more above the threshold. -/
theorem cap_v8 (h : (StableHlo.after hostOps1 V main_v8 : S_.Idx → BitVec 1) ix0 = 1#1) (b : Fin 32) (g : Fin 84) :
    cnt c01 (fun t : Fin 100 => (StableHlo.after hostOps1 V main_v2 : S32x84x100.Idx → EReal) (ix3 b g t)) ≤ 16 := by
  let mask : IVec S32x84x100 1 := cmpf (F := Ideal) (φ := .f32) .ogt (StableHlo.after hostOps1 V main_v2 : S32x84x100.Idx → EReal) (broadcastInDim S32x84x100 ![] bcast_S_S32x84x100 (constant (F := Ideal) S_ .f32 1036831949#32))
  have e : (StableHlo.after hostOps1 V main_v8 : S_.Idx → BitVec 1) = cmpi .sle (Host.reduce IntOp.maxsi (Host.reduce IntOp.addi (extui 32 mask natLt_1_32) (constantI S_ 32 0#32) reducesTo_S32x84x100_S32x84_d2 h_S_)
      (constantI S_ 32 2147483648#32) reducesTo_S32x84_S_d0_1 h_S_) (constantI S_ 32 16#32) := by
    show _ = cmpi .sle (Host.reduce IntOp.maxsi (Host.reduce IntOp.addi (extui 32 (cmpf (F := Ideal) (φ := .f32) .ogt (StableHlo.after hostOps1 V main_v2 : S32x84x100.Idx → EReal) (broadcastInDim S32x84x100 ![] bcast_S_S32x84x100 (constant (F := Ideal) S_ .f32 1036831949#32))) natLt_1_32) (constantI S_ 32 0#32) reducesTo_S32x84x100_S32x84_d2 h_S_)
      (constantI S_ 32 2147483648#32) reducesTo_S32x84_S_d0_1 h_S_) (constantI S_ 32 16#32)
    after_reads_simp
  rw [e] at h
  refine le_trans (le_of_eq ?_) (cap_of mask h b g)
  unfold cnt
  refine congrArg Finset.card (Finset.filter_congr fun t _ => ?_)
  exact gt_bit _

/-- Whichever way is taken, the scores and indices agree with the order. -/
theorem case_top (w : Fin 2) (b : Fin 32) (x : Fin 8400 → EReal) (h1 : ∀ i, (V main_v1 : S32x8400.Idx → EReal) (ix2 b i) = x i)
    (h2 : ∀ (g : Fin 84) (t : Fin 100), (V main_v2 : S32x84x100.Idx → EReal) (ix3 b g t) = x ⟨100 * g.val + t.val, by omega⟩)
    (hcap : w = 1 → ∀ g : Fin 84, cnt c01 (fun t : Fin 100 => (V main_v2 : S32x84x100.Idx → EReal) (ix3 b g t)) ≤ 16) :
    TopOK x (fun r => (StableHlo.after (armOps w) V main_v10_0 : S32x1000.Idx → EReal) (ix2 b r))
      (fun r => (StableHlo.after (armOps w) V main_v10_1 : S32x1000.Idx → BitVec 32) (ix2 b r)) :=
  match w with
  | 0 => full_ok V b x h1
  | 1 => group_ok V b x h2 (hcap rfl)

theorem case_box (w : Fin 2) : StableHlo.after (armOps w) V main_v0_1 = V main_v0_1 :=
  match w with
  | 0 => full_box V
  | 1 => group_box V

end Branch

variable (m : (ℓ : Loc nD τ sig) → Buf (Elt Ideal) ℓ)

/-- Image `b` of the argument. -/
def kIm (c : Dev nD) (b : Fin 32) : Fin 84 → Fin 8400 → EReal := fun r i => (m ((c.tc : Thread nD τ).loc main_arg0) : S32x84x8400.Idx → EReal) (ix3 b r i)

theorem w1_sc (c : Dev nD) (b : Fin 32) (i : Fin 8400) : (W1 m c main_v0_0 : S32x1x8400.Idx → EReal) (ix3 b 0 i) = imSc (kIm m c b) i :=
  congrFun ((W1_out0 m c).trans (out0_1 (tcV (W0 m)) c)) (ix3 b 0 i)
theorem w1_box (c : Dev nD) (b : Fin 32) (row : Fin 4) (i : Fin 8400) :
    (W1 m c main_v0_1 : S32x4x8400.Idx → EReal) (ix3 b row i) = kIm m c b ⟨row.val, by omega⟩ i :=
  congrFun ((W1_out1 m c).trans (out0_2 (tcV (W0 m)) c)) (ix3 b row i)
theorem w2_v1 (c : Dev nD) (b : Fin 32) (i : Fin 8400) : (W2 m c main_v1 : S32x8400.Idx → EReal) (ix2 b i) = imSc (kIm m c b) i :=
  (v1_at (W1 m c) b i).trans (w1_sc m c b i)
theorem w2_v2 (c : Dev nD) (b : Fin 32) (g : Fin 84) (t : Fin 100) :
    (W2 m c main_v2 : S32x84x100.Idx → EReal) (ix3 b g t) = imSc (kIm m c b) ⟨100 * g.val + t.val, by omega⟩ :=
  (v2_at (W1 m c) b g t).trans ((w1_sc m c b _).trans (congrArg _ (Fin.ext (congrArg (· + t.val) (Nat.mul_comm _ _)))))

/-- Whichever way is taken, the scores and indices agree with the order. -/
theorem w3_top (c : Dev nD) (b : Fin 32) : TopOK (imSc (kIm m c b)) (fun r => (W3 m c main_v10_0 : S32x1000.Idx → EReal) (ix2 b r))
    (fun r => (W3 m c main_v10_1 : S32x1000.Idx → BitVec 32) (ix2 b r)) := by
  have h1 : ∀ i, (rdV (W2 m) c main_v1 : S32x8400.Idx → EReal) (ix2 b i) = imSc (kIm m c b) i := fun i =>
    (congrFun (rd_v1 (W2 m c)) (ix2 b i)).trans (w2_v1 m c b i)
  have h2 : ∀ (g : Fin 84) (t : Fin 100), (rdV (W2 m) c main_v2 : S32x84x100.Idx → EReal) (ix3 b g t) = imSc (kIm m c b) ⟨100 * g.val + t.val, by omega⟩ := fun g t =>
    (congrFun (rd_v2 (W2 m c)) (ix3 b g t)).trans (w2_v2 m c b g t)
  have hw : caseWord (W2 m) c = BitVec.setWidth 32 ((W2 m c main_v8 : S_.Idx → BitVec 1) ix0) := rd_word (W2 m c)
  refine case_top (rdV (W2 m) c) (HostLoop.branch (caseWord (W2 m) c) 1) b _ h1 h2 fun hb g => ?_
  have h8 : (W2 m c main_v8 : S_.Idx → BitVec 1) ix0 = 1#1 := branch_bit _ (by rw [← hw]; exact hb)
  refine le_trans (le_of_eq ?_) (cap_v8 (W1 m c) h8 b g)
  exact congrArg (cnt c01) (funext fun t => congrFun (rd_v2 (W2 m c)) (ix3 b g t))

theorem w3_box (c : Dev nD) : W3 m c main_v0_1 = W1 m c main_v0_1 :=
  (case_box (rdV (W2 m) c) (HostLoop.branch (caseWord (W2 m) c) 1)).trans ((rd_box (W2 m c)).trans (ops1_box (W1 m c)))

theorem w8_sc (c : Dev nD) (b : Fin 32) (j : Fin 1024) : (W8 m c main_v14 : S32x1x1024.Idx → EReal) (ix3 b 0 j)
    = if h : j.val < 1000 then (W3 m c main_v10_0 : S32x1000.Idx → EReal) (ix2 b ⟨j.val, h⟩) else Ideal.ofBits .f32 0xBF800000#32 := v14_at (W3 m c) b j
theorem w8_ix (c : Dev nD) (b : Fin 32) (j : Fin 1024) : (W8 m c main_v12 : S32x1x1024.Idx → BitVec 32) (ix3 b 0 j)
    = if h : j.val < 1000 then (W3 m c main_v10_1 : S32x1000.Idx → BitVec 32) (ix2 b ⟨j.val, h⟩) else 4294967295#32 := v12_at (W3 m c) b j
theorem w8_box (c : Dev nD) : W8 m c main_v0_1 = W1 m c main_v0_1 := (box_at (W3 m c)).trans (w3_box m c)

theorem w8_lo (c : Dev nD) (b : Fin 32) (r : Fin 1000) : (W8 m c main_v14 : S32x1x1024.Idx → EReal) (ix3 b 0 (r.castLE (by decide : 1000 ≤ 1024)))
    = (W3 m c main_v10_0 : S32x1000.Idx → EReal) (ix2 b r) := (w8_sc m c b _).trans (dif_pos r.isLt)
theorem w8_hi (c : Dev nD) (b : Fin 32) (j : Fin 1024) (h : 1000 ≤ j.val) : ¬ c01 < (W8 m c main_v14 : S32x1x1024.Idx → EReal) (ix3 b 0 j) := by
  intro hl
  exact not_c01_minus (lt_of_lt_of_eq hl ((w8_sc m c b j).trans (dif_neg (by omega))))

theorem dense_all : DenseAll m := by
  intro c t
  have e : (fun j : Fin 1024 => blkSc (tcV (W8 m)) c t (ix3 0 0 j)) = fun j => (W8 m c main_v14 : S32x1x1024.Idx → EReal) (ix3 (grid1.coords t 0 : Fin 32) 0 j) :=
    funext fun j => blkSc_at (tcV (W8 m)) c t j
  rw [e]
  exact TopOK.dense (w3_top m c (grid1.coords t 0 : Fin 32)) _ (fun r => w8_lo m c _ r) (fun j hj => w8_hi m c _ j hj)

/-- The program's result. -/
theorem ker_out (c : Dev nD) (b : Fin 32) (r : Fin 1000) (k : Fin 6) :
    (W10 m c main_v17 : S32x1000x6.Idx → EReal) (ix3 b r k) = imOut (kIm m c b) r k := by
  refine (v17_at (W9 m c) b r k).trans ?_
  refine (congrFun ((W9_out m c).trans (out1_3 (tcV (W8 m)) c)) (ix3 b (⟨k.val, by omega⟩ : Fin 8) (⟨r.val, by omega⟩ : Fin 1024))).trans ?_
  refine out_of_top (kIm m c b) (fun row i => (W8 m c main_v0_1 : S32x4x8400.Idx → EReal) (ix3 b row i)) (fun row i => ?_) (w3_top m c b)
    (fun j => (W8 m c main_v14 : S32x1x1024.Idx → EReal) (ix3 b 0 j)) (fun j => ((W8 m c main_v12 : S32x1x1024.Idx → BitVec 32) (ix3 b 0 j)).toNat)
    (fun r => w8_lo m c b r) (fun r => ?_) (fun j hj => w8_hi m c b j hj) r k.val
  · exact (congrFun (w8_box m c) (ix3 b row i)).trans (w1_box m c b row i)
  · exact congrArg BitVec.toNat ((w8_ix m c b _).trans (dif_pos r.isLt))

end Cert.Proof

end
-- ==== Proof.KerArg.lean ====
/-
  The whole program keeps its argument.
-/
module

public import proofs.«01_k».proof.Proof.Run
public import Idealize.ShloMosaic.Lib.StableHlo.ReadAt

@[expose] public section

set_option maxRecDepth 65536

noncomputable section

namespace Cert.Proof

open Cert.KernelIdeal Cert.KernelIdeal.Gen
open Idealize.ShloMosaic
open Idealize.ShloMosaic.TcCoe Idealize.ShloMosaic.Tactic

theorem arg_tail (V : Valuation τ sig (Elt Ideal)) : StableHlo.after hostOps2 V main_arg0 = V main_arg0 := by after_reads_simp
theorem arg_mid (V : Valuation τ sig (Elt Ideal)) : StableHlo.after hostOps1_5 (StableHlo.after hostOps1_4 (StableHlo.after hostOps1_3
    (StableHlo.after hostOps1_2 (StableHlo.after hostOps1_1 V)))) main_arg0 = V main_arg0 := by after_reads_simp
theorem arg_head (V : Valuation τ sig (Elt Ideal)) : StableHlo.after hostOps1 V main_arg0 = V main_arg0 := by after_reads_simp
theorem arg_rd (V : Valuation τ sig (Elt Ideal)) : StableHlo.after [rdOp] V main_arg0 = V main_arg0 := by after_reads_simp
theorem arg_full (V : Valuation τ sig (Elt Ideal)) : StableHlo.after fullOps V main_arg0 = V main_arg0 := by after_reads_simp
theorem arg_group (V : Valuation τ sig (Elt Ideal)) : StableHlo.after groupOps V main_arg0 = V main_arg0 := by after_reads_simp
theorem arg_arm (w : Fin 2) (V : Valuation τ sig (Elt Ideal)) : StableHlo.after (armOps w) V main_arg0 = V main_arg0 :=
  match w with
  | 0 => arg_full V
  | 1 => arg_group V

theorem ker_arg (m : (ℓ : Loc nD τ sig) → Buf (Elt Ideal) ℓ) (c : Dev nD) : W10 m c main_arg0 = m ((c.tc : Thread nD τ).loc main_arg0) :=
  (arg_tail (W9 m c)).trans ((W9_of m c main_arg0 (by decide)).trans ((arg_mid (W3 m c)).trans ((arg_arm _ (rdV (W2 m) c)).trans
    ((arg_rd (W2 m c)).trans ((arg_head (W1 m c)).trans (W1_of m c main_arg0 (by decide) (by decide)))))))

end Cert.Proof

end
-- ==== Proof.RefHead.lean ====
/-
  The reference program up to the candidates: the masked score of every box, the thousand highest with their indices, and
  the boxes and classes gathered at those indices.
-/
module

public import proofs.«01_k».proof.Proof.ImageSpec
public import proofs.«01_k».proof.Proof.TopSort
public import proofs.«01_k».proof.Proof.Gen.ReferenceIdeal.Run
public import Idealize.ShloMosaic.Lib.StableHlo.ReadAt

@[expose] public section

set_option maxRecDepth 65536

noncomputable section

namespace Cert.Proof.Ref

open Cert.ReferenceIdeal Cert.ReferenceIdeal.Gen
open Idealize.ShloMosaic
open Idealize.ShloMosaic.TcCoe Idealize.ShloMosaic.Tactic
open scoped Classical

variable (V : Valuation τ sig (Elt Ideal))

/-! ## Scores and classes -/

theorem v27_at (b : Fin 32) (k : Fin 80) (i : Fin 8400) : (StableHlo.after hostOps0 V main_v27 : S32x80x8400.Idx → EReal) (ix3 b k i)
    = (V main_arg0 : S32x84x8400.Idx → EReal) (ix3 b ⟨4 + k.val, by omega⟩ i) := by
  after_reads_at
theorem v28_eq : (StableHlo.after hostOps0 V main_v28 : S32x8400.Idx → EReal)
    = Host.reduce (FloatOps.maximumf (F := Ideal) (φ := .f32)) (StableHlo.after hostOps0 V main_v27 : S32x80x8400.Idx → EReal) (constant (F := Ideal) S_ .f32 0xFF800000#32) reducesTo_S32x80x8400_S32x8400_d1 h_S_ := by
  after_reads_simp

theorem max_at (x : S32x80x8400.Idx → EReal) (b : Fin 32) (i : Fin 8400) (h : ∀ k, x (ix3 b k i) ≤ x (ix3 b 0 i)) :
    Host.reduce (FloatOps.maximumf (F := Ideal) (φ := .f32)) x (constant (F := Ideal) S_ .f32 0xFF800000#32) reducesTo_S32x80x8400_S32x8400_d1 h_S_ (ix2 b i) = x (ix3 b 0 i) := by
  have e : Host.reduce (FloatOps.maximumf (F := Ideal) (φ := .f32)) x (constant (F := Ideal) S_ .f32 0xFF800000#32) reducesTo_S32x80x8400_S32x8400_d1 h_S_ (ix2 b i)
      = Finset.fold max (Ideal.ofBits .f32 0xFF800000#32) (fun k : Fin 80 => x (ix3 b k i)) Finset.univ := by pointwise
  rw [e, neg_inf]
  refine le_antisymm ((Finset.fold_max_le _).2 ⟨bot_le, fun k _ => h k⟩) ((Finset.le_fold_max _).2 (.inr ⟨0, Finset.mem_univ _, le_rfl⟩))

theorem v29_eq : (StableHlo.after hostOps0_1 V main_v29 : S32x8400.Idx → BitVec 32) = fun j =>
    (Host.argReduce (φ := .f32) reducer_argmax_f32_i32 (V main_v27 : S32x80x8400.Idx → EReal) (iotaInDim S32x80x8400 32 1) (constant (F := Ideal) S_ .f32 0xFF800000#32) (constantI S_ 32 0#32) reducesTo_S32x80x8400_S32x8400_d1 h_S_ j).2 := by
  after_reads_simp
  rfl

theorem drop_at (n : S32x80x8400.Idx) : reducesTo_S32x80x8400_S32x8400_d1.drop n = ix2 (n 0 : Fin 32) (n 2 : Fin 8400) := by
  funext a
  match a with
  | ⟨0, _⟩ => rfl
  | ⟨1, _⟩ => rfl

theorem reducer_pick (a b : EReal × BitVec 32) : (reducer_argmax_f32_i32 (F := Ideal) a b = a ∨ reducer_argmax_f32_i32 (F := Ideal) a b = b)
    ∧ better (reducer_argmax_f32_i32 (F := Ideal) a b) a ∧ better (reducer_argmax_f32_i32 (F := Ideal) a b) b := by
  obtain ⟨a1, a2⟩ := a
  obtain ⟨b1, b2⟩ := b
  have e : reducer_argmax_f32_i32 (F := Ideal) (a1, a2) (b1, b2) = if b1 < a1 ∨ (a1 = b1 ∧ a2.toInt < b2.toInt) then (a1, a2) else (b1, b2) := by
    show (Scalar.select (IntOp.ori (Ideal.cmp .ogt a1 b1) (Ideal.cmp .une a1 a1)) a1 b1,
      Scalar.select (IntOp.ori (IntOp.ori (Ideal.cmp .ogt a1 b1) (Ideal.cmp .une a1 a1)) (IntOp.andi (Ideal.cmp .oeq a1 b1) (IntOp.cmpi .slt a2 b2))) a2 b2) = _
    rcases lt_trichotomy b1 a1 with h | h | h
    · simp [Ideal.cmp, h, h.ne', Scalar.select, IntOp.ori, IntOp.andi]
    · subst h
      by_cases h2 : a2.toInt < b2.toInt <;> simp [Ideal.cmp, h2, Scalar.select, IntOp.ori, IntOp.andi, IntOp.cmpi, BitVec.slt_eq_decide]
    · have h3 : ¬ b1 < a1 := h.le.not_gt
      simp [Ideal.cmp, h3, h.ne, Scalar.select, IntOp.ori, IntOp.andi]
  rw [e]
  split
  · rename_i h
    refine ⟨.inl rfl, .inr ⟨rfl, le_rfl⟩, ?_⟩
    rcases h with h | ⟨h, h2⟩
    · exact .inl h
    · exact .inr ⟨h.symm, h2.le⟩
  · rename_i h
    push Not at h
    refine ⟨.inr rfl, ?_, .inr ⟨rfl, le_rfl⟩⟩
    rcases h.1.lt_or_eq with h1 | h1
    · exact .inl h1
    · exact .inr ⟨h1, h.2 h1⟩

theorem fiber_mem (x : S32x80x8400.Idx → EReal) (b : Fin 32) (i : Fin 8400) (q : EReal × BitVec 32) :
    q ∈ Host.argReduceFiber x (iotaInDim S32x80x8400 32 1) reducesTo_S32x80x8400_S32x8400_d1 (ix2 b i) ↔ ∃ k : Fin 80, q = (x (ix3 b k i), BitVec.ofNat 32 k.val) := by
  unfold Host.argReduceFiber
  simp only [List.mem_map, List.mem_filter, List.mem_finRange, true_and, decide_eq_true_eq]
  constructor
  · rintro ⟨n, hn, rfl⟩
    rw [drop_at] at hn
    generalize S32x80x8400.rowMajor.symm n = j at hn
    refine ⟨j 1, ?_⟩
    have h0 : (j 0 : Fin 32) = b := congrFun hn 0
    have h2 : (j 2 : Fin 8400) = i := congrFun hn 1
    have hj : j = ix3 b (j 1 : Fin 80) i := by
      funext a
      match a with
      | ⟨0, _⟩ => exact h0
      | ⟨1, _⟩ => rfl
      | ⟨2, _⟩ => exact h2
    exact congrArg₂ Prod.mk (congrArg x hj) rfl
  · rintro ⟨k, rfl⟩
    refine ⟨S32x80x8400.rowMajor (ix3 b k i), ?_, ?_⟩
    · rw [Equiv.symm_apply_apply, drop_at]
      rfl
    · rw [Equiv.symm_apply_apply]
      rfl

theorem arg_zero (x : S32x80x8400.Idx → EReal) (b : Fin 32) (i : Fin 8400) :
    (Host.argReduce (φ := .f32) reducer_argmax_f32_i32 x (iotaInDim S32x80x8400 32 1) (constant (F := Ideal) S_ .f32 0xFF800000#32) (constantI S_ 32 0#32) reducesTo_S32x80x8400_S32x8400_d1 h_S_ (ix2 b i)).2 = 0#32
      ↔ ∀ k, x (ix3 b k i) ≤ x (ix3 b 0 i) := by
  rw [Ideal.argReduce_eq_reduce2, Host.reduce2_eq_foldl_fiber]
  have hm := fiber_mem x b i
  generalize Host.argReduceFiber x (iotaInDim S32x80x8400 32 1) reducesTo_S32x80x8400_S32x8400_d1 (ix2 b i) = L at hm ⊢
  have e : (constant (F := Ideal) S_ .f32 0xFF800000#32 (Shape.Idx.first h_S_), constantI S_ 32 0#32 (Shape.Idx.first h_S_)) = ((⊥, 0#32) : EReal × BitVec 32) := by
    show (Ideal.ofBits .f32 0xFF800000#32, 0#32) = _
    rw [neg_inf]
  rw [e]
  exact foldl_zero _ reducer_pick (fun k => x (ix3 b k i)) L hm

theorem cast_zero (w : BitVec 32) : (FloatOps.sitofp (F := Ideal) .f32 w : EReal) = 0 ↔ w = 0#32 := by
  show ((w.toInt : ℝ) : EReal) = 0 ↔ _
  rw [EReal.coe_eq_zero, Int.cast_eq_zero]
  constructor
  · intro h
    exact BitVec.eq_of_toInt_eq (h.trans (by decide))
  · rintro rfl
    decide

theorem v36_at (b : Fin 32) (i : Fin 8400) : (StableHlo.after hostOps0_3 (StableHlo.after hostOps0_2 V) main_v36 : S32x8400.Idx → EReal) (ix2 b i)
    = if c01 < (V main_v28 : S32x8400.Idx → EReal) (ix2 b i) ∧ (V main_v29 : S32x8400.Idx → BitVec 32) (ix2 b i) = 0#32 then (V main_v28 : S32x8400.Idx → EReal) (ix2 b i) else Ideal.ofBits .f32 0xBF800000#32 := by
  after_reads_at
  show Scalar.select (IntOp.andi (BitVec.ofBool (decide (c01 < (V main_v28 : S32x8400.Idx → EReal) (ix2 b i)))) (BitVec.ofBool (decide ((FloatOps.sitofp (F := Ideal) .f32 ((V main_v29 : S32x8400.Idx → BitVec 32) (ix2 b i)) : EReal) = 0))))
    ((V main_v28 : S32x8400.Idx → EReal) (ix2 b i)) (Ideal.ofBits .f32 0xBF800000#32) = _
  generalize (V main_v28 : S32x8400.Idx → EReal) (ix2 b i) = x
  generalize (V main_v29 : S32x8400.Idx → BitVec 32) (ix2 b i) = w
  have hz := cast_zero w
  by_cases h1 : c01 < x <;> by_cases h2 : w = 0#32
  · have h3 := hz.2 h2
    rw [decide_eq_true h3, decide_eq_true h1, if_pos ⟨h1, h2⟩]
    rfl
  · have h3 := mt hz.1 h2
    simp [h1, h2, h3, Scalar.select, IntOp.andi]
  · simp [h1, Scalar.select, IntOp.andi]
  · simp [h1, Scalar.select, IntOp.andi]
theorem v30_at (b : Fin 32) (i : Fin 8400) : (StableHlo.after hostOps0_3 (StableHlo.after hostOps0_2 V) main_v30 : S32x8400.Idx → EReal) (ix2 b i)
    = FloatOps.sitofp (F := Ideal) .f32 ((V main_v29 : S32x8400.Idx → BitVec 32) (ix2 b i)) := by
  after_reads_at

/-- Image `b` of the argument. -/
def rIm (b : Fin 32) : Fin 84 → Fin 8400 → EReal := fun r i => (V main_arg0 : S32x84x8400.Idx → EReal) (ix3 b r i)

/-- The buffers once the scores are masked. -/
def hd0 : Valuation τ sig (Elt Ideal) := StableHlo.after hostOps0_3 (StableHlo.after hostOps0_2 (StableHlo.after hostOps0_1 (StableHlo.after hostOps0 V)))

theorem arg_keep28 : StableHlo.after hostOps0_1 V main_v28 = V main_v28 := by after_reads_simp
theorem arg_keep27 : StableHlo.after hostOps0_1 V main_v27 = V main_v27 := by after_reads_simp
theorem hd_keep26 : StableHlo.after hostOps0_3 (StableHlo.after hostOps0_2 (StableHlo.after hostOps0_1 V)) main_v26 = V main_v26 := by after_reads_simp

theorem cls_zero (b : Fin 32) (i : Fin 8400) : (StableHlo.after hostOps0_1 (StableHlo.after hostOps0 V) main_v29 : S32x8400.Idx → BitVec 32) (ix2 b i) = 0#32
    ↔ ∀ k : Fin 80, rIm V b ⟨4 + k.val, by omega⟩ i ≤ rIm V b ⟨4, by decide⟩ i := by
  have e := congrFun (v29_eq (StableHlo.after hostOps0 V)) (ix2 b i)
  refine (iff_of_eq (congrArg (· = 0#32) e)).trans ((arg_zero (StableHlo.after hostOps0 V main_v27) b i).trans (forall_congr' fun k => ?_))
  exact iff_of_eq (congrArg₂ (fun a b : EReal => a ≤ b) (v27_at V b k i) (v27_at V b 0 i))

/-- The masked score. -/
theorem sc_at (b : Fin 32) (i : Fin 8400) : (hd0 V main_v36 : S32x8400.Idx → EReal) (ix2 b i) = imSc (rIm V b) i := by
  refine (v36_at (StableHlo.after hostOps0_1 (StableHlo.after hostOps0 V)) b i).trans ?_
  have e28 := congrFun ((arg_keep28 (StableHlo.after hostOps0 V)).trans (v28_eq V)) (ix2 b i)
  unfold imSc mk
  by_cases hc : ∀ k : Fin 80, rIm V b ⟨4 + k.val, by omega⟩ i ≤ rIm V b ⟨4, by decide⟩ i
  · have h29 := (cls_zero V b i).2 hc
    have h28 : (StableHlo.after hostOps0_1 (StableHlo.after hostOps0 V) main_v28 : S32x8400.Idx → EReal) (ix2 b i) = rIm V b ⟨4, by decide⟩ i :=
      e28.trans ((max_at (StableHlo.after hostOps0 V main_v27) b i fun k =>
        (iff_of_eq (congrArg₂ (fun a b : EReal => a ≤ b) (v27_at V b k i) (v27_at V b 0 i))).2 (hc k)).trans (v27_at V b 0 i))
    rw [h28]
    by_cases hl : c01 < rIm V b ⟨4, by decide⟩ i
    · rw [if_pos ⟨hl, h29⟩, if_pos ⟨hc, hl⟩]
      rfl
    · rw [if_neg fun h => hl h.1, if_neg fun h => hl h.2]
  · rw [if_neg fun h => hc ((cls_zero V b i).1 h.2), if_neg fun h => hc h.1]

/-- The class of a box whose score is valid. -/
theorem cls_at (b : Fin 32) (i : Fin 8400) (h : c01 < imSc (rIm V b) i) : (hd0 V main_v30 : S32x8400.Idx → EReal) (ix2 b i) = (0 : EReal) := by
  refine (v30_at (StableHlo.after hostOps0_1 (StableHlo.after hostOps0 V)) b i).trans ((cast_zero _).2 ((cls_zero V b i).2 ?_))
  exact ((mk_valid _).1 h).1

/-! ## The candidates -/

theorem fold_one (c : BitVec 1) : Finset.fold IntOp.andi (1#1) (fun _ : Fin 1 => c) Finset.univ = c := by
  rw [Finset.univ_unique, Finset.fold_singleton]
  revert c
  decide

theorem word_lt (n : ℕ) (h : n < 8400) : IntOp.cmpi .slt (BitVec.ofNat 32 n) 0#32 = 0#1 ∧ IntOp.cmpi .sge (BitVec.ofNat 32 n) 0#32 = 1#1
    ∧ IntOp.cmpi .sle (BitVec.ofNat 32 n) 8399#32 = 1#1 ∧ (BitVec.ofNat 32 n).toInt.toNat = n := by
  have e : (BitVec.ofNat 32 n).toInt = n := by
    rw [BitVec.toInt_eq_toNat_cond, BitVec.toNat_ofNat, Nat.mod_eq_of_lt (by omega), if_pos (by omega)]
  have e0 : (0#32).toInt = 0 := by decide
  have e1 : (8399#32).toInt = 8399 := by decide
  refine ⟨?_, ?_, ?_, ?_⟩
  · simp only [IntOp.cmpi, BitVec.slt_eq_decide, e, e0]
    rw [decide_eq_false (by omega)]
    rfl
  · simp only [IntOp.cmpi, BitVec.sle_eq_decide, e, e0]
    rw [decide_eq_true (by omega)]
    rfl
  · simp only [IntOp.cmpi, BitVec.sle_eq_decide, e, e1]
    rw [decide_eq_true (by omega)]
    rfl
  · rw [e]
    rfl

theorem w_in {n : ℕ} (w2 : IntOp.cmpi .sge (BitVec.ofNat 32 n) 0#32 = 1#1) (w3 : IntOp.cmpi .sle (BitVec.ofNat 32 n) 8399#32 = 1#1) :
    IntOp.andi (IntOp.cmpi .sge (Scalar.select 0#1 (IntOp.addi (BitVec.ofNat 32 n) 8400#32) (BitVec.ofNat 32 n)) 0#32)
      (IntOp.cmpi .sle (Scalar.select 0#1 (IntOp.addi (BitVec.ofNat 32 n) 8400#32) (BitVec.ofNat 32 n)) 8399#32) = 1#1 := by
  rw [show Scalar.select 0#1 (IntOp.addi (BitVec.ofNat 32 n) 8400#32) (BitVec.ofNat 32 n) = BitVec.ofNat 32 n from rfl, w2, w3]
  rfl

theorem gath_box {α : Type} (x : S32x8400x4.Idx → α) (idx : IVec S32x1000x1 32) (b : Fin 32) (r : Fin 1000) (k : Fin 4) (n : Fin 8400)
    (h : (idx (ix3 b r 0)).toInt.toNat = n.val) :
    Host.gather gather_S32x8400x4_S32x1000x1_S32x1000x4_2_1_0_0_1_2_114 x idx (ix3 b r k) = x (ix3 b n k) := by
  unfold Host.gather
  refine congrArg x (funext fun a => Fin.ext ?_)
  match a with
  | ⟨0, _⟩ => exact (Nat.zero_add _)
  | ⟨1, _⟩ =>
    have e : (gather_S32x8400x4_S32x1000x1_S32x1000x4_2_1_0_0_1_2_114).siIdx (ix3 b r k) ⟨0, by decide⟩ = ix3 b r 0 := by
      funext a
      match a with
      | ⟨0, _⟩ => rfl
      | ⟨1, _⟩ => rfl
      | ⟨2, _⟩ => rfl
    show min (idx ((gather_S32x8400x4_S32x1000x1_S32x1000x4_2_1_0_0_1_2_114).siIdx (ix3 b r k) ⟨0, _⟩)).toInt.toNat 8399 = n.val
    rw [e, h]
    have := n.isLt
    omega
  | ⟨2, _⟩ => exact (Nat.zero_add _)

theorem gath_cls {α : Type} (x : S32x8400.Idx → α) (idx : IVec S32x1000x1 32) (b : Fin 32) (r : Fin 1000) (n : Fin 8400)
    (h : (idx (ix3 b r 0)).toInt.toNat = n.val) :
    Host.gather gather_S32x8400_S32x1000x1_S32x1000_n_1_0_0_1_2_11 x idx (ix2 b r) = x (ix2 b n) := by
  unfold Host.gather
  refine congrArg x (funext fun a => Fin.ext ?_)
  match a with
  | ⟨0, _⟩ => exact (Nat.zero_add _)
  | ⟨1, _⟩ =>
    have e : (gather_S32x8400_S32x1000x1_S32x1000_n_1_0_0_1_2_11).siIdx (ix2 b r) ⟨0, by decide⟩ = ix3 b r 0 := by
      funext a
      match a with
      | ⟨0, _⟩ => rfl
      | ⟨1, _⟩ => rfl
      | ⟨2, _⟩ => rfl
    show min (idx ((gather_S32x8400_S32x1000x1_S32x1000_n_1_0_0_1_2_11).siIdx (ix2 b r) ⟨0, _⟩)).toInt.toNat 8399 = n.val
    rw [e, h]
    have := n.isLt
    omega

theorem top_sc (b : Fin 32) (r : Fin 1000) (x : Fin 8400 → EReal) (hx : ∀ i, (V main_v36 : S32x8400.Idx → EReal) (ix2 b i) = x i) :
    (StableHlo.after hostOps0_4 V main_values : S32x1000.Idx → EReal) (ix2 b r) = x (srt x (r.castLE (by decide)))
    ∧ (StableHlo.after hostOps0_4 V main_indices : S32x1000.Idx → BitVec 32) (ix2 b r) = BitVec.ofNat 32 (srt x (r.castLE (by decide))).val := by
  obtain rfl : (fun i => (V main_v36 : S32x8400.Idx → EReal) (ix2 b i)) = x := funext hx
  have h := topK2 (V main_v36 : S32x8400.Idx → EReal) sliceFits_S32x8400_S32x1000 (by decide) b r
  refine ⟨Eq.trans ?_ h.1, Eq.trans ?_ h.2⟩
  · after_reads_at
  · after_reads_at

theorem v37_at (b : Fin 32) (r : Fin 1000) : (StableHlo.after hostOps0_4 V main_v37 : S32x1000x1.Idx → BitVec 32) (ix3 b r 0)
    = (StableHlo.after hostOps0_4 V main_indices : S32x1000.Idx → BitVec 32) (ix2 b r) := by
  after_reads_at

theorem v38_at (b : Fin 32) (r : Fin 1000) (k : Fin 4) (n : Fin 8400) (h : (V main_v37 : S32x1000x1.Idx → BitVec 32) (ix3 b r 0) = BitVec.ofNat 32 n.val) :
    (StableHlo.after hostOps0_5 V main_v38 : S32x1000x4.Idx → EReal) (ix3 b r k) = (V main_v26 : S32x8400x4.Idx → EReal) (ix3 b n k) := by
  obtain ⟨w1, w2, w3, w4⟩ := word_lt n.val n.isLt
  after_reads_at
  have hw : ∀ x : Fin 1, (V main_v37 : S32x1000x1.Idx → BitVec 32) (ix3 b r x) = BitVec.ofNat 32 n.val := fun x => by
    rw [Subsingleton.elim x 0]
    exact h
  simp only [hw]
  rw [fold_one, w1]
  refine (congrArg (fun c => Scalar.select c _ _) (w_in w2 w3)).trans ?_
  refine gath_box _ _ b r k n ?_
  refine (congrArg (fun w => (Scalar.select (IntOp.cmpi .slt w 0#32) (IntOp.addi w 8400#32) w).toInt.toNat) h).trans ?_
  rw [w1]
  exact w4
theorem v39_at (b : Fin 32) (r : Fin 1000) (n : Fin 8400) (h : (V main_indices : S32x1000.Idx → BitVec 32) (ix2 b r) = BitVec.ofNat 32 n.val) :
    (StableHlo.after hostOps0_6 V main_v39 : S32x1000.Idx → EReal) (ix2 b r) = (V main_v30 : S32x8400.Idx → EReal) (ix2 b n) := by
  obtain ⟨w1, w2, w3, w4⟩ := word_lt n.val n.isLt
  after_reads_at
  rw [fold_one, h, w1]
  refine (congrArg (fun c => Scalar.select c _ _) (w_in w2 w3)).trans ?_
  refine gath_cls _ _ b r n ?_
  refine (congrArg (fun w => (Scalar.select (IntOp.cmpi .slt w 0#32) (IntOp.addi w 8400#32) w).toInt.toNat) h).trans ?_
  rw [w1]
  exact w4

/-- The corners of box `i`. -/
def rCor (A : Fin 84 → Fin 8400 → EReal) (k : Fin 4) (i : Fin 8400) : EReal :=
  let two : EReal := Ideal.ofBits .f32 0x40000000#32
  match k with
  | 0 => A 0 i - Ideal.div (A 2 i) two
  | 1 => A 1 i - Ideal.div (A 3 i) two
  | 2 => A 0 i + Ideal.div (A 2 i) two
  | 3 => A 1 i + Ideal.div (A 3 i) two

theorem v26_at (b : Fin 32) (i : Fin 8400) (k : Fin 4) : (StableHlo.after hostOps0 V main_v26 : S32x8400x4.Idx → EReal) (ix3 b i k) = rCor (rIm V b) k i := by
  fin_cases k <;> (after_reads_at; rw [StableHlo.unary_result]; after_reads_at; rfl)

/-! ## What the rest of the program reads -/

/-- The buffers once the candidates are gathered. -/
def hd1 : Valuation τ sig (Elt Ideal) := StableHlo.after hostOps0_6 (StableHlo.after hostOps0_5 (StableHlo.after hostOps0_4 (hd0 V)))

theorem keep4_26 : StableHlo.after hostOps0_4 V main_v26 = V main_v26 := by after_reads_simp
theorem keep45_30 : StableHlo.after hostOps0_5 (StableHlo.after hostOps0_4 V) main_v30 = V main_v30 := by after_reads_simp
theorem keep5_ix : StableHlo.after hostOps0_5 V main_indices = V main_indices := by after_reads_simp
theorem keep56_val : StableHlo.after hostOps0_6 (StableHlo.after hostOps0_5 V) main_values = V main_values := by after_reads_simp
theorem keep6_38 : StableHlo.after hostOps0_6 V main_v38 = V main_v38 := by after_reads_simp

theorem hd1_top (b : Fin 32) (r : Fin 1000) : (hd1 V main_values : S32x1000.Idx → EReal) (ix2 b r) = imTop (rIm V b) r :=
  (congrFun (keep56_val (StableHlo.after hostOps0_4 (hd0 V))) (ix2 b r)).trans (top_sc (hd0 V) b r _ (sc_at V b)).1

theorem hd1_cor (b : Fin 32) (r : Fin 1000) (k : Fin 4) : (hd1 V main_v38 : S32x1000x4.Idx → EReal) (ix3 b r k) = rCor (rIm V b) k (imOrd (rIm V b) r) := by
  refine (congrFun (keep6_38 (StableHlo.after hostOps0_5 (StableHlo.after hostOps0_4 (hd0 V)))) (ix3 b r k)).trans ?_
  refine (v38_at (StableHlo.after hostOps0_4 (hd0 V)) b r k (imOrd (rIm V b) r) ((v37_at (hd0 V) b r).trans (top_sc (hd0 V) b r _ (sc_at V b)).2)).trans ?_
  refine (congrFun (keep4_26 (hd0 V)) (ix3 b _ k)).trans ?_
  exact (congrFun (hd_keep26 (StableHlo.after hostOps0 V)) (ix3 b _ k)).trans (v26_at V b _ k)

theorem hd1_cls (b : Fin 32) (r : Fin 1000) (h : c01 < imTop (rIm V b) r) : (hd1 V main_v39 : S32x1000.Idx → EReal) (ix2 b r) = (0 : EReal) := by
  refine (v39_at (StableHlo.after hostOps0_5 (StableHlo.after hostOps0_4 (hd0 V))) b r (imOrd (rIm V b) r)
    ((congrFun (keep5_ix (StableHlo.after hostOps0_4 (hd0 V))) (ix2 b r)).trans (top_sc (hd0 V) b r _ (sc_at V b)).2)).trans ?_
  exact (congrFun (keep45_30 (hd0 V)) (ix2 b _)).trans (cls_at V b _ h)

end Cert.Proof.Ref

end
-- ==== Proof.RefTail.lean ====
/-
  The reference program from the candidates on: the overlaps, the suppression loop, the result.
-/
module

public import proofs.«01_k».proof.Proof.RefHead
public import Idealize.ShloMosaic.Lib.DynamicIndex

@[expose] public section

set_option maxRecDepth 65536

noncomputable section

namespace Cert.Proof.Ref

open Cert.ReferenceIdeal Cert.ReferenceIdeal.Gen Cert.ReferenceIdeal.Value
open Idealize.ShloMosaic
open Idealize.ShloMosaic.TcCoe Idealize.ShloMosaic.Tactic
open scoped Classical

/-! ## Overlaps -/

theorem div_two (x : EReal) : Ideal.div x (Ideal.ofBits .f32 0x40000000#32) = x * cHalf := by
  have h2 : Ideal.ofBits .f32 0x40000000#32 = ((2 : ℝ) : EReal) := by
    simp [Ideal.ofBits, Ideal.ieee]
    rw [← EReal.coe_mul]
    norm_num
  have hh : cHalf = ((2⁻¹ : ℝ) : EReal) := by
    unfold cHalf
    simp [Ideal.ofBits, Ideal.ieee]
    rw [← EReal.coe_mul]
    norm_num
  unfold Ideal.div
  rw [h2, hh, if_neg (by norm_num), EReal.coe_inv]

/-- A number shifted by a class. -/
def sh (x y : EReal) : EReal := x + y * Ideal.ofBits .f32 1173356544#32
/-- A corner shifted by the class. -/
def shf (V : Valuation τ sig (Elt Ideal)) (b : Fin 32) (r : Fin 1000) (k : Fin 4) : EReal :=
  sh ((V main_v38 : S32x1000x4.Idx → EReal) (ix3 b r k)) ((V main_v39 : S32x1000.Idx → EReal) (ix2 b r))
theorem zero_const : (constant (F := Ideal) S_ FTy.f32 0#32 ix0 : EReal) = 0 := by
  show Ideal.ofBits .f32 0x00000000#32 = 0
  simp [Ideal.ofBits, Ideal.ieee]

variable (V : Valuation τ sig (Elt Ideal))

theorem v57_at (b : Fin 32) (r : Fin 1000) : (StableHlo.after hostOps0_8 (StableHlo.after hostOps0_7 V) main_v57 : S32x1000.Idx → EReal) (ix2 b r)
    = (shf V b r 2 - shf V b r 0) * (shf V b r 3 - shf V b r 1) := by
  after_reads_at
  rfl
theorem v73_0 (b : Fin 32) (r c : Fin 1000) : (StableHlo.after hostOps0_8 (StableHlo.after hostOps0_7 V) main_v73 : S32x1000x1000x2.Idx → EReal) (ix4 b r c 0)
    = max 0 (min (shf V b r 2) (shf V b c 2) - max (shf V b r 0) (shf V b c 0)) := by
  after_reads_at
  exact congrArg (fun z : EReal => max z (min (shf V b r 2) (shf V b c 2) - max (shf V b r 0) (shf V b c 0))) zero_const
theorem v73_1 (b : Fin 32) (r c : Fin 1000) : (StableHlo.after hostOps0_8 (StableHlo.after hostOps0_7 V) main_v73 : S32x1000x1000x2.Idx → EReal) (ix4 b r c 1)
    = max 0 (min (shf V b r 3) (shf V b c 3) - max (shf V b r 1) (shf V b c 1)) := by
  after_reads_at
  exact congrArg (fun z : EReal => max z (min (shf V b r 3) (shf V b c 3) - max (shf V b r 1) (shf V b c 1))) zero_const
/-- The overlap of two boxes from the two sides of their intersection and their two areas. -/
def ovl (w h a a' : EReal) : EReal := Ideal.div (w * h) (a + a' - w * h + cEps)
theorem iou_at (b : Fin 32) (r c : Fin 1000) (w h a a' : EReal) (hw : (V main_v73 : S32x1000x1000x2.Idx → EReal) (ix4 b r c 0) = w)
    (hh : (V main_v73 : S32x1000x1000x2.Idx → EReal) (ix4 b r c 1) = h) (ha : (V main_v57 : S32x1000.Idx → EReal) (ix2 b r) = a)
    (ha' : (V main_v57 : S32x1000.Idx → EReal) (ix2 b c) = a') : (StableHlo.after hostOps0_9 V main_v89_0 : S32x1000x1000.Idx → EReal) (ix3 b r c) = ovl w h a a' := by
  rw [← hw, ← hh, ← ha, ← ha']
  after_reads_at
  refine congrArg (fun z : EReal => Ideal.div _ (z - _ + cEps)) (congrArg₂ (fun x y : EReal => x + y) (congrArg (V main_v57) (funext fun a => ?_)) (congrArg (V main_v57) (funext fun a => ?_)))
  · match a with
    | ⟨0, _⟩ => rfl
    | ⟨1, _⟩ => rfl
  · match a with
    | ⟨0, _⟩ => rfl
    | ⟨1, _⟩ => rfl

/-- The buffers at the loop's entry. -/
def hd2 : Valuation τ sig (Elt Ideal) := StableHlo.after hostOps0_9 (StableHlo.after hostOps0_8 (StableHlo.after hostOps0_7 V))

theorem hd2_ar (j : Fin 1000) : (hd2 V main_v89_1 : S1000.Idx → BitVec 32) (ix1 j) = BitVec.ofNat 32 j.val := by
  unfold hd2
  after_reads_at
  rfl
theorem hd2_ctr : (hd2 V main_v89_3 : S_.Idx → BitVec 32) = fun _ => 0#32 := by
  unfold hd2
  after_reads_simp
  rfl
theorem hd2_keep (b : Fin 32) (j : Fin 1000) : (hd2 V main_v89_4 : S32x1000.Idx → BitVec 1) (ix2 b j)
    = Ideal.cmp .ogt ((V main_values : S32x1000.Idx → EReal) (ix2 b j)) c01 := by
  unfold hd2
  after_reads_at
  rfl
theorem hd2_38 : hd2 V main_v38 = V main_v38 := by
  unfold hd2
  after_reads_simp
theorem hd2_39 : hd2 V main_v39 = V main_v39 := by
  unfold hd2
  after_reads_simp
theorem hd2_val : hd2 V main_values = V main_values := by
  unfold hd2
  after_reads_simp

/-! ## The result -/

theorem v96_at (b : Fin 32) (r : Fin 1000) (k : Fin 6) : (StableHlo.after hostOps0_11 (StableHlo.after hostOps0_10 V) main_v96 : S32x1000x6.Idx → EReal) (ix3 b r k)
    = Scalar.select ((V main_v89_4 : S32x1000.Idx → BitVec 1) (ix2 b r))
        (if h : k.val < 4 then Ideal.div ((V main_v38 : S32x1000x4.Idx → EReal) (ix3 b r ⟨k.val, h⟩)) cScale
          else if k.val - 4 < 1 then (V main_values : S32x1000.Idx → EReal) (ix2 b r) else (V main_v39 : S32x1000.Idx → EReal) (ix2 b r)) 0 := by
  after_reads_at
  after_reads_at
  exact congrArg (Scalar.select _ _) zero_const

/-! ## One trip of the loop -/

/-- The index a trip reads at: the counter, as it is not negative. -/
theorem ctr_int (ctr : S_.Idx → BitVec 32) (t : Fin 1000) (h : ctr = fun _ => BitVec.ofNat 32 t.val) (i : S_.Idx) :
    (select (cmpi CmpIPredicate.slt ctr (constantI S_ 32 0#32)) (addi (id ctr) (constantI S_ 32 1000#32)) ctr i).toInt = (t.val : Int) := by
  have e : (ctr i).toInt = (t.val : Int) := by
    rw [h]
    exact toInt_ofNat_of_lt (by have := t.isLt; omega)
  rw [select_slt_zero_of_nonneg _ _ _ _ (by rw [e]; omega), e]

theorem row_at (iou : S32x1000x1000.Idx → EReal) (st : Fin 3 → Int) (t : Fin 1000) (h0 : st 0 = 0) (h1 : st 1 = (t.val : Int)) (h2 : st 2 = 0)
    (b : Fin 32) (j : Fin 1000) :
    shapeCast S32x1000 (Host.dynamicSlice S32x1x1000 iou st sliceFits_S32x1000x1000_S32x1x1000) shapeCasts_S32x1x1000_S32x1000 (ix2 b j) = iou (ix3 b t j) := by
  have hs : S32x1000x1000.Slices ![0, t.val, 0] S32x1x1000 := ⟨rfl, fun a => by
    have := t.isLt
    match a with
    | ⟨0, _⟩ => exact Nat.le_refl 32
    | ⟨1, _⟩ => exact (show t.val + 1 ≤ 1000 by omega)
    | ⟨2, _⟩ => exact Nat.le_refl 1000⟩
  rw [Host.dynamicSlice_eq_extractStridedSlice S32x1x1000 iou st ![0, t.val, 0] _ hs (fun a => by
    match a with
    | ⟨0, _⟩ => exact h0
    | ⟨1, _⟩ => exact h1
    | ⟨2, _⟩ => exact h2)]
  rw [shapeCast_apply _ _ (ix2 b j) (ix3 b 0 j : S32x1x1000.Idx) (by
    rw [Shape.rowMajor_val_three, Shape.rowMajor_val_two]
    show (b.val * 1 + 0) * 1000 + j.val = b.val * 1000 + j.val
    omega)]
  refine congrArg iou (funext fun a => Fin.ext ?_)
  match a with
  | ⟨0, _⟩ => exact Nat.zero_add _
  | ⟨1, _⟩ => rfl
  | ⟨2, _⟩ => exact Nat.zero_add _

theorem col_at (K : S32x1000.Idx → BitVec 1) (st : Fin 2 → Int) (t : Fin 1000) (h0 : st 0 = 0) (h1 : st 1 = (t.val : Int)) (b : Fin 32) :
    Host.dynamicSlice S32x1 K st sliceFits_S32x1000_S32x1 (ix2 b 0) = K (ix2 b t) := by
  have hs : S32x1000.Slices ![0, t.val] S32x1 := ⟨rfl, fun a => by
    have := t.isLt
    match a with
    | ⟨0, _⟩ => exact Nat.le_refl 32
    | ⟨1, _⟩ => exact (show t.val + 1 ≤ 1000 by omega)⟩
  rw [Host.dynamicSlice_eq_extractStridedSlice S32x1 K st ![0, t.val] _ hs (fun a => by
    match a with
    | ⟨0, _⟩ => exact h0
    | ⟨1, _⟩ => exact h1)]
  refine congrArg K (funext fun a => Fin.ext ?_)
  match a with
  | ⟨0, _⟩ => exact Nat.zero_add _
  | ⟨1, _⟩ => rfl

/-- The bit a trip writes. -/
theorem trip_bit (k kt a : BitVec 1) (x y : EReal) (p : Prop) (ha : a = 1#1 ↔ p) :
    k &&& ~~~(Ideal.cmp .ogt x y &&& kt &&& a) = 1#1 ↔ k = 1#1 ∧ ¬(y < x ∧ kt = 1#1 ∧ p) := by
  rw [← ha]
  have h : Ideal.cmp .ogt x y = 1#1 ↔ y < x := by
    by_cases h : y < x <;> simp [Ideal.cmp, h]
  rw [← h]
  generalize Ideal.cmp .ogt x y = o
  clear h ha
  revert k kt a o
  decide

theorem after_bit (j t : Fin 1000) : IntOp.cmpi .sgt (BitVec.ofNat 32 j.val) (BitVec.ofNat 32 t.val) = 1#1 ↔ t < j := by
  have e : ∀ i : Fin 1000, (BitVec.ofNat 32 i.val).toInt = (i.val : Int) := fun i => toInt_ofNat_of_lt (by have := i.isLt; omega)
  simp only [IntOp.cmpi, BitVec.slt_eq_decide, e]
  by_cases h : t < j
  · simp [h, Fin.lt_def.1 h]
  · simp [h]

/-- One trip: the candidates kept lose those that candidate `t`, if kept, suppresses. -/
theorem step_at (V : Valuation τ sig (Elt Ideal)) (K : S32x1000.Idx → BitVec 1) (iou : S32x1000x1000.Idx → EReal) (t : Fin 1000)
    (h4 : V main_v89_4 = K) (h1 : ∀ j : Fin 1000, (V main_v89_1 : S1000.Idx → BitVec 32) (ix1 j) = BitVec.ofNat 32 j.val) (h0 : V main_v89_0 = iou)
    (h3 : V main_v89_3 = fun _ => BitVec.ofNat 32 t.val) (b : Fin 32) (j : Fin 1000) :
    (step_main_v89_4 V : S32x1000.Idx → BitVec 1) (ix2 b j) = 1#1
      ↔ K (ix2 b j) = 1#1 ∧ ¬(cThr < iou (ix3 b t j) ∧ K (ix2 b t) = 1#1 ∧ t < j) := by
  unfold step_main_v89_4
  rw [h4, h0]
  refine Iff.trans ?_ (trip_bit (K (ix2 b j)) (K (ix2 b t)) _ (iou (ix3 b t j)) cThr _ (after_bit j t))
  refine iff_of_eq (congrArg (· = 1#1) (congrArg (K (ix2 b j) &&& ~~~·) ?_))
  refine congrArg₂ (· &&& ·) (congrArg₂ (· &&& ·) (congrArg (Ideal.cmp .ogt · cThr) ?_) ?_) ?_
  · exact row_at iou _ t rfl (ctr_int _ t h3 _) rfl b j
  · refine (congrArg (Host.dynamicSlice S32x1 K _ sliceFits_S32x1000_S32x1) (funext fun a => ?_)).trans (col_at K _ t rfl (ctr_int _ t h3 _) b)
    match a with
    | ⟨0, _⟩ => rfl
    | ⟨1, _⟩ => rfl
  · refine congrArg₂ (IntOp.cmpi .sgt) ((congrArg (V main_v89_1) (funext fun a => ?_)).trans (h1 j)) (congrFun h3 _)
    match a with
    | ⟨0, _⟩ => rfl

end Cert.Proof.Ref

end
-- ==== Proof.RefOut.lean ====
/-
  The reference program's result is the image function: overlaps of valid candidates, a thousand suppression trips, the
  scaled corners of those kept.
-/
module

public import proofs.«01_k».proof.Proof.RefTail

@[expose] public section

set_option maxRecDepth 65536

noncomputable section

namespace Cert.Proof.Ref

open Cert.ReferenceIdeal Cert.ReferenceIdeal.Gen Cert.ReferenceIdeal.Value
open Idealize.ShloMosaic
open Idealize.ShloMosaic.TcCoe Idealize.ShloMosaic.Tactic Idealize.ShloMosaic.StableHlo
open scoped Classical

/-! ## The suppression by trips -/

/-- Suppression by one candidate after another, each if it is still kept, solves the suppression equation. -/
theorem trips_keep {n : ℕ} {v : Fin n → Prop} {M : Fin n → Fin n → Prop} (k : ℕ → Fin n → Prop) (h0 : ∀ j, k 0 j ↔ v j)
    (hs : ∀ (t : Fin n) j, k (t.val + 1) j ↔ k t.val j ∧ ¬ (M t j ∧ k t.val t ∧ t < j)) : IsKeep v M (k n) := by
  have h : ∀ t, t ≤ n → ∀ j, k t j ↔ v j ∧ ¬ ∃ i : Fin n, i.val < t ∧ i < j ∧ k i.val i ∧ M i j := by
    intro t
    induction t with
    | zero =>
      intro _ j
      rw [h0]
      exact ⟨fun hv => ⟨hv, fun ⟨i, hi, _⟩ => absurd hi (Nat.not_lt_zero _)⟩, And.left⟩
    | succ t ih =>
      intro ht j
      refine (hs ⟨t, ht⟩ j).trans ?_
      rw [show k (⟨t, ht⟩ : Fin n).val j = k t j from rfl, ih (Nat.le_of_succ_le ht) j]
      constructor
      · rintro ⟨⟨hv, hn⟩, hm⟩
        refine ⟨hv, ?_⟩
        rintro ⟨i, hi, hij, hk, hM⟩
        rcases Nat.lt_or_eq_of_le (Nat.le_of_lt_succ hi) with hlt | heq
        · exact hn ⟨i, hlt, hij, hk, hM⟩
        · obtain rfl : i = ⟨t, ht⟩ := Fin.ext heq
          exact hm ⟨hM, hk, hij⟩
      · rintro ⟨hv, hn⟩
        refine ⟨⟨hv, ?_⟩, ?_⟩
        · rintro ⟨i, hi, hij, hk, hM⟩
          exact hn ⟨i, Nat.lt_succ_of_lt hi, hij, hk, hM⟩
        · rintro ⟨hM, hk, hij⟩
          exact hn ⟨⟨t, ht⟩, Nat.lt_succ_self t, hij, hk, hM⟩
  have hd : ∀ i : Fin n, k n i ↔ k i.val i := fun i => by
    rw [h n (Nat.le_refl n) i, h i.val (Nat.le_of_lt i.isLt) i]
    exact and_congr_right fun _ => not_congr (exists_congr fun i' => ⟨fun ⟨_, h2, h3⟩ => ⟨h2, h2, h3⟩, fun ⟨_, h2, h3⟩ => ⟨i'.isLt, h2, h3⟩⟩)
  intro j
  rw [h n (Nat.le_refl n) j]
  unfold stepK
  refine and_congr_right fun _ => not_congr (exists_congr fun i => ?_)
  rw [hd i]
  exact ⟨fun ⟨_, h2⟩ => h2, fun h2 => ⟨i.isLt, h2⟩⟩

/-! ## Overlaps of valid candidates -/

theorem cor_eq (A : Fin 84 → Fin 8400 → EReal) (r : Fin 1000) : rCor A 0 (imOrd A r) = bX1 (imBx A) r ∧ rCor A 1 (imOrd A r) = bY1 (imBx A) r
    ∧ rCor A 2 (imOrd A r) = bX2 (imBx A) r ∧ rCor A 3 (imOrd A r) = bY2 (imBx A) r := by
  have h : ∀ x y : EReal, x - Ideal.div y (Ideal.ofBits .f32 0x40000000#32) = x - y * cHalf ∧ x + Ideal.div y (Ideal.ofBits .f32 0x40000000#32) = x + y * cHalf :=
    fun x y => by rw [div_two]; exact ⟨rfl, rfl⟩
  exact ⟨(h (A 0 (imOrd A r)) (A 2 (imOrd A r))).1, (h (A 1 (imOrd A r)) (A 3 (imOrd A r))).1,
    (h (A 0 (imOrd A r)) (A 2 (imOrd A r))).2, (h (A 1 (imOrd A r)) (A 3 (imOrd A r))).2⟩

theorem valid_bit (x : EReal) : Ideal.cmp .ogt x c01 = 1#1 ↔ c01 < x := by
  by_cases h : c01 < x <;> simp [Ideal.cmp, h]

section Overlap
variable (V : Valuation τ sig (Elt Ideal)) (b : Fin 32)

theorem shf_eq (r : Fin 1000) (h : c01 < imTop (rIm V b) r) (k : Fin 4) : shf (hd1 V) b r k = rCor (rIm V b) k (imOrd (rIm V b) r) := by
  unfold shf
  rw [hd1_cor, hd1_cls V b r h]
  unfold sh
  rw [zero_mul, add_zero]

theorem iou_eq (r c : Fin 1000) (hr : c01 < imTop (rIm V b) r) (hc : c01 < imTop (rIm V b) c) :
    (hd2 (hd1 V) main_v89_0 : S32x1000x1000.Idx → EReal) (ix3 b r c) = bIou (imBx (rIm V b)) r c := by
  obtain ⟨r0, r1, r2, r3⟩ := cor_eq (rIm V b) r
  obtain ⟨c0, c1, c2, c3⟩ := cor_eq (rIm V b) c
  refine (iou_at (StableHlo.after hostOps0_8 (StableHlo.after hostOps0_7 (hd1 V))) b r c _ _ _ _ (v73_0 (hd1 V) b r c) (v73_1 (hd1 V) b r c)
    (v57_at (hd1 V) b r) (v57_at (hd1 V) b c)).trans ?_
  simp only [shf_eq V b r hr, shf_eq V b c hc, r0, r1, r2, r3, c0, c1, c2, c3]
  unfold ovl
  rw [max_comm 0, max_comm 0]
  rfl

end Overlap

/-! ## The loop -/

section Loop
variable (m : (ℓ : Loc nD τ sig) → Buf (Elt Ideal) ℓ) (c : Dev nD)

/-- A buffer the loop does not write is at the loop's end what it was at its entry. -/
theorem through_loop (r : Ref sig .tc) (hb : ∀ V : Valuation τ sig (Elt Ideal), StableHlo.after while0Ops0 V r = V r)
    (hc : ∀ V : Valuation τ sig (Elt Ideal), StableHlo.after condOps V r = V r) : ∀ k, atK m k c r = entryContents preI m c r
  | 0 => rfl
  | k + 1 => (hb _).trans ((hc _).trans (through_loop r hb hc k))

theorem carried (t : ℕ) (ht : t ≤ 1000) : (STEP^[t] (entryContents preI m c)) main_v89_0 = entryContents preI m c main_v89_0
    ∧ (STEP^[t] (entryContents preI m c)) main_v89_1 = entryContents preI m c main_v89_1
    ∧ (STEP^[t] (entryContents preI m c)) main_v89_3 = fun _ => BitVec.ofNat 32 t := by
  induction t with
  | zero => exact ⟨rfl, rfl, hd2_ctr (hd1 (launchContents m c))⟩
  | succ t ih =>
    obtain ⟨h0, h1, h3⟩ := ih (Nat.le_of_succ_le ht)
    rw [Function.iterate_succ_apply']
    refine ⟨(STEP_main_v89_0 _).trans h0, (STEP_main_v89_1 _).trans h1, (STEP_main_v89_3 _).trans ?_⟩
    unfold step_main_v89_3
    rw [h3]
    funext i
    show BitVec.ofNat 32 t + 1#32 = BitVec.ofNat 32 (t + 1)
    exact (BitVec.ofNat_add t 1).symm

/-- Candidate `j` of image `b` is still kept before trip `t`. -/
def kb (b : Fin 32) (t : ℕ) (j : Fin 1000) : Prop := ((STEP^[t] (entryContents preI m c)) main_v89_4 : S32x1000.Idx → BitVec 1) (ix2 b j) = 1#1

theorem kb_step (b : Fin 32) (t : Fin 1000) (j : Fin 1000) : kb m c b (t.val + 1) j ↔ kb m c b t.val j
    ∧ ¬ (cThr < (entryContents preI m c main_v89_0 : S32x1000x1000.Idx → EReal) (ix3 b t j) ∧ kb m c b t.val t ∧ t < j) := by
  obtain ⟨h0, h1, h3⟩ := carried m c t.val (Nat.le_of_lt t.isLt)
  unfold kb
  rw [Function.iterate_succ_apply', STEP_main_v89_4]
  exact step_at (STEP^[t.val] (entryContents preI m c)) _ _ t rfl (fun j => (congrFun h1 (ix1 j)).trans (hd2_ar (hd1 (launchContents m c)) j)) h0 h3 b j

theorem kb_zero (b : Fin 32) (j : Fin 1000) : kb m c b 0 j ↔ vS (imTop (rIm (launchContents m c) b)) j := by
  unfold kb vS
  rw [show (STEP^[0] (entryContents preI m c)) main_v89_4 = hd2 (hd1 (launchContents m c)) main_v89_4 from rfl,
    hd2_keep, hd1_top]
  exact valid_bit _

/-- The candidates kept when the loop ends. -/
theorem kept_eq (b : Fin 32) (j : Fin 1000) :
    (StableHlo.after condOps (atK m 1000 c) main_v89_4 : S32x1000.Idx → BitVec 1) (ix2 b j) = 1#1 ↔ imKept (rIm (launchContents m c) b) j := by
  have e : StableHlo.after condOps (atK m 1000 c) main_v89_4 = (STEP^[1000] (entryContents preI m c)) main_v89_4 :=
    (cond_keeps (atK m 1000 c) main_v89_4 (by decide)).trans (atK_agree m c 1000 main_v89_4 (by decide))
  rw [e]
  have hk := trips_keep (kb m c b) (kb_zero m c b) (M := fun i j => cThr < (entryContents preI m c main_v89_0 : S32x1000x1000.Idx → EReal) (ix3 b i j))
    (kb_step m c b)
  refine iff_of_eq (congrFun (keep_congr (M := bSup (imBx (rIm (launchContents m c) b))) (fun i j hi hj hij => ?_) hk) j)
  rw [show entryContents preI m c main_v89_0 = hd2 (hd1 (launchContents m c)) main_v89_0 from rfl, iou_eq _ b i j hi hj]
  exact (and_iff_left hij).symm

/-- A buffer that neither the condition nor the body writes, at the program's last stretches. -/
theorem at_end (r : Ref sig .tc) (hb : ∀ V : Valuation τ sig (Elt Ideal), StableHlo.after while0Ops0 V r = V r)
    (hc : ∀ V : Valuation τ sig (Elt Ideal), StableHlo.after condOps V r = V r) : StableHlo.after condOps (atK m 1000 c) r = entryContents preI m c r :=
  (hc _).trans (through_loop m c r hb hc 1000)

theorem end_38 : StableHlo.after condOps (atK m 1000 c) main_v38 = hd1 (launchContents m c) main_v38 :=
  (at_end m c main_v38 (fun V => by after_reads_simp) (fun V => by after_reads_simp)).trans (hd2_38 (hd1 (launchContents m c)))
theorem end_39 : StableHlo.after condOps (atK m 1000 c) main_v39 = hd1 (launchContents m c) main_v39 :=
  (at_end m c main_v39 (fun V => by after_reads_simp) (fun V => by after_reads_simp)).trans (hd2_39 (hd1 (launchContents m c)))
theorem end_val : StableHlo.after condOps (atK m 1000 c) main_values = hd1 (launchContents m c) main_values :=
  (at_end m c main_values (fun V => by after_reads_simp) (fun V => by after_reads_simp)).trans (hd2_val (hd1 (launchContents m c)))

/-! ## The result and the argument -/

theorem pick_at (A : Fin 84 → Fin 8400 → EReal) (r : Fin 1000) (k : Fin 6) (w : BitVec 1) (hw : w = 1#1 ↔ imKept A r) (cor : Fin 4 → EReal) (top cls : EReal)
    (hcor : ∀ k, cor k = rCor A k (imOrd A r)) (htop : top = imTop A r) (hcls : c01 < imTop A r → cls = 0) :
    (Scalar.select w (if h : k.val < 4 then Ideal.div (cor ⟨k.val, h⟩) cScale else if k.val - 4 < 1 then top else cls) (0 : EReal) : EReal) = imOut A r k := by
  obtain ⟨r0, r1, r2, r3⟩ := cor_eq A r
  unfold imOut outS
  by_cases h : imKept A r
  · rw [hw.2 h, show ind (imKept A r) = 1 from if_pos h, mul_one]
    have hv : c01 < imTop A r := keep_valid isKeep_gen h
    show (if h : k.val < 4 then Ideal.div (cor ⟨k.val, h⟩) cScale else if k.val - 4 < 1 then top else cls) = _
    match k with
    | ⟨0, _⟩ => exact congrArg (Ideal.div · cScale) ((hcor 0).trans r0)
    | ⟨1, _⟩ => exact congrArg (Ideal.div · cScale) ((hcor 1).trans r1)
    | ⟨2, _⟩ => exact congrArg (Ideal.div · cScale) ((hcor 2).trans r2)
    | ⟨3, _⟩ => exact congrArg (Ideal.div · cScale) ((hcor 3).trans r3)
    | ⟨4, _⟩ => exact htop
    | ⟨5, _⟩ => exact hcls hv
  · rw [show ind (imKept A r) = 0 from if_neg h, mul_zero]
    exact if_neg fun e => h (hw.1 e)

/-- The reference's result at an index. -/
theorem ref_out (b : Fin 32) (r : Fin 1000) (k : Fin 6) :
    (finalContents condOps preI bodyI postI 1000 m c main_v96 : S32x1000x6.Idx → EReal) (ix3 b r k) = imOut (rIm (launchContents m c) b) r k := by
  refine (v96_at (StableHlo.after condOps (atK m 1000 c)) b r k).trans ?_
  rw [end_38, end_39, end_val]
  exact pick_at (rIm (launchContents m c) b) r k _ (kept_eq m c b r) (fun k => (hd1 (launchContents m c) main_v38 : S32x1000x4.Idx → EReal) (ix3 b r k)) _ _
    (hd1_cor _ b r) (hd1_top _ b r) (hd1_cls _ b r)

theorem arg_last (V : Valuation τ sig (Elt Ideal)) : StableHlo.after hostOps0_11 (StableHlo.after hostOps0_10 V) main_arg0 = V main_arg0 := by after_reads_simp
theorem arg_hd2 (V : Valuation τ sig (Elt Ideal)) : hd2 V main_arg0 = V main_arg0 := by unfold hd2; after_reads_simp
theorem arg_hd1 (V : Valuation τ sig (Elt Ideal)) : hd1 V main_arg0 = hd0 V main_arg0 := by unfold hd1; generalize hd0 V = U; after_reads_simp
theorem arg_hd0 (V : Valuation τ sig (Elt Ideal)) : hd0 V main_arg0 = V main_arg0 := by unfold hd0; after_reads_simp

/-- The reference keeps its argument. -/
theorem ref_arg : finalContents condOps preI bodyI postI 1000 m c main_arg0 = launchContents m c main_arg0 :=
  (arg_last (StableHlo.after condOps (atK m 1000 c))).trans ((at_end m c main_arg0 (fun V => by after_reads_simp) (fun V => by after_reads_simp)).trans
    ((arg_hd2 (hd1 (launchContents m c))).trans ((arg_hd1 (launchContents m c)).trans (arg_hd0 (launchContents m c)))))

end Loop

end Cert.Proof.Ref

end
-- ==== Proof.lean ====
module

public import proofs.«01_k».proof.Defs
public import proofs.«01_k».proof.Proof.KerOut
public import proofs.«01_k».proof.Proof.KerArg
public import proofs.«01_k».proof.Proof.RefOut
public import Idealize.ShloMosaic.Lib.Quiescent

@[expose] public section

noncomputable section

namespace Cert.Proof

open Idealize.ShloMosaic Idealize.SL.Sem
open Idealize.ShloMosaic.TcCoe

/-- The kernel runs to its end, keeps its argument, leaves every semaphore at zero and its result as `W10` says. -/
theorem ker_run (m : (ℓ : Loc KernelIdeal.nD KernelIdeal.τ KernelIdeal.sig) → Buf (Elt Ideal) ℓ) (g : Dev KernelIdeal.nD → PrngReg) :
    θ_run (KernelIdeal.defs (F := Ideal)) (onTc (τ := KernelIdeal.τ) (KernelIdeal.main (F := Ideal))) ⟨m, fun _ => 0, g⟩ (fun r =>
      (∀ c : Dev KernelIdeal.nD, r.2.mem ((c.tc : Thread KernelIdeal.nD KernelIdeal.τ).loc KernelIdeal.main_v17) = W10 m c KernelIdeal.main_v17
        ∧ r.2.mem ((c.tc : Thread KernelIdeal.nD KernelIdeal.τ).loc KernelIdeal.main_arg0) = m ((c.tc : Thread KernelIdeal.nD KernelIdeal.τ).loc KernelIdeal.main_arg0))
      ∧ r.2.sem = fun _ => 0) :=
  θ_run_mono (run_all m (dense_all m) g)
    fun _ h => ⟨fun c => ⟨h.1 c KernelIdeal.main_v17 (by decide), (h.1 c KernelIdeal.main_arg0 (by decide)).trans (ker_arg m c)⟩, h.2⟩

/-- The reference runs to its end, keeps its argument and leaves its result as the loop's fold says. -/
theorem ref_run (m : (ℓ : Loc ReferenceIdeal.nD ReferenceIdeal.τ ReferenceIdeal.sig) → Buf (Elt Ideal) ℓ) (g : Dev ReferenceIdeal.nD → PrngReg) :
    θ_run (ReferenceIdeal.defs (F := Ideal)) (onTc (τ := ReferenceIdeal.τ) (ReferenceIdeal.main (F := Ideal))) ⟨m, fun _ => 0, g⟩ (fun r =>
      ∀ c : Dev ReferenceIdeal.nD, (∀ b r' k, (r.2.mem ((c.tc : Thread ReferenceIdeal.nD ReferenceIdeal.τ).loc ReferenceIdeal.main_v96) : ReferenceIdeal.S32x1000x6.Idx → EReal) (ix3 b r' k)
          = imOut (fun i j => (m ((c.tc : Thread ReferenceIdeal.nD ReferenceIdeal.τ).loc ReferenceIdeal.main_arg0) : ReferenceIdeal.S32x84x8400.Idx → EReal) (ix3 b i j)) r' k)
        ∧ r.2.mem ((c.tc : Thread ReferenceIdeal.nD ReferenceIdeal.τ).loc ReferenceIdeal.main_arg0)
          = m ((c.tc : Thread ReferenceIdeal.nD ReferenceIdeal.τ).loc ReferenceIdeal.main_arg0)) :=
  θ_run_mono (ReferenceIdeal.Value.run_fold m g) fun _ h c => ⟨fun b r' k => (congrFun (h c ReferenceIdeal.main_v96 (by decide)) (ix3 b r' k)).trans (Ref.ref_out m c b r' k),
    (h c ReferenceIdeal.main_arg0 (by decide)).trans (Ref.ref_arg m c)⟩

/-- Two arrays of results that agree at every image, candidate and column are equal. -/
theorem out_ext (x y : KernelIdeal.S32x1000x6.Idx → EReal) (h : ∀ b r k, x (ix3 b r k) = y (ix3 b r k)) : x = y := by
  funext i
  have e : i = ix3 (i 0) (i 1) (i 2) := by
    funext a
    match a with
    | ⟨0, _⟩ => rfl
    | ⟨1, _⟩ => rfl
    | ⟨2, _⟩ => rfl
  rw [e]
  exact h _ _ _

theorem claim : Cert.Claim := by
  refine ⟨Cert.KernelIdeal.Gen.facts, Cert.ReferenceIdeal.Gen.facts, ?_, ?_, ?_⟩
  · exact fun m g _ => θ_run_mono (ker_run m g) fun _ h => ⟨fun c => (h.1 c).2, h.2⟩
  · exact fun m g _ => θ_run_mono (ref_run m g) fun r h => ⟨fun c => (h c).2, sem_eq_zero_of_no_sems (by decide) r.2⟩
  · intro m g m' g' _ hm
    refine ⟨fun c => W10 m c KernelIdeal.main_v17, θ_run_mono (ker_run m g) fun _ h => h.1, θ_run_mono (ref_run m' g') fun r h c => ⟨?_, (h c).2⟩⟩
    refine out_ext _ _ fun b r' k => ((h c).1 b r' k).trans (Eq.trans ?_ (ker_out m c b r' k).symm)
    rw [hm c]
    rfl

end Cert.Proof

end
